-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qk [hPre_finite_qk : Cert.Pre_finite_qk.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qk.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qk [hPre_finite_qk : Cert.Pre_finite_qk.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qk.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 [hPre_expert_in_range : Cert.Pre_expert_in_range.Facts] (m : (ℓ : Loc Cert.Kernel3.nD Cert.Kernel3.τ Cert.Kernel3.sig) → Buf (Elt Bits) ℓ) : Prop :=
  ∀ c : Dev Cert.Kernel3.nD,
    (Cert.Pre_expert_in_range.fn (F := Bits) (m ((c.tc : Thread Cert.Kernel3.nD Cert.Kernel3.τ).loc Cert.Kernel3.main_arg0)) (m ((c.tc : Thread Cert.Kernel3.nD Cert.Kernel3.τ).loc Cert.Kernel3.main_arg1)) (m ((c.tc : Thread Cert.Kernel3.nD Cert.Kernel3.τ).loc Cert.Kernel3.main_arg2)) (m ((c.tc : Thread Cert.Kernel3.nD Cert.Kernel3.τ).loc Cert.Kernel3.main_arg3)) (m ((c.tc : Thread Cert.Kernel3.nD Cert.Kernel3.τ).loc Cert.Kernel3.main_arg4))) = (fun _ => 1#1)

def Pre_Kernel3Ideal [hPre_expert_in_range : Cert.Pre_expert_in_range.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_expert_in_range.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_expert_in_range [hPre_expert_in_range : Cert.Pre_expert_in_range.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_expert_in_range.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_first_in_range : Cert.Pre_first_in_range.Facts] (m : (ℓ : Loc Cert.Kernel5.nD Cert.Kernel5.τ Cert.Kernel5.sig) → Buf (Elt Bits) ℓ) : Prop :=
  ∀ c : Dev Cert.Kernel5.nD,
    (Cert.Pre_first_in_range.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3))) = (fun _ => 1#1)

def Pre_Kernel5Ideal [hPre_first_in_range : Cert.Pre_first_in_range.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_first_in_range.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_first_in_range [hPre_first_in_range : Cert.Pre_first_in_range.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_first_in_range.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk [hPre_finite_qk : Cert.Pre_finite_qk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_qk [hPre_finite_qk : Cert.Pre_finite_qk.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite_qk [hPre_finite_qk : Cert.Pre_finite_qk.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite_qk.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite_qk [hPre_finite_qk : Cert.Pre_finite_qk.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite_qk.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2))) = (fun _ => 1#1)

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_qk [hKernelIdeal : Cert.KernelIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qk m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_qk [hReferenceIdeal : Cert.ReferenceIdeal.Facts] [hPre_finite_qk : Cert.Pre_finite_qk.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qk m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] [hPre_expert_in_range : Cert.Pre_expert_in_range.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] [hPre_expert_in_range : Cert.Pre_expert_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Reference3Ideal_pre_expert_in_range [hReference3Ideal : Cert.Reference3Ideal.Facts] [hPre_expert_in_range : Cert.Pre_expert_in_range.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_expert_in_range m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] [hPre_first_in_range : Cert.Pre_first_in_range.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] [hPre_first_in_range : Cert.Pre_first_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_first_in_range [hReference5Ideal : Cert.Reference5Ideal.Facts] [hPre_first_in_range : Cert.Pre_first_in_range.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_first_in_range m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Kernel6Ideal_pre_finite_qk [hKernel6Ideal : Cert.Kernel6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Reference6Ideal_pre_finite_qk [hReference6Ideal : Cert.Reference6Ideal.Facts] [hPre_finite_qk : Cert.Pre_finite_qk.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_qk m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Kernel7Ideal_pre_finite_qk [hKernel7Ideal : Cert.Kernel7Ideal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite_qk m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Reference7Ideal_pre_finite_qk [hReference7Ideal : Cert.Reference7Ideal.Facts] [hPre_finite_qk : Cert.Pre_finite_qk.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite_qk m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def preserves_Kernel_KernelIdeal : Prop :=
  IdealRules.named_const.Statement Cert.KernelIdeal.κ "ln2" .f32 0x3F317218#32 ((Real.log 2 : ℝ) : EReal)

def algebraic_KernelIdeal_ReferenceIdeal_pre_finite_qk [hKernelIdeal : Cert.KernelIdeal.Facts] [hReferenceIdeal : Cert.ReferenceIdeal.Facts] [hPre_finite_qk : Cert.Pre_finite_qk.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qk m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v45_0)) (v1 : (c : Dev Cert.KernelIdeal.nD) → Buf (Elt Ideal) ((c.tc : Thread Cert.KernelIdeal.nD Cert.KernelIdeal.τ).loc Cert.KernelIdeal.main_v45_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45_0) = v0 c
          ∧ r.2.mem ((c.tc : Thread Cert.KernelIdeal.nD Cert.KernelIdeal.τ).loc Cert.KernelIdeal.main_v45_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v19) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] [hPre_expert_in_range : Cert.Pre_expert_in_range.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v24) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v10) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal [hKernel5Ideal : Cert.Kernel5Ideal.Facts] [hReference5Ideal : Cert.Reference5Ideal.Facts] [hPre_first_in_range : Cert.Pre_first_in_range.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v22) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "ln2" .f32 0x3F317218#32 ((Real.log 2 : ℝ) : EReal)

def algebraic_Kernel6Ideal_Reference6Ideal_pre_finite_qk [hKernel6Ideal : Cert.Kernel6Ideal.Facts] [hReference6Ideal : Cert.Reference6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_qk m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v45_0)) (v1 : (c : Dev Cert.Kernel6Ideal.nD) → Buf (Elt Ideal) ((c.tc : Thread Cert.Kernel6Ideal.nD Cert.Kernel6Ideal.τ).loc Cert.Kernel6Ideal.main_v45_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v45_0) = v0 c
          ∧ r.2.mem ((c.tc : Thread Cert.Kernel6Ideal.nD Cert.Kernel6Ideal.τ).loc Cert.Kernel6Ideal.main_v45_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_v93) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  IdealRules.named_const.Statement Cert.Kernel7Ideal.κ "ln2" .f32 0x3F317218#32 ((Real.log 2 : ℝ) : EReal)

def algebraic_Kernel7Ideal_Reference7Ideal_pre_finite_qk [hKernel7Ideal : Cert.Kernel7Ideal.Facts] [hReference7Ideal : Cert.Reference7Ideal.Facts] [hPre_finite_qk : Cert.Pre_finite_qk.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite_qk m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v45_0)) (v1 : (c : Dev Cert.Kernel7Ideal.nD) → Buf (Elt Ideal) ((c.tc : Thread Cert.Kernel7Ideal.nD Cert.Kernel7Ideal.τ).loc Cert.Kernel7Ideal.main_v45_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v45_0) = v0 c
          ∧ r.2.mem ((c.tc : Thread Cert.Kernel7Ideal.nD Cert.Kernel7Ideal.τ).loc Cert.Kernel7Ideal.main_v45_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v94) = v0 c
          ∧ r.2.mem ((c.tc : Thread Cert.Reference7Ideal.nD Cert.Reference7Ideal.τ).loc Cert.Reference7Ideal.main_v95) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v1) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v13) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite_qk : Cert.Pre_finite_qk.Facts) (hPre_expert_in_range : Cert.Pre_expert_in_range.Facts) (hPre_first_in_range : Cert.Pre_first_in_range.Facts),
    quiescent_Kernel (hKernel := hKernel)
    ∧ quiescent_KernelIdeal (hKernelIdeal := hKernelIdeal)
    ∧ quiescent_KernelIdeal_pre_finite_qk (hKernelIdeal := hKernelIdeal) (hPre_finite_qk := hPre_finite_qk)
    ∧ quiescent_ReferenceIdeal (hReferenceIdeal := hReferenceIdeal)
    ∧ quiescent_ReferenceIdeal_pre_finite_qk (hReferenceIdeal := hReferenceIdeal) (hPre_finite_qk := hPre_finite_qk)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3) (hPre_expert_in_range := hPre_expert_in_range)
    ∧ quiescent_Kernel3Ideal (hKernel3Ideal := hKernel3Ideal) (hPre_expert_in_range := hPre_expert_in_range)
    ∧ quiescent_Reference3Ideal (hReference3Ideal := hReference3Ideal)
    ∧ quiescent_Reference3Ideal_pre_expert_in_range (hReference3Ideal := hReference3Ideal) (hPre_expert_in_range := hPre_expert_in_range)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_first_in_range := hPre_first_in_range)
    ∧ quiescent_Kernel5Ideal (hKernel5Ideal := hKernel5Ideal) (hPre_first_in_range := hPre_first_in_range)
    ∧ quiescent_Reference5Ideal (hReference5Ideal := hReference5Ideal)
    ∧ quiescent_Reference5Ideal_pre_first_in_range (hReference5Ideal := hReference5Ideal) (hPre_first_in_range := hPre_first_in_range)
    ∧ quiescent_Kernel6 (hKernel6 := hKernel6)
    ∧ quiescent_Kernel6Ideal (hKernel6Ideal := hKernel6Ideal)
    ∧ quiescent_Kernel6Ideal_pre_finite_qk (hKernel6Ideal := hKernel6Ideal) (hPre_finite_qk := hPre_finite_qk)
    ∧ quiescent_Reference6Ideal (hReference6Ideal := hReference6Ideal)
    ∧ quiescent_Reference6Ideal_pre_finite_qk (hReference6Ideal := hReference6Ideal) (hPre_finite_qk := hPre_finite_qk)
    ∧ quiescent_Kernel7 (hKernel7 := hKernel7)
    ∧ quiescent_Kernel7Ideal (hKernel7Ideal := hKernel7Ideal)
    ∧ quiescent_Kernel7Ideal_pre_finite_qk (hKernel7Ideal := hKernel7Ideal) (hPre_finite_qk := hPre_finite_qk)
    ∧ quiescent_Reference7Ideal (hReference7Ideal := hReference7Ideal)
    ∧ quiescent_Reference7Ideal_pre_finite_qk (hReference7Ideal := hReference7Ideal) (hPre_finite_qk := hPre_finite_qk)
    ∧ quiescent_Kernel8 (hKernel8 := hKernel8)
    ∧ quiescent_Kernel8Ideal (hKernel8Ideal := hKernel8Ideal)
    ∧ quiescent_Reference8Ideal (hReference8Ideal := hReference8Ideal)
    ∧ preserves_Kernel_KernelIdeal
    ∧ algebraic_KernelIdeal_ReferenceIdeal_pre_finite_qk (hKernelIdeal := hKernelIdeal) (hReferenceIdeal := hReferenceIdeal) (hPre_finite_qk := hPre_finite_qk)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal) (hPre_expert_in_range := hPre_expert_in_range)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_first_in_range := hPre_first_in_range)
    ∧ preserves_Kernel6_Kernel6Ideal
    ∧ algebraic_Kernel6Ideal_Reference6Ideal_pre_finite_qk (hKernel6Ideal := hKernel6Ideal) (hReference6Ideal := hReference6Ideal) (hPre_finite_qk := hPre_finite_qk)
    ∧ preserves_Kernel7_Kernel7Ideal
    ∧ algebraic_Kernel7Ideal_Reference7Ideal_pre_finite_qk (hKernel7Ideal := hKernel7Ideal) (hReference7Ideal := hReference7Ideal) (hPre_finite_qk := hPre_finite_qk)
    ∧ preserves_Kernel8_Kernel8Ideal
    ∧ algebraic_Kernel8Ideal_Reference8Ideal (hKernel8Ideal := hKernel8Ideal) (hReference8Ideal := hReference8Ideal)
-- ==== Pre_expert_in_range.lean ====
abbrev S129024x1024 : Shape := ⟨2, ![129024, 1024]⟩
abbrev S126 : Shape := ⟨1, ![126]⟩
abbrev S8x1024x7168 : Shape := ⟨3, ![8, 1024, 7168]⟩
abbrev S8x3584x1024 : Shape := ⟨3, ![8, 3584, 1024]⟩
abbrev S172032x1024 : Shape := ⟨2, ![172032, 1024]⟩
abbrev S_ : Shape := ⟨0, ![]⟩

class Facts : Prop where
  bcast_S_S126 : S_.BroadcastsInDim S126 (![] : Fin 0 → Fin S126.rank)
  reducesTo_S126_S_d0 : S126.ReducesTo [0] S_
  h_S_ : 0 < S_.numel

variable [Facts]

def fn {F : FTy → Type} [FloatOps F] (main_arg0 : FVec F S129024x1024 .f32) (main_arg1 : IVec S126 32) (main_arg2 : FVec F S8x1024x7168 .f32) (main_arg3 : FVec F S8x3584x1024 .f32) (main_arg4 : FVec F S172032x1024 .bf16) : IVec S_ 1 :=
  let main_c : IVec S_ 32 := constantI S_ 32 0#32
  let main_v0 : IVec S126 32 := broadcastInDim S126 ![] bcast_S_S126 main_c
  let main_v1 : IVec S126 1 := cmpi .sge main_arg1 main_v0
  let main_c_0 : IVec S_ 32 := constantI S_ 32 8#32
  let main_v2 : IVec S126 32 := broadcastInDim S126 ![] bcast_S_S126 main_c_0
  let main_v3 : IVec S126 1 := cmpi .slt main_arg1 main_v2
  let main_v4 : IVec S126 1 := andi main_v1 main_v3
  let main_c_1 : IVec S_ 1 := constantI S_ 1 1#1
  let main_v5 : IVec S_ 1 := (fun x v => Host.reduce IntOp.andi x v reducesTo_S126_S_d0 h_S_) main_v4 main_c_1
  main_v5
-- ==== Pre_finite_qk.lean ====
abbrev S2x8192x16x64 : Shape := ⟨4, ![2, 8192, 16, 64]⟩
abbrev S_ : Shape := ⟨0, ![]⟩

class Facts : Prop where
  bcast_S_S2x8192x16x64 : S_.BroadcastsInDim S2x8192x16x64 (![] : Fin 0 → Fin S2x8192x16x64.rank)
  reducesTo_S2x8192x16x64_S_d0_1_2_3 : S2x8192x16x64.ReducesTo [0, 1, 2, 3] S_
  h_S_ : 0 < S_.numel

variable [Facts]

def fn {F : FTy → Type} [FloatOps F] (main_arg0 : FVec F S2x8192x16x64 .f32) (main_arg1 : FVec F S2x8192x16x64 .f32) (main_arg2 : FVec F S2x8192x16x64 .f32) : IVec S_ 1 :=
  let main_v0 : FVec F S2x8192x16x64 .f32 := Host.absf main_arg0
  let main_cst : FVec F S_ .f32 := constant S_ .f32 0x7F800000#32
  let main_v1 : FVec F S2x8192x16x64 .f32 := broadcastInDim S2x8192x16x64 ![] bcast_S_S2x8192x16x64 main_cst
  let main_v2 : IVec S2x8192x16x64 1 := cmpf .olt main_v0 main_v1
  let main_c : IVec S_ 1 := constantI S_ 1 1#1
  let main_v3 : IVec S_ 1 := (fun x v => Host.reduce IntOp.andi x v reducesTo_S2x8192x16x64_S_d0_1_2_3 h_S_) main_v2 main_c
  let main_v4 : FVec F S2x8192x16x64 .f32 := Host.absf main_arg1
  let main_cst_0 : FVec F S_ .f32 := constant S_ .f32 0x7F800000#32
  let main_v5 : FVec F S2x8192x16x64 .f32 := broadcastInDim S2x8192x16x64 ![] bcast_S_S2x8192x16x64 main_cst_0
  let main_v6 : IVec S2x8192x16x64 1 := cmpf .olt main_v4 main_v5
  let main_c_1 : IVec S_ 1 := constantI S_ 1 1#1
  let main_v7 : IVec S_ 1 := (fun x v => Host.reduce IntOp.andi x v reducesTo_S2x8192x16x64_S_d0_1_2_3 h_S_) main_v6 main_c_1
  let main_v8 : IVec S_ 1 := andi main_v3 main_v7
  main_v8
-- ==== Pre_first_in_range.lean ====
abbrev S43008x1024 : Shape := ⟨2, ![43008, 1024]⟩
abbrev S42 : Shape := ⟨1, ![42]⟩
abbrev S8x1024x7168 : Shape := ⟨3, ![8, 1024, 7168]⟩
abbrev S8x3584x1024 : Shape := ⟨3, ![8, 3584, 1024]⟩
abbrev S_ : Shape := ⟨0, ![]⟩

class Facts : Prop where
  bcast_S_S42 : S_.BroadcastsInDim S42 (![] : Fin 0 → Fin S42.rank)
  reducesTo_S42_S_d0 : S42.ReducesTo [0] S_
  h_S_ : 0 < S_.numel

variable [Facts]

def fn {F : FTy → Type} [FloatOps F] (main_arg0 : FVec F S43008x1024 .f32) (main_arg1 : IVec S42 32) (main_arg2 : FVec F S8x1024x7168 .f32) (main_arg3 : FVec F S8x3584x1024 .f32) : IVec S_ 1 :=
  let main_c : IVec S_ 32 := constantI S_ 32 0#32
  let main_v0 : IVec S42 32 := broadcastInDim S42 ![] bcast_S_S42 main_c
  let main_v1 : IVec S42 1 := cmpi .sge main_arg1 main_v0
  let main_c_0 : IVec S_ 32 := constantI S_ 32 8#32
  let main_v2 : IVec S42 32 := broadcastInDim S42 ![] bcast_S_S42 main_c_0
  let main_v3 : IVec S42 1 := cmpi .slt main_arg1 main_v2
  let main_v4 : IVec S42 1 := andi main_v1 main_v3
  let main_c_1 : IVec S_ 1 := constantI S_ 1 1#1
  let main_v5 : IVec S_ 1 := (fun x v => Host.reduce IntOp.andi x v reducesTo_S42_S_d0 h_S_) main_v4 main_c_1
  main_v5
-- ==== Kernel.lean ====
abbrev S2x8192x16x64 : Shape := ⟨4, ![2, 8192, 16, 64]⟩
abbrev S_ : Shape := ⟨0, ![]⟩
abbrev S2x8192x4x4x2x32 : Shape := ⟨6, ![2, 8192, 4, 4, 2, 32]⟩
abbrev S2x8192x4x2x4x32 : Shape := ⟨6, ![2, 8192, 4, 2, 4, 32]⟩
abbrev S2x2048x4x1024 : Shape := ⟨4, ![2, 2048, 4, 1024]⟩
abbrev S2x4x2048x1024 : Shape := ⟨4, ![2, 4, 2048, 1024]⟩
abbrev S2x4x2048x3072 : Shape := ⟨4, ![2, 4, 2048, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S2x4x2048x128 : Shape := ⟨4, ![2, 4, 2048, 128]⟩
abbrev S1x1x256x1024 : Shape := ⟨4, ![1, 1, 256, 1024]⟩
abbrev S1x1x64x1024 : Shape := ⟨4, ![1, 1, 64, 1024]⟩
abbrev S1x1x256x128 : Shape := ⟨4, ![1, 1, 256, 128]⟩
abbrev S1x128 : Shape := ⟨2, ![1, 128]⟩
abbrev S128x128 : Shape := ⟨2, ![128, 128]⟩
abbrev S1x1x128x256 : Shape := ⟨4, ![1, 1, 128, 256]⟩
abbrev S1x1x64x256 : Shape := ⟨4, ![1, 1, 64, 256]⟩
abbrev S64x256 : Shape := ⟨2, ![64, 256]⟩
abbrev S1x1x192x256 : Shape := ⟨4, ![1, 1, 192, 256]⟩
abbrev S192x256 : Shape := ⟨2, ![192, 256]⟩
abbrev S256x256 : Shape := ⟨2, ![256, 256]⟩
abbrev S512x256 : Shape := ⟨2, ![512, 256]⟩
abbrev S128x1024 : Shape := ⟨2, ![128, 1024]⟩
abbrev S1024x256 : Shape := ⟨2, ![1024, 256]⟩
abbrev S1x1x128x128 : Shape := ⟨4, ![1, 1, 128, 128]⟩

abbrev nBuf : Space → Nat
  | .hbm => 60
  | .vmem => 22
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x16x64, .f32⟩
  | .hbm, ⟨9, _⟩ => ⟨S2x8192x16x64, .f32⟩
  | .hbm, ⟨10, _⟩ => ⟨S2x8192x4x4x2x32, .f32⟩
  | .hbm, ⟨11, _⟩ => ⟨S2x8192x4x2x4x32, .f32⟩
  | .hbm, ⟨12, _⟩ => ⟨S2x8192x16x64, .f32⟩
  | .hbm, ⟨13, _⟩ => ⟨S2x2048x4x1024, .f32⟩
  | .hbm, ⟨14, _⟩ => ⟨S2x4x2048x1024, .f32⟩
  | .hbm, ⟨15, _⟩ => ⟨S2x8192x4x4x2x32, .f32⟩
  | .hbm, ⟨16, _⟩ => ⟨S2x8192x4x2x4x32, .f32⟩
  | .hbm, ⟨17, _⟩ => ⟨S2x8192x16x64, .f32⟩
  | .hbm, ⟨18, _⟩ => ⟨S2x2048x4x1024, .f32⟩
  | .hbm, ⟨19, _⟩ => ⟨S2x4x2048x1024, .f32⟩
  | .hbm, ⟨20, _⟩ => ⟨S2x2048x4x1024, .f32⟩
  | .hbm, ⟨21, _⟩ => ⟨S2x4x2048x1024, .f32⟩
  | .hbm, ⟨22, _⟩ => ⟨S2x4x2048x3072, .f32⟩
  | .hbm, ⟨23, _⟩ => ⟨S2x4x2048x3072, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S1x128x256, .i1⟩
  | .hbm, ⟨50, _⟩ => ⟨S1x128x256, .i1⟩
  | .hbm, ⟨51, _⟩ => ⟨S3x128x256, .i1⟩
  | .hbm, ⟨52, _⟩ => ⟨S_, .f32⟩
  | .hbm, ⟨53, _⟩ => ⟨S_, .f32⟩
  | .hbm, ⟨54, _⟩ => ⟨S3x128x256, .f32⟩
  | .hbm, ⟨55, _⟩ => ⟨S3x128x256, .f32⟩
  | .hbm, ⟨56, _⟩ => ⟨S3x128x256, .f32⟩
  | .hbm, ⟨57, _⟩ => ⟨S3x128x256, .f32⟩
  | .hbm, ⟨58, _⟩ => ⟨S2x4x2048x1024, .bf16⟩
  | .hbm, ⟨59, _⟩ => ⟨S2x4x2048x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x128, .f32⟩
  | .local _ .vmem, ⟨21, _⟩ => ⟨S1x1x256x128, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg2 c7_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== KernelIdeal.lean ====
abbrev S2x8192x16x64 : Shape := ⟨4, ![2, 8192, 16, 64]⟩
abbrev S_ : Shape := ⟨0, ![]⟩
abbrev S2x8192x4x4x2x32 : Shape := ⟨6, ![2, 8192, 4, 4, 2, 32]⟩
abbrev S2x8192x4x2x4x32 : Shape := ⟨6, ![2, 8192, 4, 2, 4, 32]⟩
abbrev S2x2048x4x1024 : Shape := ⟨4, ![2, 2048, 4, 1024]⟩
abbrev S2x4x2048x1024 : Shape := ⟨4, ![2, 4, 2048, 1024]⟩
abbrev S2x4x2048x3072 : Shape := ⟨4, ![2, 4, 2048, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S2x4x2048x128 : Shape := ⟨4, ![2, 4, 2048, 128]⟩
abbrev S1x1x256x1024 : Shape := ⟨4, ![1, 1, 256, 1024]⟩
abbrev S1x1x64x1024 : Shape := ⟨4, ![1, 1, 64, 1024]⟩
abbrev S1x1x256x128 : Shape := ⟨4, ![1, 1, 256, 128]⟩
abbrev S1x128 : Shape := ⟨2, ![1, 128]⟩
abbrev S128x128 : Shape := ⟨2, ![128, 128]⟩
abbrev S1x1x128x256 : Shape := ⟨4, ![1, 1, 128, 256]⟩
abbrev S1x1x64x256 : Shape := ⟨4, ![1, 1, 64, 256]⟩
abbrev S64x256 : Shape := ⟨2, ![64, 256]⟩
abbrev S1x1x192x256 : Shape := ⟨4, ![1, 1, 192, 256]⟩
abbrev S192x256 : Shape := ⟨2, ![192, 256]⟩
abbrev S256x256 : Shape := ⟨2, ![256, 256]⟩
abbrev S512x256 : Shape := ⟨2, ![512, 256]⟩
abbrev S128x1024 : Shape := ⟨2, ![128, 1024]⟩
abbrev S1024x256 : Shape := ⟨2, ![1024, 256]⟩
abbrev S1x1x128x128 : Shape := ⟨4, ![1, 1, 128, 128]⟩

abbrev nBuf : Space → Nat
  | .hbm => 60
  | .vmem => 22
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x16x64, .f32⟩
  | .hbm, ⟨9, _⟩ => ⟨S2x8192x16x64, .f32⟩
  | .hbm, ⟨10, _⟩ => ⟨S2x8192x4x4x2x32, .f32⟩
  | .hbm, ⟨11, _⟩ => ⟨S2x8192x4x2x4x32, .f32⟩
  | .hbm, ⟨12, _⟩ => ⟨S2x8192x16x64, .f32⟩
  | .hbm, ⟨13, _⟩ => ⟨S2x2048x4x1024, .f32⟩
  | .hbm, ⟨14, _⟩ => ⟨S2x4x2048x1024, .f32⟩
  | .hbm, ⟨15, _⟩ => ⟨S2x8192x4x4x2x32, .f32⟩
  | .hbm, ⟨16, _⟩ => ⟨S2x8192x4x2x4x32, .f32⟩
  | .hbm, ⟨17, _⟩ => ⟨S2x8192x16x64, .f32⟩
  | .hbm, ⟨18, _⟩ => ⟨S2x2048x4x1024, .f32⟩
  | .hbm, ⟨19, _⟩ => ⟨S2x4x2048x1024, .f32⟩
  | .hbm, ⟨20, _⟩ => ⟨S2x2048x4x1024, .f32⟩
  | .hbm, ⟨21, _⟩ => ⟨S2x4x2048x1024, .f32⟩
  | .hbm, ⟨22, _⟩ => ⟨S2x4x2048x3072, .f32⟩
  | .hbm, ⟨23, _⟩ => ⟨S2x4x2048x3072, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S1x128x256, .i1⟩
  | .hbm, ⟨50, _⟩ => ⟨S1x128x256, .i1⟩
  | .hbm, ⟨51, _⟩ => ⟨S3x128x256, .i1⟩
  | .hbm, ⟨52, _⟩ => ⟨S_, .f32⟩
  | .hbm, ⟨53, _⟩ => ⟨S_, .f32⟩
  | .hbm, ⟨54, _⟩ => ⟨S3x128x256, .f32⟩
  | .hbm, ⟨55, _⟩ => ⟨S3x128x256, .f32⟩
  | .hbm, ⟨56, _⟩ => ⟨S3x128x256, .f32⟩
  | .hbm, ⟨57, _⟩ => ⟨S3x128x256, .f32⟩
  | .hbm, ⟨58, _⟩ => ⟨S2x4x2048x1024, .bf16⟩
  | .hbm, ⟨59, _⟩ => ⟨S2x4x2048x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x128, .f32⟩
  | .local _ .vmem, ⟨21, _⟩ => ⟨S1x1x256x128, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨3, ![2, 4, 8], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c31_i32 : BitVec 32 := 31#32
  let v2 : BitVec 32 := Scalar.minsi v1 c31_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c7_i32 : BitVec 32 := 7#32
  let v0 : BitVec 1 := Scalar.cmpi .eq arg2 c7_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== ReferenceIdeal.lean ====
abbrev S2x8192x16x64 : Shape := ⟨4, ![2, 8192, 16, 64]⟩
abbrev S_ : Shape := ⟨0, ![]⟩
abbrev S2x2048x4x16x64 : Shape := ⟨5, ![2, 2048, 4, 16, 64]⟩
abbrev S2x32x64x4x16x64 : Shape := ⟨6, ![2, 32, 64, 4, 16, 64]⟩
abbrev S2x2176x4x16x64 : Shape := ⟨5, ![2, 2176, 4, 16, 64]⟩
abbrev S2x32x192x4x16x64 : Shape := ⟨6, ![2, 32, 192, 4, 16, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S32 : Shape := ⟨1, ![32]⟩
abbrev S32x1 : Shape := ⟨2, ![32, 1]⟩
abbrev S32x192 : Shape := ⟨2, ![32, 192]⟩
abbrev S32x192x1 : Shape := ⟨3, ![32, 192, 1]⟩
abbrev S4 : Shape := ⟨1, ![4]⟩
abbrev S1x1x4 : Shape := ⟨3, ![1, 1, 4]⟩
abbrev S32x192x4 : Shape := ⟨3, ![32, 192, 4]⟩
abbrev S1x1x64x192 : Shape := ⟨4, ![1, 1, 64, 192]⟩
abbrev S32x4x192 : Shape := ⟨3, ![32, 4, 192]⟩
abbrev S32x4x1x192 : Shape := ⟨4, ![32, 4, 1, 192]⟩
abbrev S32x4x64x192 : Shape := ⟨4, ![32, 4, 64, 192]⟩
abbrev S2x32x4x16x64x192 : Shape := ⟨6, ![2, 32, 4, 16, 64, 192]⟩
abbrev S1x32x4x1x64x192 : Shape := ⟨6, ![1, 32, 4, 1, 64, 192]⟩
abbrev S2x32x4x16x64 : Shape := ⟨5, ![2, 32, 4, 16, 64]⟩
abbrev S2x32x4x16x64x1 : Shape := ⟨6, ![2, 32, 4, 16, 64, 1]⟩
abbrev S2x32x4x16x64x64 : Shape := ⟨6, ![2, 32, 4, 16, 64, 64]⟩
abbrev S2x32x64x4x16 : Shape := ⟨5, ![2, 32, 64, 4, 16]⟩
abbrev S2x32x64x4x16x1 : Shape := ⟨6, ![2, 32, 64, 4, 16, 1]⟩
abbrev S2x8192x16 : Shape := ⟨3, ![2, 8192, 16]⟩
abbrev S2x2048x4x1024 : Shape := ⟨4, ![2, 2048, 4, 1024]⟩
abbrev S2x4x2048x1024 : Shape := ⟨4, ![2, 4, 2048, 1024]⟩
abbrev S2x2048x4x16 : Shape := ⟨4, ![2, 2048, 4, 16]⟩
abbrev S2x4x2048x16 : Shape := ⟨4, ![2, 4, 2048, 16]⟩
abbrev S2x4x2048x128 : Shape := ⟨4, ![2, 4, 2048, 128]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .i32⟩
  | .hbm, ⟨4, _⟩ => ⟨S_, .f32⟩
  | .hbm, ⟨5, _⟩ => ⟨S2x8192x16x64, .f32⟩
  | .hbm, ⟨6, _⟩ => ⟨S2x2048x4x16x64, .f32⟩
  | .hbm, ⟨7, _⟩ => ⟨S_, .i32⟩
  | .hbm, ⟨8, _⟩ => ⟨S_, .f32⟩
  | .hbm, ⟨9, _⟩ => ⟨S2x8192x16x64, .f32⟩
  | .hbm, ⟨10, _⟩ => ⟨S2x2048x4x16x64, .f32⟩
  | .hbm, ⟨11, _⟩ => ⟨S_, .i32⟩
  | .hbm, ⟨12, _⟩ => ⟨S_, .f32⟩
  | .hbm, ⟨13, _⟩ => ⟨S2x8192x16x64, .f32⟩
  | .hbm, ⟨14, _⟩ => ⟨S2x2048x4x16x64, .f32⟩
  | .hbm, ⟨15, _⟩ => ⟨S2x32x64x4x16x64, .f32⟩
  | .hbm, ⟨16, _⟩ => ⟨S_, .i32⟩
  | .hbm, ⟨17, _⟩ => ⟨S_, .f32⟩
  | .hbm, ⟨18, _⟩ => ⟨S2x2176x4x16x64, .f32⟩
  | .hbm, ⟨19, _⟩ => ⟨S2x2048x4x16x64, .f32⟩
  | .hbm, ⟨20, _⟩ => ⟨S2x32x64x4x16x64, .f32⟩
  | .hbm, ⟨21, _⟩ => ⟨S2x2048x4x16x64, .f32⟩
  | .hbm, ⟨22, _⟩ => ⟨S2x32x64x4x16x64, .f32⟩
  | .hbm, ⟨23, _⟩ => ⟨S2x2048x4x16x64, .f32⟩
  | .hbm, ⟨24, _⟩ => ⟨S2x32x64x4x16x64, .f32⟩
  | .hbm, ⟨25, _⟩ => ⟨S2x32x192x4x16x64, .f32⟩
  | .hbm, ⟨26, _⟩ => ⟨S_, .i32⟩
  | .hbm, ⟨27, _⟩ => ⟨S_, .f32⟩
  | .hbm, ⟨28, _⟩ => ⟨S2x2176x4x16x64, .f32⟩
  | .hbm, ⟨29, _⟩ => ⟨S2x2048x4x16x64, .f32⟩
  | .hbm, ⟨30, _⟩ => ⟨S2x32x64x4x16x64, .f32⟩
  | .hbm, ⟨31, _⟩ => ⟨S2x2048x4x16x64, .f32⟩
  | .hbm, ⟨32, _⟩ => ⟨S2x32x64x4x16x64, .f32⟩
  | .hbm, ⟨33, _⟩ => ⟨S2x2048x4x16x64, .f32⟩
  | .hbm, ⟨34, _⟩ => ⟨S2x32x64x4x16x64, .f32⟩
  | .hbm, ⟨35, _⟩ => ⟨S2x32x192x4x16x64, .f32⟩
  | .hbm, ⟨36, _⟩ => ⟨S64, .i32⟩
  | .hbm, ⟨37, _⟩ => ⟨S64x1, .i32⟩
  | .hbm, ⟨38, _⟩ => ⟨S192, .i32⟩
  | .hbm, ⟨39, _⟩ => ⟨S1x192, .i32⟩
  | .hbm, ⟨40, _⟩ => ⟨S_, .i32⟩
  | .hbm, ⟨41, _⟩ => ⟨S1x192, .i32⟩
  | .hbm, ⟨42, _⟩ => ⟨S1x192, .i32⟩
  | .hbm, ⟨43, _⟩ => ⟨S64x192, .i32⟩
  | .hbm, ⟨44, _⟩ => ⟨S64x192, .i32⟩
  | .hbm, ⟨45, _⟩ => ⟨S64x192, .i32⟩
  | .hbm, ⟨46, _⟩ => ⟨S64x192, .i32⟩
  | .hbm, ⟨47, _⟩ => ⟨S_, .i32⟩
  | .hbm, ⟨48, _⟩ => ⟨S64x192, .i32⟩
  | .hbm, ⟨49, _⟩ => ⟨S64x192, .i1⟩
  | .hbm, ⟨50, _⟩ => ⟨S32, .i32⟩
  | .hbm, ⟨51, _⟩ => ⟨S32x1, .i32⟩
  | .hbm, ⟨52, _⟩ => ⟨S_, .i32⟩
  | .hbm, ⟨53, _⟩ => ⟨S32x1, .i32⟩
  | .hbm, ⟨54, _⟩ => ⟨S32x1, .i32⟩
  | .hbm, ⟨55, _⟩ => ⟨S_, .i32⟩
  | .hbm, ⟨56, _⟩ => ⟨S32x1, .i32⟩
  | .hbm, ⟨57, _⟩ => ⟨S32x1, .i32⟩
  | .hbm, ⟨58, _⟩ => ⟨S192, .i32⟩
  | .hbm, ⟨59, _⟩ => ⟨S1x192, .i32⟩
  | .hbm, ⟨60, _⟩ => ⟨S32x192, .i32⟩
  | .hbm, ⟨61, _⟩ => ⟨S32x192, .i32⟩
  | .hbm, ⟨62, _⟩ => ⟨S32x192, .i32⟩
  | .hbm, ⟨63, _⟩ => ⟨S32x192x1, .i32⟩
  | .hbm, ⟨64, _⟩ => ⟨S_, .i32⟩
  | .hbm, ⟨65, _⟩ => ⟨S32x192x1, .i32⟩
  | .hbm, ⟨66, _⟩ => ⟨S32x192x1, .i32⟩
  | .hbm, ⟨67, _⟩ => ⟨S4, .i32⟩
  | .hbm, ⟨68, _⟩ => ⟨S1x1x4, .i32⟩
  | .hbm, ⟨69, _⟩ => ⟨S32x192x4, .i32⟩
  | .hbm, ⟨70, _⟩ => ⟨S32x192x4, .i32⟩
  | .hbm, ⟨71, _⟩ => ⟨S32x192x4, .i32⟩
  | .hbm, ⟨72, _⟩ => ⟨S32x192x1, .i32⟩
  | .hbm, ⟨73, _⟩ => ⟨S_, .i32⟩
  | .hbm, ⟨74, _⟩ => ⟨S32x192x1, .i32⟩
  | .hbm, ⟨75, _⟩ => ⟨S32x192x1, .i1⟩
  | .hbm, ⟨76, _⟩ => ⟨S_, .i32⟩
  | .hbm, ⟨77, _⟩ => ⟨S32x192x4, .i32⟩
  | .hbm, ⟨78, _⟩ => ⟨S32x192x4, .i1⟩
  | .hbm, ⟨79, _⟩ => ⟨S32x192x4, .i1⟩
  | .hbm, ⟨80, _⟩ => ⟨S32x192x4, .i1⟩
  | .hbm, ⟨81, _⟩ => ⟨S1x1x64x192, .i1⟩
  | .hbm, ⟨82, _⟩ => ⟨S32x4x192, .i1⟩
  | .hbm, ⟨83, _⟩ => ⟨S32x4x1x192, .i1⟩
  | .hbm, ⟨84, _⟩ => ⟨S32x4x64x192, .i1⟩
  | .hbm, ⟨85, _⟩ => ⟨S32x4x64x192, .i1⟩
  | .hbm, ⟨86, _⟩ => ⟨S32x4x64x192, .i1⟩
  | .hbm, ⟨87, _⟩ => ⟨S2x32x4x16x64x192, .f32⟩
  | .hbm, ⟨88, _⟩ => ⟨S_, .f32⟩
  | .hbm, ⟨89, _⟩ => ⟨S2x32x4x16x64x192, .f32⟩
  | .hbm, ⟨90, _⟩ => ⟨S2x32x4x16x64x192, .f32⟩
  | .hbm, ⟨91, _⟩ => ⟨S1x32x4x1x64x192, .i1⟩
  | .hbm, ⟨92, _⟩ => ⟨S_, .f32⟩
  | .hbm, ⟨93, _⟩ => ⟨S_, .f32⟩
  | .hbm, ⟨94, _⟩ => ⟨S2x32x4x16x64x192, .i1⟩
  | .hbm, ⟨95, _⟩ => ⟨S2x32x4x16x64x192, .f32⟩
  | .hbm, ⟨96, _⟩ => ⟨S2x32x4x16x64x192, .f32⟩
  | .hbm, ⟨97, _⟩ => ⟨S_, .f32⟩
  | .hbm, ⟨98, _⟩ => ⟨S2x32x4x16x64, .f32⟩
  | .hbm, ⟨99, _⟩ => ⟨S2x32x4x16x64x1, .f32⟩
  | .hbm, ⟨100, _⟩ => ⟨S2x32x4x16x64x192, .f32⟩
  | .hbm, ⟨101, _⟩ => ⟨S2x32x4x16x64x192, .f32⟩
  | .hbm, ⟨102, _⟩ => ⟨S2x32x4x16x64x192, .f32⟩
  | .hbm, ⟨103, _⟩ => ⟨S_, .f32⟩
  | .hbm, ⟨104, _⟩ => ⟨S2x32x4x16x64, .f32⟩
  | .hbm, ⟨105, _⟩ => ⟨S2x32x4x16x64x64, .f32⟩
  | .hbm, ⟨106, _⟩ => ⟨S2x32x64x4x16x64, .f32⟩
  | .hbm, ⟨107, _⟩ => ⟨S2x32x64x4x16, .f32⟩
  | .hbm, ⟨108, _⟩ => ⟨S2x32x64x4x16x1, .f32⟩
  | .hbm, ⟨109, _⟩ => ⟨S2x32x64x4x16x64, .f32⟩
  | .hbm, ⟨110, _⟩ => ⟨S2x32x64x4x16x64, .f32⟩
  | .hbm, ⟨111, _⟩ => ⟨S2x32x4x16x64, .f32⟩
  | .hbm, ⟨112, _⟩ => ⟨S2x32x4x16x64, .f32⟩
  | .hbm, ⟨113, _⟩ => ⟨S2x32x4x16x64, .f32⟩
  | .hbm, ⟨114, _⟩ => ⟨S2x32x64x4x16, .f32⟩
  | .hbm, ⟨115, _⟩ => ⟨S2x8192x16x64, .f32⟩
  | .hbm, ⟨116, _⟩ => ⟨S2x8192x16, .f32⟩
  | .hbm, ⟨117, _⟩ => ⟨S2x2048x4x1024, .f32⟩
  | .hbm, ⟨118, _⟩ => ⟨S2x4x2048x1024, .f32⟩
  | .hbm, ⟨119, _⟩ => ⟨S2x2048x4x16, .f32⟩
  | .hbm, ⟨120, _⟩ => ⟨S2x4x2048x16, .f32⟩
  | .hbm, ⟨121, _⟩ => ⟨S2x4x2048x1024, .bf16⟩
  | .hbm, ⟨122, _⟩ => ⟨S_, .i32⟩
  | .hbm, ⟨123, _⟩ => ⟨S_, .f32⟩
  | .hbm, ⟨124, _⟩ => ⟨S2x4x2048x128, .f32⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call4_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_14 : Ref sig .tc := ⟨.hbm, 122, rfl⟩
abbrev main_call6_v0 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x7168 : Shape := ⟨2, ![1024, 7168]⟩
abbrev S3584x1024 : Shape := ⟨2, ![3584, 1024]⟩
abbrev S1x1024 : Shape := ⟨2, ![1, 1024]⟩
abbrev S1024x1024 : Shape := ⟨2, ![1024, 1024]⟩
abbrev S1024x512 : Shape := ⟨2, ![1024, 512]⟩
abbrev S512x1024 : Shape := ⟨2, ![512, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S3584x1024, .f32⟩
  | .hbm, ⟨4, _⟩ => ⟨S1024x7168, .bf16⟩
  | .hbm, ⟨5, _⟩ => ⟨S3584x1024, .bf16⟩
  | .hbm, ⟨6, _⟩ => ⟨S1x1024, .f32⟩
  | .hbm, ⟨7, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S512x1024, .bf16⟩
  | .local _ .vmem, ⟨8, _⟩ => ⟨S512x1024, .bf16⟩
  | .local _ .vmem, ⟨9, _⟩ => ⟨S1024x1024, .f32⟩
  | .local _ .vmem, ⟨10, _⟩ => ⟨S1024x1024, .f32⟩
  | .local _ .vmem, ⟨11, _⟩ => ⟨S1024x1024, .bf16⟩
  | .local _ .vmem, ⟨12, _⟩ => ⟨S1024x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c6_i32 : BitVec 32 := 6#32
  let v28 : BitVec 1 := Scalar.cmpi .eq arg1 c6_i32
  let v29 : BitVec 32 := Scalar.extui v28
  let c0_i32_17 : BitVec 32 := 0#32
  let v30 : BitVec 1 := Scalar.cmpi .ne v29 c0_i32_17
  v30

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c7_i32 : BitVec 32 := 7#32
  let v0 : BitVec 32 := Scalar.addi c7_i32 arg1
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== Reference2Ideal.lean ====
abbrev S16384x1024 : Shape := ⟨2, ![16384, 1024]⟩
abbrev S1024 : Shape := ⟨1, ![1024]⟩
abbrev S1024x7168 : Shape := ⟨2, ![1024, 7168]⟩
abbrev S3584x1024 : Shape := ⟨2, ![3584, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x7168 : Shape := ⟨2, ![16384, 7168]⟩
abbrev S16384x3584 : Shape := ⟨2, ![16384, 3584]⟩

abbrev nBuf : Space → Nat
  | .hbm => 35
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x7168, .f32⟩
  | .hbm, ⟨3, _⟩ => ⟨S3584x1024, .f32⟩
  | .hbm, ⟨4, _⟩ => ⟨S16384x1024, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x1024, .f32⟩
  | .hbm, ⟨16, _⟩ => ⟨S16384x1024, .f32⟩
  | .hbm, ⟨17, _⟩ => ⟨S1x1024, .f32⟩
  | .hbm, ⟨18, _⟩ => ⟨S16384x1024, .f32⟩
  | .hbm, ⟨19, _⟩ => ⟨S16384x1024, .f32⟩
  | .hbm, ⟨20, _⟩ => ⟨S16384x7168, .f32⟩
  | .hbm, ⟨21, _⟩ => ⟨S16384x3584, .f32⟩
  | .hbm, ⟨22, _⟩ => ⟨S16384x3584, .f32⟩
  | .hbm, ⟨23, _⟩ => ⟨S16384x3584, .f32⟩
  | .hbm, ⟨24, _⟩ => ⟨S16384x3584, .f32⟩
  | .hbm, ⟨25, _⟩ => ⟨S_, .f32⟩
  | .hbm, ⟨26, _⟩ => ⟨S16384x3584, .f32⟩
  | .hbm, ⟨27, _⟩ => ⟨S16384x3584, .f32⟩
  | .hbm, ⟨28, _⟩ => ⟨S_, .f32⟩
  | .hbm, ⟨29, _⟩ => ⟨S16384x3584, .f32⟩
  | .hbm, ⟨30, _⟩ => ⟨S16384x3584, .f32⟩
  | .hbm, ⟨31, _⟩ => ⟨S16384x3584, .f32⟩
  | .hbm, ⟨32, _⟩ => ⟨S16384x3584, .f32⟩
  | .hbm, ⟨33, _⟩ => ⟨S16384x1024, .f32⟩
  | .hbm, ⟨34, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_v1 : Ref sig .tc := ⟨.hbm, 24, rfl⟩
abbrev main_call0_cst : Ref sig .tc := ⟨.hbm, 25, rfl⟩
abbrev main_call0_v2 : Ref sig .tc := ⟨.hbm, 26, rfl⟩
abbrev main_call0_v3 : Ref sig .tc := ⟨.hbm, 27, rfl⟩
abbrev main_call0_cst_0 : Ref sig .tc := ⟨.hbm, 28, rfl⟩
abbrev main_call0_v4 : Ref sig .tc := ⟨.hbm, 29, rfl⟩
abbrev main_call0_v5 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel3.lean ====
abbrev S129024x1024 : Shape := ⟨2, ![129024, 1024]⟩
abbrev S126 : Shape := ⟨1, ![126]⟩
abbrev S8x1024x7168 : Shape := ⟨3, ![8, 1024, 7168]⟩
abbrev S8x3584x1024 : Shape := ⟨3, ![8, 3584, 1024]⟩
abbrev S172032x1024 : Shape := ⟨2, ![172032, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 8
  | .vmem => 11
  | .smem => 1
  | _ => 0

abbrev bufTy : (tb : Table) → Fin (tcTables nBuf tb) → BufTy
  | .hbm, ⟨0, _⟩ => ⟨S129024x1024, .f32⟩
  | .hbm, ⟨1, _⟩ => ⟨S8x1024x7168, .f32⟩
  | .hbm, ⟨2, _⟩ => ⟨S8x3584x1024, .f32⟩
  | .hbm, ⟨3, _⟩ => ⟨S172032x1024, .bf16⟩
  | .hbm, ⟨4, _⟩ => ⟨S129024x1024, .bf16⟩
  | .hbm, ⟨5, _⟩ => ⟨S8x1024x7168, .bf16⟩
  | .hbm, ⟨6, _⟩ => ⟨S8x3584x1024, .bf16⟩
  | .hbm, ⟨7, _⟩ => ⟨S172032x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S126, .i32⟩
  | _, _ => ⟨S129024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![126, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S126.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S126) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S126.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S126) ![v0.toNat] S1.size (k0_off1_inb i)) numel1_S1
  let c7_i32 : BitVec 32 := 7#32
  let v2 : BitVec 32 := Scalar.addi c7_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S126.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S126) ![v0.toNat] S1.size (k0_off1_inb i)) numel1_S1
  let c0_i32 : BitVec 32 := 0#32
  let c0_i32_0 : BitVec 32 := 0#32
  ![v1.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c42_i32 : BitVec 32 := 42#32
  let v0 : BitVec 32 := Scalar.addi c42_i32 arg0
  let c0_i32 : BitVec 32 := 0#32
  let c0_i32_0 : BitVec 32 := 0#32
  ![v0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference3Ideal.lean ====
abbrev S129024x1024 : Shape := ⟨2, ![129024, 1024]⟩
abbrev S126 : Shape := ⟨1, ![126]⟩
abbrev S8x1024x7168 : Shape := ⟨3, ![8, 1024, 7168]⟩
abbrev S8x3584x1024 : Shape := ⟨3, ![8, 3584, 1024]⟩
abbrev S172032x1024 : Shape := ⟨2, ![172032, 1024]⟩
abbrev S126x1024x1024 : Shape := ⟨3, ![126, 1024, 1024]⟩
abbrev S_ : Shape := ⟨0, ![]⟩
abbrev S126x1 : Shape := ⟨2, ![126, 1]⟩
abbrev S126x1024x7168 : Shape := ⟨3, ![126, 1024, 7168]⟩
abbrev S126x1024x3584 : Shape := ⟨3, ![126, 1024, 3584]⟩
abbrev S126x3584x1024 : Shape := ⟨3, ![126, 3584, 1024]⟩
abbrev S43008x1024 : Shape := ⟨2, ![43008, 1024]⟩

abbrev nBuf : Space → Nat
  | .hbm => 42
  | .vmem => 0
  | .smem => 0
  | _ => 0

abbrev bufTy : (tb : Table) → Fin (tcTables nBuf tb) → BufTy
  | .hbm, ⟨0, _⟩ => ⟨S129024x1024, .f32⟩
  | .hbm, ⟨1, _⟩ => ⟨S126, .i32⟩
  | .hbm, ⟨2, _⟩ => ⟨S8x1024x7168, .f32⟩
  | .hbm, ⟨3, _⟩ => ⟨S8x3584x1024, .f32⟩
  | .hbm, ⟨4, _⟩ => ⟨S172032x1024, .bf16⟩
  | .hbm, ⟨5, _⟩ => ⟨S126x1024x1024, .f32⟩
  | .hbm, ⟨6, _⟩ => ⟨S_, .i32⟩
  | .hbm, ⟨7, _⟩ => ⟨S126, .i32⟩
  | .hbm, ⟨8, _⟩ => ⟨S126, .i1⟩
  | .hbm, ⟨9, _⟩ => ⟨S_, .i32⟩
  | .hbm, ⟨10, _⟩ => ⟨S126, .i32⟩
  | .hbm, ⟨11, _⟩ => ⟨S126, .i32⟩
  | .hbm, ⟨12, _⟩ => ⟨S126, .i32⟩
  | .hbm, ⟨13, _⟩ => ⟨S126x1, .i32⟩
  | .hbm, ⟨14, _⟩ => ⟨S126x1024x7168, .f32⟩
  | .hbm, ⟨15, _⟩ => ⟨S126x1024x7168, .f32⟩
  | .hbm, ⟨16, _⟩ => ⟨S126x1024x3584, .f32⟩
  | .hbm, ⟨17, _⟩ => ⟨S126x1024x3584, .f32⟩
  | .hbm, ⟨18, _⟩ => ⟨S126x1024x3584, .f32⟩
  | .hbm, ⟨19, _⟩ => ⟨S126x1024x3584, .f32⟩
  | .hbm, ⟨20, _⟩ => ⟨S_, .f32⟩
  | .hbm, ⟨21, _⟩ => ⟨S126x1024x3584, .f32⟩
  | .hbm, ⟨22, _⟩ => ⟨S126x1024x3584, .f32⟩
  | .hbm, ⟨23, _⟩ => ⟨S_, .f32⟩
  | .hbm, ⟨24, _⟩ => ⟨S126x1024x3584, .f32⟩
  | .hbm, ⟨25, _⟩ => ⟨S126x1024x3584, .f32⟩
  | .hbm, ⟨26, _⟩ => ⟨S126x1024x3584, .f32⟩
  | .hbm, ⟨27, _⟩ => ⟨S126x1024x3584, .f32⟩
  | .hbm, ⟨28, _⟩ => ⟨S_, .i32⟩
  | .hbm, ⟨29, _⟩ => ⟨S126, .i32⟩
  | .hbm, ⟨30, _⟩ => ⟨S126, .i1⟩
  | .hbm, ⟨31, _⟩ => ⟨S_, .i32⟩
  | .hbm, ⟨32, _⟩ => ⟨S126, .i32⟩
  | .hbm, ⟨33, _⟩ => ⟨S126, .i32⟩
  | .hbm, ⟨34, _⟩ => ⟨S126, .i32⟩
  | .hbm, ⟨35, _⟩ => ⟨S126x1, .i32⟩
  | .hbm, ⟨36, _⟩ => ⟨S126x3584x1024, .f32⟩
  | .hbm, ⟨37, _⟩ => ⟨S126x1024x1024, .f32⟩
  | .hbm, ⟨38, _⟩ => ⟨S129024x1024, .f32⟩
  | .hbm, ⟨39, _⟩ => ⟨S129024x1024, .bf16⟩
  | .hbm, ⟨40, _⟩ => ⟨S43008x1024, .bf16⟩
  | .hbm, ⟨41, _⟩ => ⟨S172032x1024, .bf16⟩
  | _, _ => ⟨S129024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v11 : Ref sig .tc := ⟨.hbm, 26, rfl⟩
abbrev main_v12 : Ref sig .tc := ⟨.hbm, 27, rfl⟩
abbrev main_c_1 : Ref sig .tc := ⟨.hbm, 28, rfl⟩
abbrev main_v13 : Ref sig .tc := ⟨.hbm, 29, rfl⟩
abbrev main_v14 : Ref sig .tc := ⟨.hbm, 30, rfl⟩
abbrev main_c_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩

abbrev nD : Nat := 1
abbrev τ : Topo := Topo.v7x

variable {F : FTy → Type} [FloatOps F]
-- ==== Kernel4.lean ====
abbrev S16384x1024 : Shape := ⟨2, ![16384, 1024]⟩
abbrev S1024x2048 : Shape := ⟨2, ![1024, 2048]⟩
abbrev S512x1024 : Shape := ⟨2, ![512, 1024]⟩
abbrev S512x2048 : Shape := ⟨2, ![512, 2048]⟩

abbrev nBuf : Space → Nat
  | .hbm => 6
  | .vmem => 7
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S16384x1024, .bf16⟩
  | .hbm, ⟨4, _⟩ => ⟨S1024x2048, .bf16⟩
  | .hbm, ⟨5, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S1024x2048, .bf16⟩
  | .local _ .vmem, ⟨5, _⟩ => ⟨S512x1024, .f32⟩
  | .local _ .vmem, ⟨6, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16384x1024 : Shape := ⟨2, ![16384, 1024]⟩
abbrev S1024x2048 : Shape := ⟨2, ![1024, 2048]⟩
abbrev S16384x2048 : Shape := ⟨2, ![16384, 2048]⟩
abbrev S_ : Shape := ⟨0, ![]⟩

abbrev nBuf : Space → Nat
  | .hbm => 16
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S16384x1024, .f32⟩
  | .hbm, ⟨2, _⟩ => ⟨S1024x2048, .f32⟩
  | .hbm, ⟨3, _⟩ => ⟨S16384x2048, .f32⟩
  | .hbm, ⟨4, _⟩ => ⟨S16384x1024, .f32⟩
  | .hbm, ⟨5, _⟩ => ⟨S16384x1024, .f32⟩
  | .hbm, ⟨6, _⟩ => ⟨S16384x1024, .f32⟩
  | .hbm, ⟨7, _⟩ => ⟨S16384x1024, .f32⟩
  | .hbm, ⟨8, _⟩ => ⟨S_, .f32⟩
  | .hbm, ⟨9, _⟩ => ⟨S16384x1024, .f32⟩
  | .hbm, ⟨10, _⟩ => ⟨S16384x1024, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x1024, .f32⟩
  | .hbm, ⟨15, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩

abbrev nD : Nat := 1
abbrev τ : Topo := Topo.v7x

variable {F : FTy → Type} [FloatOps F]
-- ==== Kernel5.lean ====
abbrev S43008x1024 : Shape := ⟨2, ![43008, 1024]⟩
abbrev S42 : Shape := ⟨1, ![42]⟩
abbrev S8x1024x7168 : Shape := ⟨3, ![8, 1024, 7168]⟩
abbrev S8x3584x1024 : Shape := ⟨3, ![8, 3584, 1024]⟩
abbrev S172032x1024 : Shape := ⟨2, ![172032, 1024]⟩
abbrev S1024x1024 : Shape := ⟨2, ![1024, 1024]⟩
abbrev S1x1024x512 : Shape := ⟨3, ![1, 1024, 512]⟩
abbrev S1 : Shape := ⟨1, ![1]⟩
abbrev S1x512x1024 : Shape := ⟨3, ![1, 512, 1024]⟩
abbrev S1024x512 : Shape := ⟨2, ![1024, 512]⟩
abbrev S512x1024 : Shape := ⟨2, ![512, 1024]⟩

abbrev nBuf : Space → Nat
  | .hbm => 8
  | .vmem => 11
  | .smem => 1
  | _ => 0

abbrev bufTy : (tb : Table) → Fin (tcTables nBuf tb) → BufTy
  | .hbm, ⟨0, _⟩ => ⟨S43008x1024, .f32⟩
  | .hbm, ⟨1, _⟩ => ⟨S8x1024x7168, .f32⟩
  | .hbm, ⟨2, _⟩ => ⟨S8x3584x1024, .f32⟩
  | .hbm, ⟨3, _⟩ => ⟨S43008x1024, .bf16⟩
  | .hbm, ⟨4, _⟩ => ⟨S8x1024x7168, .bf16⟩
  | .hbm, ⟨5, _⟩ => ⟨S8x3584x1024, .bf16⟩
  | .hbm, ⟨6, _⟩ => ⟨S172032x1024, .bf16⟩
  | .hbm, ⟨7, _⟩ => ⟨S43008x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .smem, ⟨0, _⟩ => ⟨S42, .i32⟩
  | _, _ => ⟨S43008x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg2 : Ref sig .tc := ⟨.hbm, 1, rfl⟩
abbrev main_arg3 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_arg1 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![42, 7], ![false, false]⟩

abbrev pre0 : Pipeline.Prefetch sig := ⟨1, ![main_arg1.idx], fun | 0 => main_arg1.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond2 (i : grid0.Coords) : BitVec 1 :=
  let arg1 : BitVec 32 := BitVec.ofNat 32 (i 1).val
  let c6_i32 : BitVec 32 := 6#32
  let v29 : BitVec 1 := Scalar.cmpi .eq arg1 c6_i32
  let v30 : BitVec 32 := Scalar.extui v29
  let c0_i32_20 : BitVec 32 := 0#32
  let v31 : BitVec 1 := Scalar.cmpi .ne v30 c0_i32_20
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0_i32 : BitVec 32 := 0#32
  let c0_i32_0 : BitVec 32 := 0#32
  ![v1.toNat, c0_i32.toNat, arg1.toNat]

def cc0_transform_2 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c7_i32 : BitVec 32 := 7#32
  let v2 : BitVec 32 := Scalar.addi c7_i32 arg1
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S42.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S42) ![v0.toNat] S1.size (k0_off1_inb i)) numel1_S1
  let c0_i32 : BitVec 32 := 0#32
  let c0_i32_0 : BitVec 32 := 0#32
  ![v1.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== Reference5Ideal.lean ====
abbrev S43008x1024 : Shape := ⟨2, ![43008, 1024]⟩
abbrev S42 : Shape := ⟨1, ![42]⟩
abbrev S8x1024x7168 : Shape := ⟨3, ![8, 1024, 7168]⟩
abbrev S8x3584x1024 : Shape := ⟨3, ![8, 3584, 1024]⟩
abbrev S42x1024x1024 : Shape := ⟨3, ![42, 1024, 1024]⟩
abbrev S_ : Shape := ⟨0, ![]⟩
abbrev S42x1 : Shape := ⟨2, ![42, 1]⟩
abbrev S42x1024x7168 : Shape := ⟨3, ![42, 1024, 7168]⟩
abbrev S42x1024x3584 : Shape := ⟨3, ![42, 1024, 3584]⟩
abbrev S42x3584x1024 : Shape := ⟨3, ![42, 3584, 1024]⟩

abbrev nBuf : Space → Nat
  | .hbm => 39
  | .vmem => 0
  | .smem => 0
  | _ => 0

abbrev bufTy : (tb : Table) → Fin (tcTables nBuf tb) → BufTy
  | .hbm, ⟨0, _⟩ => ⟨S43008x1024, .f32⟩
  | .hbm, ⟨1, _⟩ => ⟨S42, .i32⟩
  | .hbm, ⟨2, _⟩ => ⟨S8x1024x7168, .f32⟩
  | .hbm, ⟨3, _⟩ => ⟨S8x3584x1024, .f32⟩
  | .hbm, ⟨4, _⟩ => ⟨S42x1024x1024, .f32⟩
  | .hbm, ⟨5, _⟩ => ⟨S_, .i32⟩
  | .hbm, ⟨6, _⟩ => ⟨S42, .i32⟩
  | .hbm, ⟨7, _⟩ => ⟨S42, .i1⟩
  | .hbm, ⟨8, _⟩ => ⟨S_, .i32⟩
  | .hbm, ⟨9, _⟩ => ⟨S42, .i32⟩
  | .hbm, ⟨10, _⟩ => ⟨S42, .i32⟩
  | .hbm, ⟨11, _⟩ => ⟨S42, .i32⟩
  | .hbm, ⟨12, _⟩ => ⟨S42x1, .i32⟩
  | .hbm, ⟨13, _⟩ => ⟨S42x1024x7168, .f32⟩
  | .hbm, ⟨14, _⟩ => ⟨S42x1024x7168, .f32⟩
  | .hbm, ⟨15, _⟩ => ⟨S42x1024x3584, .f32⟩
  | .hbm, ⟨16, _⟩ => ⟨S42x1024x3584, .f32⟩
  | .hbm, ⟨17, _⟩ => ⟨S42x1024x3584, .f32⟩
  | .hbm, ⟨18, _⟩ => ⟨S42x1024x3584, .f32⟩
  | .hbm, ⟨19, _⟩ => ⟨S_, .f32⟩
  | .hbm, ⟨20, _⟩ => ⟨S42x1024x3584, .f32⟩
  | .hbm, ⟨21, _⟩ => ⟨S42x1024x3584, .f32⟩
  | .hbm, ⟨22, _⟩ => ⟨S_, .f32⟩
  | .hbm, ⟨23, _⟩ => ⟨S42x1024x3584, .f32⟩
  | .hbm, ⟨24, _⟩ => ⟨S42x1024x3584, .f32⟩
  | .hbm, ⟨25, _⟩ => ⟨S42x1024x3584, .f32⟩
  | .hbm, ⟨26, _⟩ => ⟨S42x1024x3584, .f32⟩
  | .hbm, ⟨27, _⟩ => ⟨S_, .i32⟩
  | .hbm, ⟨28, _⟩ => ⟨S42, .i32⟩
  | .hbm, ⟨29, _⟩ => ⟨S42, .i1⟩
  | .hbm, ⟨30, _⟩ => ⟨S_, .i32⟩
  | .hbm, ⟨31, _⟩ => ⟨S42, .i32⟩
  | .hbm, ⟨32, _⟩ => ⟨S42, .i32⟩
  | .hbm, ⟨33, _⟩ => ⟨S42, .i32⟩
  | .hbm, ⟨34, _⟩ => ⟨S42x1, .i32⟩
  | .hbm, ⟨35, _⟩ => ⟨S42x3584x1024, .f32⟩
  | .hbm, ⟨36, _⟩ => ⟨S42x1024x1024, .f32⟩
  | .hbm, ⟨37, _⟩ => ⟨S43008x1024, .f32⟩
  | .hbm, ⟨38, _⟩ => ⟨S43008x1024, .bf16⟩
  | _, _ => ⟨S43008x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_call0_v5 : Ref sig .tc := ⟨.hbm, 24, rfl⟩
abbrev main_v11 : Ref sig .tc := ⟨.hbm, 25, rfl⟩
abbrev main_v12 : Ref sig .tc := ⟨.hbm, 26, rfl⟩
abbrev main_c_1 : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩

abbrev nD : Nat := 1
abbrev τ : Topo := Topo.v7x

variable {F : FTy → Type} [FloatOps F]
-- ==== Kernel6.lean ====
abbrev S2x8192x16x64 : Shape := ⟨4, ![2, 8192, 16, 64]⟩
abbrev S_ : Shape := ⟨0, ![]⟩
abbrev S2x8192x4x4x2x32 : Shape := ⟨6, ![2, 8192, 4, 4, 2, 32]⟩
abbrev S2x8192x4x2x4x32 : Shape := ⟨6, ![2, 8192, 4, 2, 4, 32]⟩
abbrev S2x8192x1x1024 : Shape := ⟨4, ![2, 8192, 1, 1024]⟩
abbrev S2x1x8192x1024 : Shape := ⟨4, ![2, 1, 8192, 1024]⟩
abbrev S2x1x8192x3072 : Shape := ⟨4, ![2, 1, 8192, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S2x1x8192x128 : Shape := ⟨4, ![2, 1, 8192, 128]⟩
abbrev S1x1x256x1024 : Shape := ⟨4, ![1, 1, 256, 1024]⟩
abbrev S1x1x64x1024 : Shape := ⟨4, ![1, 1, 64, 1024]⟩
abbrev S1x1x256x128 : Shape := ⟨4, ![1, 1, 256, 128]⟩
abbrev S1x128 : Shape := ⟨2, ![1, 128]⟩
abbrev S128x128 : Shape := ⟨2, ![128, 128]⟩
abbrev S1x1x128x256 : Shape := ⟨4, ![1, 1, 128, 256]⟩
abbrev S1x1x64x256 : Shape := ⟨4, ![1, 1, 64, 256]⟩
abbrev S64x256 : Shape := ⟨2, ![64, 256]⟩
abbrev S1x1x192x256 : Shape := ⟨4, ![1, 1, 192, 256]⟩
abbrev S192x256 : Shape := ⟨2, ![192, 256]⟩
abbrev S256x256 : Shape := ⟨2, ![256, 256]⟩
abbrev S512x256 : Shape := ⟨2, ![512, 256]⟩
abbrev S128x1024 : Shape := ⟨2, ![128, 1024]⟩
abbrev S1024x256 : Shape := ⟨2, ![1024, 256]⟩
abbrev S1x1x128x128 : Shape := ⟨4, ![1, 1, 128, 128]⟩

abbrev nBuf : Space → Nat
  | .hbm => 60
  | .vmem => 22
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x16x64, .f32⟩
  | .hbm, ⟨9, _⟩ => ⟨S2x8192x16x64, .f32⟩
  | .hbm, ⟨10, _⟩ => ⟨S2x8192x4x4x2x32, .f32⟩
  | .hbm, ⟨11, _⟩ => ⟨S2x8192x4x2x4x32, .f32⟩
  | .hbm, ⟨12, _⟩ => ⟨S2x8192x16x64, .f32⟩
  | .hbm, ⟨13, _⟩ => ⟨S2x8192x1x1024, .f32⟩
  | .hbm, ⟨14, _⟩ => ⟨S2x1x8192x1024, .f32⟩
  | .hbm, ⟨15, _⟩ => ⟨S2x8192x4x4x2x32, .f32⟩
  | .hbm, ⟨16, _⟩ => ⟨S2x8192x4x2x4x32, .f32⟩
  | .hbm, ⟨17, _⟩ => ⟨S2x8192x16x64, .f32⟩
  | .hbm, ⟨18, _⟩ => ⟨S2x8192x1x1024, .f32⟩
  | .hbm, ⟨19, _⟩ => ⟨S2x1x8192x1024, .f32⟩
  | .hbm, ⟨20, _⟩ => ⟨S2x8192x1x1024, .f32⟩
  | .hbm, ⟨21, _⟩ => ⟨S2x1x8192x1024, .f32⟩
  | .hbm, ⟨22, _⟩ => ⟨S2x1x8192x3072, .f32⟩
  | .hbm, ⟨23, _⟩ => ⟨S2x1x8192x3072, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S1x128x256, .i1⟩
  | .hbm, ⟨50, _⟩ => ⟨S1x128x256, .i1⟩
  | .hbm, ⟨51, _⟩ => ⟨S3x128x256, .i1⟩
  | .hbm, ⟨52, _⟩ => ⟨S_, .f32⟩
  | .hbm, ⟨53, _⟩ => ⟨S_, .f32⟩
  | .hbm, ⟨54, _⟩ => ⟨S3x128x256, .f32⟩
  | .hbm, ⟨55, _⟩ => ⟨S3x128x256, .f32⟩
  | .hbm, ⟨56, _⟩ => ⟨S3x128x256, .f32⟩
  | .hbm, ⟨57, _⟩ => ⟨S3x128x256, .f32⟩
  | .hbm, ⟨58, _⟩ => ⟨S2x1x8192x1024, .bf16⟩
  | .hbm, ⟨59, _⟩ => ⟨S2x1x8192x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x128, .f32⟩
  | .local _ .vmem, ⟨21, _⟩ => ⟨S1x1x256x128, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 1, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 1 := Scalar.cmpi .eq arg2 c31_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel6Ideal.lean ====
abbrev S2x8192x16x64 : Shape := ⟨4, ![2, 8192, 16, 64]⟩
abbrev S_ : Shape := ⟨0, ![]⟩
abbrev S2x8192x4x4x2x32 : Shape := ⟨6, ![2, 8192, 4, 4, 2, 32]⟩
abbrev S2x8192x4x2x4x32 : Shape := ⟨6, ![2, 8192, 4, 2, 4, 32]⟩
abbrev S2x8192x1x1024 : Shape := ⟨4, ![2, 8192, 1, 1024]⟩
abbrev S2x1x8192x1024 : Shape := ⟨4, ![2, 1, 8192, 1024]⟩
abbrev S2x1x8192x3072 : Shape := ⟨4, ![2, 1, 8192, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S2x1x8192x128 : Shape := ⟨4, ![2, 1, 8192, 128]⟩
abbrev S1x1x256x1024 : Shape := ⟨4, ![1, 1, 256, 1024]⟩
abbrev S1x1x64x1024 : Shape := ⟨4, ![1, 1, 64, 1024]⟩
abbrev S1x1x256x128 : Shape := ⟨4, ![1, 1, 256, 128]⟩
abbrev S1x128 : Shape := ⟨2, ![1, 128]⟩
abbrev S128x128 : Shape := ⟨2, ![128, 128]⟩
abbrev S1x1x128x256 : Shape := ⟨4, ![1, 1, 128, 256]⟩
abbrev S1x1x64x256 : Shape := ⟨4, ![1, 1, 64, 256]⟩
abbrev S64x256 : Shape := ⟨2, ![64, 256]⟩
abbrev S1x1x192x256 : Shape := ⟨4, ![1, 1, 192, 256]⟩
abbrev S192x256 : Shape := ⟨2, ![192, 256]⟩
abbrev S256x256 : Shape := ⟨2, ![256, 256]⟩
abbrev S512x256 : Shape := ⟨2, ![512, 256]⟩
abbrev S128x1024 : Shape := ⟨2, ![128, 1024]⟩
abbrev S1024x256 : Shape := ⟨2, ![1024, 256]⟩
abbrev S1x1x128x128 : Shape := ⟨4, ![1, 1, 128, 128]⟩

abbrev nBuf : Space → Nat
  | .hbm => 60
  | .vmem => 22
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x16x64, .f32⟩
  | .hbm, ⟨9, _⟩ => ⟨S2x8192x16x64, .f32⟩
  | .hbm, ⟨10, _⟩ => ⟨S2x8192x4x4x2x32, .f32⟩
  | .hbm, ⟨11, _⟩ => ⟨S2x8192x4x2x4x32, .f32⟩
  | .hbm, ⟨12, _⟩ => ⟨S2x8192x16x64, .f32⟩
  | .hbm, ⟨13, _⟩ => ⟨S2x8192x1x1024, .f32⟩
  | .hbm, ⟨14, _⟩ => ⟨S2x1x8192x1024, .f32⟩
  | .hbm, ⟨15, _⟩ => ⟨S2x8192x4x4x2x32, .f32⟩
  | .hbm, ⟨16, _⟩ => ⟨S2x8192x4x2x4x32, .f32⟩
  | .hbm, ⟨17, _⟩ => ⟨S2x8192x16x64, .f32⟩
  | .hbm, ⟨18, _⟩ => ⟨S2x8192x1x1024, .f32⟩
  | .hbm, ⟨19, _⟩ => ⟨S2x1x8192x1024, .f32⟩
  | .hbm, ⟨20, _⟩ => ⟨S2x8192x1x1024, .f32⟩
  | .hbm, ⟨21, _⟩ => ⟨S2x1x8192x1024, .f32⟩
  | .hbm, ⟨22, _⟩ => ⟨S2x1x8192x3072, .f32⟩
  | .hbm, ⟨23, _⟩ => ⟨S2x1x8192x3072, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S1x128x256, .i1⟩
  | .hbm, ⟨50, _⟩ => ⟨S1x128x256, .i1⟩
  | .hbm, ⟨51, _⟩ => ⟨S3x128x256, .i1⟩
  | .hbm, ⟨52, _⟩ => ⟨S_, .f32⟩
  | .hbm, ⟨53, _⟩ => ⟨S_, .f32⟩
  | .hbm, ⟨54, _⟩ => ⟨S3x128x256, .f32⟩
  | .hbm, ⟨55, _⟩ => ⟨S3x128x256, .f32⟩
  | .hbm, ⟨56, _⟩ => ⟨S3x128x256, .f32⟩
  | .hbm, ⟨57, _⟩ => ⟨S3x128x256, .f32⟩
  | .hbm, ⟨58, _⟩ => ⟨S2x1x8192x1024, .bf16⟩
  | .hbm, ⟨59, _⟩ => ⟨S2x1x8192x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x128, .f32⟩
  | .local _ .vmem, ⟨21, _⟩ => ⟨S1x1x256x128, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := ⟨3, ![2, 1, 32], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c127_i32 : BitVec 32 := 127#32
  let v2 : BitVec 32 := Scalar.minsi v1 c127_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c31_i32 : BitVec 32 := 31#32
  let v0 : BitVec 1 := Scalar.cmpi .eq arg2 c31_i32
  let c2_i32 : BitVec 32 := 2#32
  let c1_i32 : BitVec 32 := 1#32
  let v1 : BitVec 32 := Scalar.select v0 c2_i32 c1_i32
  let c0_i32 : BitVec 32 := 0#32
  let c0_i32_0 : BitVec 32 := 0#32
  let c0_i32_1 : BitVec 32 := 0#32
  ![v1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Reference6Ideal.lean ====
abbrev S2x8192x16x64 : Shape := ⟨4, ![2, 8192, 16, 64]⟩
abbrev S_ : Shape := ⟨0, ![]⟩
abbrev S2x8192x1x16x64 : Shape := ⟨5, ![2, 8192, 1, 16, 64]⟩
abbrev S2x128x64x1x16x64 : Shape := ⟨6, ![2, 128, 64, 1, 16, 64]⟩
abbrev S2x8320x1x16x64 : Shape := ⟨5, ![2, 8320, 1, 16, 64]⟩
abbrev S2x128x192x1x16x64 : Shape := ⟨6, ![2, 128, 192, 1, 16, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S128 : Shape := ⟨1, ![128]⟩
abbrev S128x1 : Shape := ⟨2, ![128, 1]⟩
abbrev S128x192 : Shape := ⟨2, ![128, 192]⟩
abbrev S128x192x1 : Shape := ⟨3, ![128, 192, 1]⟩
abbrev S1 : Shape := ⟨1, ![1]⟩
abbrev S1x1x1 : Shape := ⟨3, ![1, 1, 1]⟩
abbrev S1x1x64x192 : Shape := ⟨4, ![1, 1, 64, 192]⟩
abbrev S128x1x192 : Shape := ⟨3, ![128, 1, 192]⟩
abbrev S128x1x1x192 : Shape := ⟨4, ![128, 1, 1, 192]⟩
abbrev S128x1x64x192 : Shape := ⟨4, ![128, 1, 64, 192]⟩
abbrev S2x128x1x16x64x192 : Shape := ⟨6, ![2, 128, 1, 16, 64, 192]⟩
abbrev S1x128x1x1x64x192 : Shape := ⟨6, ![1, 128, 1, 1, 64, 192]⟩
abbrev S2x128x1x16x64 : Shape := ⟨5, ![2, 128, 1, 16, 64]⟩
abbrev S2x128x1x16x64x1 : Shape := ⟨6, ![2, 128, 1, 16, 64, 1]⟩
abbrev S2x128x1x16x64x64 : Shape := ⟨6, ![2, 128, 1, 16, 64, 64]⟩
abbrev S2x128x64x1x16 : Shape := ⟨5, ![2, 128, 64, 1, 16]⟩
abbrev S2x128x64x1x16x1 : Shape := ⟨6, ![2, 128, 64, 1, 16, 1]⟩
abbrev S2x8192x16 : Shape := ⟨3, ![2, 8192, 16]⟩
abbrev S2x8192x1x1024 : Shape := ⟨4, ![2, 8192, 1, 1024]⟩
abbrev S2x1x8192x1024 : Shape := ⟨4, ![2, 1, 8192, 1024]⟩
abbrev S2x8192x1x16 : Shape := ⟨4, ![2, 8192, 1, 16]⟩
abbrev S2x1x8192x16 : Shape := ⟨4, ![2, 1, 8192, 16]⟩
abbrev S2x1x8192x128 : Shape := ⟨4, ![2, 1, 8192, 128]⟩

abbrev nBuf : Space → Nat
  | .hbm => 123
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .i32⟩
  | .hbm, ⟨4, _⟩ => ⟨S_, .f32⟩
  | .hbm, ⟨5, _⟩ => ⟨S2x8192x16x64, .f32⟩
  | .hbm, ⟨6, _⟩ => ⟨S2x8192x1x16x64, .f32⟩
  | .hbm, ⟨7, _⟩ => ⟨S_, .i32⟩
  | .hbm, ⟨8, _⟩ => ⟨S_, .f32⟩
  | .hbm, ⟨9, _⟩ => ⟨S2x8192x16x64, .f32⟩
  | .hbm, ⟨10, _⟩ => ⟨S2x8192x1x16x64, .f32⟩
  | .hbm, ⟨11, _⟩ => ⟨S_, .i32⟩
  | .hbm, ⟨12, _⟩ => ⟨S_, .f32⟩
  | .hbm, ⟨13, _⟩ => ⟨S2x8192x16x64, .f32⟩
  | .hbm, ⟨14, _⟩ => ⟨S2x8192x1x16x64, .f32⟩
  | .hbm, ⟨15, _⟩ => ⟨S2x128x64x1x16x64, .f32⟩
  | .hbm, ⟨16, _⟩ => ⟨S_, .i32⟩
  | .hbm, ⟨17, _⟩ => ⟨S_, .f32⟩
  | .hbm, ⟨18, _⟩ => ⟨S2x8320x1x16x64, .f32⟩
  | .hbm, ⟨19, _⟩ => ⟨S2x8192x1x16x64, .f32⟩
  | .hbm, ⟨20, _⟩ => ⟨S2x128x64x1x16x64, .f32⟩
  | .hbm, ⟨21, _⟩ => ⟨S2x8192x1x16x64, .f32⟩
  | .hbm, ⟨22, _⟩ => ⟨S2x128x64x1x16x64, .f32⟩
  | .hbm, ⟨23, _⟩ => ⟨S2x8192x1x16x64, .f32⟩
  | .hbm, ⟨24, _⟩ => ⟨S2x128x64x1x16x64, .f32⟩
  | .hbm, ⟨25, _⟩ => ⟨S2x128x192x1x16x64, .f32⟩
  | .hbm, ⟨26, _⟩ => ⟨S_, .i32⟩
  | .hbm, ⟨27, _⟩ => ⟨S_, .f32⟩
  | .hbm, ⟨28, _⟩ => ⟨S2x8320x1x16x64, .f32⟩
  | .hbm, ⟨29, _⟩ => ⟨S2x8192x1x16x64, .f32⟩
  | .hbm, ⟨30, _⟩ => ⟨S2x128x64x1x16x64, .f32⟩
  | .hbm, ⟨31, _⟩ => ⟨S2x8192x1x16x64, .f32⟩
  | .hbm, ⟨32, _⟩ => ⟨S2x128x64x1x16x64, .f32⟩
  | .hbm, ⟨33, _⟩ => ⟨S2x8192x1x16x64, .f32⟩
  | .hbm, ⟨34, _⟩ => ⟨S2x128x64x1x16x64, .f32⟩
  | .hbm, ⟨35, _⟩ => ⟨S2x128x192x1x16x64, .f32⟩
  | .hbm, ⟨36, _⟩ => ⟨S64, .i32⟩
  | .hbm, ⟨37, _⟩ => ⟨S64x1, .i32⟩
  | .hbm, ⟨38, _⟩ => ⟨S192, .i32⟩
  | .hbm, ⟨39, _⟩ => ⟨S1x192, .i32⟩
  | .hbm, ⟨40, _⟩ => ⟨S_, .i32⟩
  | .hbm, ⟨41, _⟩ => ⟨S1x192, .i32⟩
  | .hbm, ⟨42, _⟩ => ⟨S1x192, .i32⟩
  | .hbm, ⟨43, _⟩ => ⟨S64x192, .i32⟩
  | .hbm, ⟨44, _⟩ => ⟨S64x192, .i32⟩
  | .hbm, ⟨45, _⟩ => ⟨S64x192, .i32⟩
  | .hbm, ⟨46, _⟩ => ⟨S64x192, .i32⟩
  | .hbm, ⟨47, _⟩ => ⟨S_, .i32⟩
  | .hbm, ⟨48, _⟩ => ⟨S64x192, .i32⟩
  | .hbm, ⟨49, _⟩ => ⟨S64x192, .i1⟩
  | .hbm, ⟨50, _⟩ => ⟨S128, .i32⟩
  | .hbm, ⟨51, _⟩ => ⟨S128x1, .i32⟩
  | .hbm, ⟨52, _⟩ => ⟨S_, .i32⟩
  | .hbm, ⟨53, _⟩ => ⟨S128x1, .i32⟩
  | .hbm, ⟨54, _⟩ => ⟨S128x1, .i32⟩
  | .hbm, ⟨55, _⟩ => ⟨S_, .i32⟩
  | .hbm, ⟨56, _⟩ => ⟨S128x1, .i32⟩
  | .hbm, ⟨57, _⟩ => ⟨S128x1, .i32⟩
  | .hbm, ⟨58, _⟩ => ⟨S192, .i32⟩
  | .hbm, ⟨59, _⟩ => ⟨S1x192, .i32⟩
  | .hbm, ⟨60, _⟩ => ⟨S128x192, .i32⟩
  | .hbm, ⟨61, _⟩ => ⟨S128x192, .i32⟩
  | .hbm, ⟨62, _⟩ => ⟨S128x192, .i32⟩
  | .hbm, ⟨63, _⟩ => ⟨S128x192x1, .i32⟩
  | .hbm, ⟨64, _⟩ => ⟨S_, .i32⟩
  | .hbm, ⟨65, _⟩ => ⟨S128x192x1, .i32⟩
  | .hbm, ⟨66, _⟩ => ⟨S128x192x1, .i32⟩
  | .hbm, ⟨67, _⟩ => ⟨S1, .i32⟩
  | .hbm, ⟨68, _⟩ => ⟨S1x1x1, .i32⟩
  | .hbm, ⟨69, _⟩ => ⟨S128x192x1, .i32⟩
  | .hbm, ⟨70, _⟩ => ⟨S128x192x1, .i32⟩
  | .hbm, ⟨71, _⟩ => ⟨S128x192x1, .i32⟩
  | .hbm, ⟨72, _⟩ => ⟨S_, .i32⟩
  | .hbm, ⟨73, _⟩ => ⟨S128x192x1, .i32⟩
  | .hbm, ⟨74, _⟩ => ⟨S128x192x1, .i1⟩
  | .hbm, ⟨75, _⟩ => ⟨S_, .i32⟩
  | .hbm, ⟨76, _⟩ => ⟨S128x192x1, .i32⟩
  | .hbm, ⟨77, _⟩ => ⟨S128x192x1, .i1⟩
  | .hbm, ⟨78, _⟩ => ⟨S128x192x1, .i1⟩
  | .hbm, ⟨79, _⟩ => ⟨S1x1x64x192, .i1⟩
  | .hbm, ⟨80, _⟩ => ⟨S128x1x192, .i1⟩
  | .hbm, ⟨81, _⟩ => ⟨S128x1x1x192, .i1⟩
  | .hbm, ⟨82, _⟩ => ⟨S128x1x64x192, .i1⟩
  | .hbm, ⟨83, _⟩ => ⟨S128x1x64x192, .i1⟩
  | .hbm, ⟨84, _⟩ => ⟨S128x1x64x192, .i1⟩
  | .hbm, ⟨85, _⟩ => ⟨S2x128x1x16x64x192, .f32⟩
  | .hbm, ⟨86, _⟩ => ⟨S_, .f32⟩
  | .hbm, ⟨87, _⟩ => ⟨S2x128x1x16x64x192, .f32⟩
  | .hbm, ⟨88, _⟩ => ⟨S2x128x1x16x64x192, .f32⟩
  | .hbm, ⟨89, _⟩ => ⟨S1x128x1x1x64x192, .i1⟩
  | .hbm, ⟨90, _⟩ => ⟨S_, .f32⟩
  | .hbm, ⟨91, _⟩ => ⟨S_, .f32⟩
  | .hbm, ⟨92, _⟩ => ⟨S2x128x1x16x64x192, .i1⟩
  | .hbm, ⟨93, _⟩ => ⟨S2x128x1x16x64x192, .f32⟩
  | .hbm, ⟨94, _⟩ => ⟨S2x128x1x16x64x192, .f32⟩
  | .hbm, ⟨95, _⟩ => ⟨S_, .f32⟩
  | .hbm, ⟨96, _⟩ => ⟨S2x128x1x16x64, .f32⟩
  | .hbm, ⟨97, _⟩ => ⟨S2x128x1x16x64x1, .f32⟩
  | .hbm, ⟨98, _⟩ => ⟨S2x128x1x16x64x192, .f32⟩
  | .hbm, ⟨99, _⟩ => ⟨S2x128x1x16x64x192, .f32⟩
  | .hbm, ⟨100, _⟩ => ⟨S2x128x1x16x64x192, .f32⟩
  | .hbm, ⟨101, _⟩ => ⟨S_, .f32⟩
  | .hbm, ⟨102, _⟩ => ⟨S2x128x1x16x64, .f32⟩
  | .hbm, ⟨103, _⟩ => ⟨S2x128x1x16x64x64, .f32⟩
  | .hbm, ⟨104, _⟩ => ⟨S2x128x64x1x16x64, .f32⟩
  | .hbm, ⟨105, _⟩ => ⟨S2x128x64x1x16, .f32⟩
  | .hbm, ⟨106, _⟩ => ⟨S2x128x64x1x16x1, .f32⟩
  | .hbm, ⟨107, _⟩ => ⟨S2x128x64x1x16x64, .f32⟩
  | .hbm, ⟨108, _⟩ => ⟨S2x128x64x1x16x64, .f32⟩
  | .hbm, ⟨109, _⟩ => ⟨S2x128x1x16x64, .f32⟩
  | .hbm, ⟨110, _⟩ => ⟨S2x128x1x16x64, .f32⟩
  | .hbm, ⟨111, _⟩ => ⟨S2x128x1x16x64, .f32⟩
  | .hbm, ⟨112, _⟩ => ⟨S2x128x64x1x16, .f32⟩
  | .hbm, ⟨113, _⟩ => ⟨S2x8192x16x64, .f32⟩
  | .hbm, ⟨114, _⟩ => ⟨S2x8192x16, .f32⟩
  | .hbm, ⟨115, _⟩ => ⟨S2x8192x1x1024, .f32⟩
  | .hbm, ⟨116, _⟩ => ⟨S2x1x8192x1024, .f32⟩
  | .hbm, ⟨117, _⟩ => ⟨S2x8192x1x16, .f32⟩
  | .hbm, ⟨118, _⟩ => ⟨S2x1x8192x16, .f32⟩
  | .hbm, ⟨119, _⟩ => ⟨S2x1x8192x1024, .bf16⟩
  | .hbm, ⟨120, _⟩ => ⟨S_, .i32⟩
  | .hbm, ⟨121, _⟩ => ⟨S_, .f32⟩
  | .hbm, ⟨122, _⟩ => ⟨S2x1x8192x128, .f32⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call4_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_c_9 : Ref sig .tc := ⟨.hbm, 72, rfl⟩
abbrev main_v54 : Ref sig .tc := ⟨.hbm, 73, rfl⟩
abbrev main_v55 : Ref sig .tc := ⟨.hbm, 74, rfl⟩
abbrev main_c_10 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_11 : Ref sig .tc := ⟨.hbm, 90, rfl⟩
abbrev main_call5_v0 : Ref sig .tc := ⟨.hbm, 91, rfl⟩
abbrev main_call5_v1 : Ref sig .tc := ⟨.hbm, 92, rfl⟩
abbrev main_call5_v2 : Ref sig .tc := ⟨.hbm, 93, rfl⟩
abbrev main_v69 : Ref sig .tc := ⟨.hbm, 94, rfl⟩
abbrev main_cst_12 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_c_14 : Ref sig .tc := ⟨.hbm, 120, rfl⟩
abbrev main_call6_v0 : Ref sig .tc := ⟨.hbm, 121, rfl⟩
abbrev main_v93 : Ref sig .tc := ⟨.hbm, 122, rfl⟩

abbrev nD : Nat := 1
abbrev τ : Topo := Topo.v7x

variable {F : FTy → Type} [FloatOps F]
-- ==== Kernel7.lean ====
abbrev S2x8192x16x64 : Shape := ⟨4, ![2, 8192, 16, 64]⟩
abbrev S_ : Shape := ⟨0, ![]⟩
abbrev S2x8192x4x4x2x32 : Shape := ⟨6, ![2, 8192, 4, 4, 2, 32]⟩
abbrev S2x8192x4x2x4x32 : Shape := ⟨6, ![2, 8192, 4, 2, 4, 32]⟩
abbrev S2x512x16x1024 : Shape := ⟨4, ![2, 512, 16, 1024]⟩
abbrev S2x16x512x1024 : Shape := ⟨4, ![2, 16, 512, 1024]⟩
abbrev S2x16x512x3072 : Shape := ⟨4, ![2, 16, 512, 3072]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S1x128x256 : Shape := ⟨3, ![1, 128, 256]⟩
abbrev S3x128x256 : Shape := ⟨3, ![3, 128, 256]⟩
abbrev S2x16x512x128 : Shape := ⟨4, ![2, 16, 512, 128]⟩
abbrev S1x1x256x1024 : Shape := ⟨4, ![1, 1, 256, 1024]⟩
abbrev S1x1x64x1024 : Shape := ⟨4, ![1, 1, 64, 1024]⟩
abbrev S1x1x256x128 : Shape := ⟨4, ![1, 1, 256, 128]⟩
abbrev S1x128 : Shape := ⟨2, ![1, 128]⟩
abbrev S128x128 : Shape := ⟨2, ![128, 128]⟩
abbrev S1x1x128x256 : Shape := ⟨4, ![1, 1, 128, 256]⟩
abbrev S1x1x64x256 : Shape := ⟨4, ![1, 1, 64, 256]⟩
abbrev S64x256 : Shape := ⟨2, ![64, 256]⟩
abbrev S1x1x192x256 : Shape := ⟨4, ![1, 1, 192, 256]⟩
abbrev S192x256 : Shape := ⟨2, ![192, 256]⟩
abbrev S256x256 : Shape := ⟨2, ![256, 256]⟩
abbrev S512x256 : Shape := ⟨2, ![512, 256]⟩
abbrev S128x1024 : Shape := ⟨2, ![128, 1024]⟩
abbrev S1024x256 : Shape := ⟨2, ![1024, 256]⟩
abbrev S1x1x128x128 : Shape := ⟨4, ![1, 1, 128, 128]⟩

abbrev nBuf : Space → Nat
  | .hbm => 60
  | .vmem => 22
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S2x8192x16x64, .f32⟩
  | .hbm, ⟨9, _⟩ => ⟨S2x8192x16x64, .f32⟩
  | .hbm, ⟨10, _⟩ => ⟨S2x8192x4x4x2x32, .f32⟩
  | .hbm, ⟨11, _⟩ => ⟨S2x8192x4x2x4x32, .f32⟩
  | .hbm, ⟨12, _⟩ => ⟨S2x8192x16x64, .f32⟩
  | .hbm, ⟨13, _⟩ => ⟨S2x512x16x1024, .f32⟩
  | .hbm, ⟨14, _⟩ => ⟨S2x16x512x1024, .f32⟩
  | .hbm, ⟨15, _⟩ => ⟨S2x8192x4x4x2x32, .f32⟩
  | .hbm, ⟨16, _⟩ => ⟨S2x8192x4x2x4x32, .f32⟩
  | .hbm, ⟨17, _⟩ => ⟨S2x8192x16x64, .f32⟩
  | .hbm, ⟨18, _⟩ => ⟨S2x512x16x1024, .f32⟩
  | .hbm, ⟨19, _⟩ => ⟨S2x16x512x1024, .f32⟩
  | .hbm, ⟨20, _⟩ => ⟨S2x512x16x1024, .f32⟩
  | .hbm, ⟨21, _⟩ => ⟨S2x16x512x1024, .f32⟩
  | .hbm, ⟨22, _⟩ => ⟨S2x16x512x3072, .f32⟩
  | .hbm, ⟨23, _⟩ => ⟨S2x16x512x3072, .bf16⟩
  | .hbm, ⟨24, _⟩ => ⟨S128, .i32⟩
  | .hbm, ⟨25, _⟩ => ⟨S128x1, .i32⟩
  | .hbm, ⟨26, _⟩ => ⟨S256, .i32⟩
  | .hbm, ⟨27, _⟩ => ⟨S1x256, .i32⟩
  | .hbm, ⟨28, _⟩ => ⟨S_, .i32⟩
  | .hbm, ⟨29, _⟩ => ⟨S1x256, .i32⟩
  | .hbm, ⟨30, _⟩ => ⟨S1x256, .i32⟩
  | .hbm, ⟨31, _⟩ => ⟨S128x256, .i32⟩
  | .hbm, ⟨32, _⟩ => ⟨S128x256, .i32⟩
  | .hbm, ⟨33, _⟩ => ⟨S128x256, .i32⟩
  | .hbm, ⟨34, _⟩ => ⟨S128x256, .i32⟩
  | .hbm, ⟨35, _⟩ => ⟨S_, .i32⟩
  | .hbm, ⟨36, _⟩ => ⟨S128x256, .i32⟩
  | .hbm, ⟨37, _⟩ => ⟨S128x256, .i1⟩
  | .hbm, ⟨38, _⟩ => ⟨S_, .i32⟩
  | .hbm, ⟨39, _⟩ => ⟨S1x256, .i32⟩
  | .hbm, ⟨40, _⟩ => ⟨S1x256, .i1⟩
  | .hbm, ⟨41, _⟩ => ⟨S128x256, .i1⟩
  | .hbm, ⟨42, _⟩ => ⟨S128x256, .i1⟩
  | .hbm, ⟨43, _⟩ => ⟨S_, .i32⟩
  | .hbm, ⟨44, _⟩ => ⟨S1x256, .i32⟩
  | .hbm, ⟨45, _⟩ => ⟨S1x256, .i1⟩
  | .hbm, ⟨46, _⟩ => ⟨S128x256, .i1⟩
  | .hbm, ⟨47, _⟩ => ⟨S128x256, .i1⟩
  | .hbm, ⟨48, _⟩ => ⟨S1x128x256, .i1⟩
  | .hbm, ⟨49, _⟩ => ⟨S1x128x256, .i1⟩
  | .hbm, ⟨50, _⟩ => ⟨S1x128x256, .i1⟩
  | .hbm, ⟨51, _⟩ => ⟨S3x128x256, .i1⟩
  | .hbm, ⟨52, _⟩ => ⟨S_, .f32⟩
  | .hbm, ⟨53, _⟩ => ⟨S_, .f32⟩
  | .hbm, ⟨54, _⟩ => ⟨S3x128x256, .f32⟩
  | .hbm, ⟨55, _⟩ => ⟨S3x128x256, .f32⟩
  | .hbm, ⟨56, _⟩ => ⟨S3x128x256, .f32⟩
  | .hbm, ⟨57, _⟩ => ⟨S3x128x256, .f32⟩
  | .hbm, ⟨58, _⟩ => ⟨S2x16x512x1024, .bf16⟩
  | .hbm, ⟨59, _⟩ => ⟨S2x16x512x128, .f32⟩
  | .local _ .vmem, ⟨0, _⟩ => ⟨S1x1x256x1024, .bf16⟩
  | .local _ .vmem, ⟨1, _⟩ => ⟨S1x1x256x1024, .bf16⟩
  | .local _ .vmem, ⟨2, _⟩ => ⟨S1x1x64x1024, .bf16⟩
  | .local _ .vmem, ⟨3, _⟩ => ⟨S1x1x64x1024, .bf16⟩
  | .local _ .vmem, ⟨4, _⟩ => ⟨S1x1x256x1024, .bf16⟩
  | .local _ .vmem, ⟨5, _⟩ => ⟨S1x1x256x1024, .bf16⟩
  | .local _ .vmem, ⟨6, _⟩ => ⟨S1x1x64x1024, .bf16⟩
  | .local _ .vmem, ⟨7, _⟩ => ⟨S1x1x64x1024, .bf16⟩
  | .local _ .vmem, ⟨8, _⟩ => ⟨S1x1x64x1024, .bf16⟩
  | .local _ .vmem, ⟨9, _⟩ => ⟨S1x1x64x1024, .bf16⟩
  | .local _ .vmem, ⟨10, _⟩ => ⟨S1x1x256x1024, .bf16⟩
  | .local _ .vmem, ⟨11, _⟩ => ⟨S1x1x256x1024, .bf16⟩
  | .local _ .vmem, ⟨12, _⟩ => ⟨S1x1x64x1024, .bf16⟩
  | .local _ .vmem, ⟨13, _⟩ => ⟨S1x1x64x1024, .bf16⟩
  | .local _ .vmem, ⟨14, _⟩ => ⟨S1x128x256, .f32⟩
  | .local _ .vmem, ⟨15, _⟩ => ⟨S1x128x256, .f32⟩
  | .local _ .vmem, ⟨16, _⟩ => ⟨S1x128x256, .f32⟩
  | .local _ .vmem, ⟨17, _⟩ => ⟨S1x128x256, .f32⟩
  | .local _ .vmem, ⟨18, _⟩ => ⟨S1x1x256x1024, .bf16⟩
  | .local _ .vmem, ⟨19, _⟩ => ⟨S1x1x256x1024, .bf16⟩
  | .local _ .vmem, ⟨20, _⟩ => ⟨S1x1x256x128, .f32⟩
  | .local _ .vmem, ⟨21, _⟩ => ⟨S1x1x256x128, .f32⟩
  | _, _ => ⟨S2x8192x16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_c : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c_1 : Ref sig .tc := ⟨.hbm, 35, rfl⟩
abbrev main_v29 : Ref sig .tc := ⟨.hbm, 36, rfl⟩
abbrev main_v30 : Ref sig .tc := ⟨.hbm, 37, rfl⟩
abbrev main_c_2 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_c_3 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_cst_4 : Ref sig .tc := ⟨.hbm, 52, rfl⟩
abbrev main_cst_5 : Ref sig .tc := ⟨.hbm, 53, rfl⟩
abbrev main_call0_v0 : Ref sig .tc := ⟨.hbm, 54, rfl⟩
abbrev main_call0_v1 : Ref sig .tc := ⟨.hbm, 55, rfl⟩
abbrev main_v43 : Ref sig .tc := ⟨.hbm, 56, rfl⟩
abbrev main_v44 : Ref sig .tc := ⟨.hbm, 57, rfl⟩
abbrev main_v45_0 : Ref sig .tc := ⟨.hbm, 58, rfl⟩
abbrev main_v45_1 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨3, ![2, 16, 2], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c1_i32_0 : BitVec 32 := 1#32
  let c0_i32_1 : BitVec 32 := 0#32
  ![arg0.toNat, arg1.toNat, v2.toNat, c1_i32_0.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  ![arg0.toNat, arg1.toNat, arg2.toNat, c1_i32.toNat]

def cc0_transform_3 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c7_i32 : BitVec 32 := 7#32
  let v2 : BitVec 32 := Scalar.minsi v1 c7_i32
  let c1_i32_0 : BitVec 32 := 1#32
  let c0_i32 : BitVec 32 := 0#32
  ![arg0.toNat, arg1.toNat, v2.toNat, c1_i32_0.toNat]

def cc0_transform_4 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg2 c4_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![arg0.toNat, arg1.toNat, v2.toNat, c2_i32.toNat]

def cc0_transform_5 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  ![arg0.toNat, arg1.toNat, arg2.toNat, c2_i32.toNat]

def cc0_transform_6 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.addi arg2 c1_i32
  let c4_i32 : BitVec 32 := 4#32
  let v1 : BitVec 32 := Scalar.muli v0 c4_i32
  let c7_i32 : BitVec 32 := 7#32
  let v2 : BitVec 32 := Scalar.minsi v1 c7_i32
  let c2_i32 : BitVec 32 := 2#32
  let c0_i32 : BitVec 32 := 0#32
  ![arg0.toNat, arg1.toNat, v2.toNat, c2_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 1 := Scalar.cmpi .eq arg2 c0_i32
  let c0_i32_0 : BitVec 32 := 0#32
  let c1_i32 : BitVec 32 := 1#32
  let v1 : BitVec 32 := Scalar.select v0 c0_i32_0 c1_i32
  let c0_i32_1 : BitVec 32 := 0#32
  let c0_i32_2 : BitVec 32 := 0#32
  let c0_i32_3 : BitVec 32 := 0#32
  ![v1.toNat, c0_i32_1.toNat, c0_i32_2.toNat]

def cc0_transform_8 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 1 := Scalar.cmpi .eq arg2 c1_i32
  let c2_i32 : BitVec 32 := 2#32
  let c1_i32_0 : BitVec 32 := 1#32
  let v1 : BitVec 32 := Scalar.select v0 c2_i32 c1_i32_0
  let c0_i32 : BitVec 32 := 0#32
  let c0_i32_1 : BitVec 32 := 0#32
  let c0_i32_2 : BitVec 32 := 0#32
  ![v1.toNat, c0_i32.toNat, c0_i32_1.toNat]

def cc0_transform_9 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_10 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x64x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x64x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x1x64x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, false, true]

abbrev stage0_8 : Fin 2 → Memref sig .tc .vmem S1x128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, false, true]

abbrev stage0_9 : Fin 2 → Memref sig .tc .vmem S1x1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]

abbrev stage0_10 : Fin 2 → Memref sig .tc .vmem S1x1x256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true, true]
-- ==== Kernel7Ideal.lean ====
variable {F : FTy → Type} [FloatOps F] [Named F]
def κ : String → Option EReal := fun
  | "ln2" => some ((Real.log 2 : ℝ) : EReal)
  | _ => none
-- ==== Reference7Ideal.lean ====
abbrev S2x8192x16x64 : Shape := ⟨4, ![2, 8192, 16, 64]⟩
abbrev S_ : Shape := ⟨0, ![]⟩
abbrev S2x512x16x16x64 : Shape := ⟨5, ![2, 512, 16, 16, 64]⟩
abbrev S2x8x64x16x16x64 : Shape := ⟨6, ![2, 8, 64, 16, 16, 64]⟩
abbrev S2x640x16x16x64 : Shape := ⟨5, ![2, 640, 16, 16, 64]⟩
abbrev S2x8x192x16x16x64 : Shape := ⟨6, ![2, 8, 192, 16, 16, 64]⟩
abbrev S64 : Shape := ⟨1, ![64]⟩
abbrev S64x1 : Shape := ⟨2, ![64, 1]⟩
abbrev S192 : Shape := ⟨1, ![192]⟩
abbrev S1x192 : Shape := ⟨2, ![1, 192]⟩
abbrev S64x192 : Shape := ⟨2, ![64, 192]⟩
abbrev S8 : Shape := ⟨1, ![8]⟩
abbrev S8x1 : Shape := ⟨2, ![8, 1]⟩
abbrev S8x192 : Shape := ⟨2, ![8, 192]⟩
abbrev S8x192x1 : Shape := ⟨3, ![8, 192, 1]⟩
abbrev S16 : Shape := ⟨1, ![16]⟩
abbrev S1x1x16 : Shape := ⟨3, ![1, 1, 16]⟩
abbrev S8x192x16 : Shape := ⟨3, ![8, 192, 16]⟩
abbrev S1x1x64x192 : Shape := ⟨4, ![1, 1, 64, 192]⟩
abbrev S8x16x192 : Shape := ⟨3, ![8, 16, 192]⟩
abbrev S8x16x1x192 : Shape := ⟨4, ![8, 16, 1, 192]⟩
abbrev S8x16x64x192 : Shape := ⟨4, ![8, 16, 64, 192]⟩
abbrev S2x8x16x16x64x192 : Shape := ⟨6, ![2, 8, 16, 16, 64, 192]⟩
abbrev S1x8x16x1x64x192 : Shape := ⟨6, ![1, 8, 16, 1, 64, 192]⟩
abbrev S2x8x16x16x64 : Shape := ⟨5, ![2, 8, 16, 16, 64]⟩
abbrev S2x8x16x16x64x1 : Shape := ⟨6, ![2, 8, 16, 16, 64, 1]⟩
abbrev S2x8x16x16x64x64 : Shape := ⟨6, ![2, 8, 16, 16, 64, 64]⟩
abbrev S2x8x64x16x16 : Shape := ⟨5, ![2, 8, 64, 16, 16]⟩
abbrev S2x8x64x16x16x1 : Shape := ⟨6, ![2, 8, 64, 16, 16, 1]⟩
abbrev S2x8192x16 : Shape := ⟨3, ![2, 8192, 16]⟩
abbrev S2x512x16x1024 : Shape := ⟨4, ![2, 512, 16, 1024]⟩
abbrev S2x16x512x1024 : Shape := ⟨4, ![2, 16, 512, 1024]⟩
abbrev S2x512x16x16 : Shape := ⟨4, ![2, 512, 16, 16]⟩
abbrev S2x16x512x16 : Shape := ⟨4, ![2, 16, 512, 16]⟩
abbrev S2x16x512x128 : Shape := ⟨4, ![2, 16, 512, 128]⟩

abbrev nBuf : Space → Nat
  | .hbm => 125
  | .vmem => 0
  | .smem => 0
  | _ => 0

abbrev bufTy : (tb : Table) → Fin (tcTables nBuf tb) → BufTy
  | .hbm, ⟨0, _⟩ => ⟨S2x8192x16x64, .f32⟩
  | .hbm, ⟨1, _⟩ => ⟨S2x8192x16x64, .f32⟩
  | .hbm, ⟨2, _⟩ => ⟨S2x8192x16x64, .f32⟩
  | .hbm, ⟨3, _⟩ => ⟨S_, .i32⟩
  | .hbm, ⟨4, _⟩ => ⟨S_, .f32⟩
  | .hbm, ⟨5, _⟩ => ⟨S2x8192x16x64, .f32⟩
  | .hbm, ⟨6, _⟩ => ⟨S2x512x16x16x64, .f32⟩
  | .hbm, ⟨7, _⟩ => ⟨S_, .i32⟩
  | .hbm, ⟨8, _⟩ => ⟨S_, .f32⟩
  | .hbm, ⟨9, _⟩ => ⟨S2x8192x16x64, .f32⟩
  | .hbm, ⟨10, _⟩ => ⟨S2x512x16x16x64, .f32⟩
  | .hbm, ⟨11, _⟩ => ⟨S_, .i32⟩
  | .hbm, ⟨12, _⟩ => ⟨S_, .f32⟩
  | .hbm, ⟨13, _⟩ => ⟨S2x8192x16x64, .f32⟩
  | .hbm, ⟨14, _⟩ => ⟨S2x512x16x16x64, .f32⟩
  | .hbm, ⟨15, _⟩ => ⟨S2x8x64x16x16x64, .f32⟩
  | .hbm, ⟨16, _⟩ => ⟨S_, .i32⟩
  | .hbm, ⟨17, _⟩ => ⟨S_, .f32⟩
  | .hbm, ⟨18, _⟩ => ⟨S2x640x16x16x64, .f32⟩
  | .hbm, ⟨19, _⟩ => ⟨S2x512x16x16x64, .f32⟩
  | .hbm, ⟨20, _⟩ => ⟨S2x8x64x16x16x64, .f32⟩
  | .hbm, ⟨21, _⟩ => ⟨S2x512x16x16x64, .f32⟩
  | .hbm, ⟨22, _⟩ => ⟨S2x8x64x16x16x64, .f32⟩
  | .hbm, ⟨23, _⟩ => ⟨S2x512x16x16x64, .f32⟩
  | .hbm, ⟨24, _⟩ => ⟨S2x8x64x16x16x64, .f32⟩
  | .hbm, ⟨25, _⟩ => ⟨S2x8x192x16x16x64, .f32⟩
  | .hbm, ⟨26, _⟩ => ⟨S_, .i32⟩
  | .hbm, ⟨27, _⟩ => ⟨S_, .f32⟩
  | .hbm, ⟨28, _⟩ => ⟨S2x640x16x16x64, .f32⟩
  | .hbm, ⟨29, _⟩ => ⟨S2x512x16x16x64, .f32⟩
  | .hbm, ⟨30, _⟩ => ⟨S2x8x64x16x16x64, .f32⟩
  | .hbm, ⟨31, _⟩ => ⟨S2x512x16x16x64, .f32⟩
  | .hbm, ⟨32, _⟩ => ⟨S2x8x64x16x16x64, .f32⟩
  | .hbm, ⟨33, _⟩ => ⟨S2x512x16x16x64, .f32⟩
  | .hbm, ⟨34, _⟩ => ⟨S2x8x64x16x16x64, .f32⟩
  | .hbm, ⟨35, _⟩ => ⟨S2x8x192x16x16x64, .f32⟩
  | .hbm, ⟨36, _⟩ => ⟨S64, .i32⟩
  | .hbm, ⟨37, _⟩ => ⟨S64x1, .i32⟩
  | .hbm, ⟨38, _⟩ => ⟨S192, .i32⟩
  | .hbm, ⟨39, _⟩ => ⟨S1x192, .i32⟩
  | .hbm, ⟨40, _⟩ => ⟨S_, .i32⟩
  | .hbm, ⟨41, _⟩ => ⟨S1x192, .i32⟩
  | .hbm, ⟨42, _⟩ => ⟨S1x192, .i32⟩
  | .hbm, ⟨43, _⟩ => ⟨S64x192, .i32⟩
  | .hbm, ⟨44, _⟩ => ⟨S64x192, .i32⟩
  | .hbm, ⟨45, _⟩ => ⟨S64x192, .i32⟩
  | .hbm, ⟨46, _⟩ => ⟨S64x192, .i32⟩
  | .hbm, ⟨47, _⟩ => ⟨S_, .i32⟩
  | .hbm, ⟨48, _⟩ => ⟨S64x192, .i32⟩
  | .hbm, ⟨49, _⟩ => ⟨S64x192, .i1⟩
  | .hbm, ⟨50, _⟩ => ⟨S8, .i32⟩
  | .hbm, ⟨51, _⟩ => ⟨S8x1, .i32⟩
  | .hbm, ⟨52, _⟩ => ⟨S_, .i32⟩
  | .hbm, ⟨53, _⟩ => ⟨S8x1, .i32⟩
  | .hbm, ⟨54, _⟩ => ⟨S8x1, .i32⟩
  | .hbm, ⟨55, _⟩ => ⟨S_, .i32⟩
  | .hbm, ⟨56, _⟩ => ⟨S8x1, .i32⟩
  | .hbm, ⟨57, _⟩ => ⟨S8x1, .i32⟩
  | .hbm, ⟨58, _⟩ => ⟨S192, .i32⟩
  | .hbm, ⟨59, _⟩ => ⟨S1x192, .i32⟩
  | .hbm, ⟨60, _⟩ => ⟨S8x192, .i32⟩
  | .hbm, ⟨61, _⟩ => ⟨S8x192, .i32⟩
  | .hbm, ⟨62, _⟩ => ⟨S8x192, .i32⟩
  | .hbm, ⟨63, _⟩ => ⟨S8x192x1, .i32⟩
  | .hbm, ⟨64, _⟩ => ⟨S_, .i32⟩
  | .hbm, ⟨65, _⟩ => ⟨S8x192x1, .i32⟩
  | .hbm, ⟨66, _⟩ => ⟨S8x192x1, .i32⟩
  | .hbm, ⟨67, _⟩ => ⟨S16, .i32⟩
  | .hbm, ⟨68, _⟩ => ⟨S1x1x16, .i32⟩
  | .hbm, ⟨69, _⟩ => ⟨S8x192x16, .i32⟩
  | .hbm, ⟨70, _⟩ => ⟨S8x192x16, .i32⟩
  | .hbm, ⟨71, _⟩ => ⟨S8x192x16, .i32⟩
  | .hbm, ⟨72, _⟩ => ⟨S8x192x1, .i32⟩
  | .hbm, ⟨73, _⟩ => ⟨S_, .i32⟩
  | .hbm, ⟨74, _⟩ => ⟨S8x192x1, .i32⟩
  | .hbm, ⟨75, _⟩ => ⟨S8x192x1, .i1⟩
  | .hbm, ⟨76, _⟩ => ⟨S_, .i32⟩
  | .hbm, ⟨77, _⟩ => ⟨S8x192x16, .i32⟩
  | .hbm, ⟨78, _⟩ => ⟨S8x192x16, .i1⟩
  | .hbm, ⟨79, _⟩ => ⟨S8x192x16, .i1⟩
  | .hbm, ⟨80, _⟩ => ⟨S8x192x16, .i1⟩
  | .hbm, ⟨81, _⟩ => ⟨S1x1x64x192, .i1⟩
  | .hbm, ⟨82, _⟩ => ⟨S8x16x192, .i1⟩
  | .hbm, ⟨83, _⟩ => ⟨S8x16x1x192, .i1⟩
  | .hbm, ⟨84, _⟩ => ⟨S8x16x64x192, .i1⟩
  | .hbm, ⟨85, _⟩ => ⟨S8x16x64x192, .i1⟩
  | .hbm, ⟨86, _⟩ => ⟨S8x16x64x192, .i1⟩
  | .hbm, ⟨87, _⟩ => ⟨S2x8x16x16x64x192, .f32⟩
  | .hbm, ⟨88, _⟩ => ⟨S_, .f32⟩
  | .hbm, ⟨89, _⟩ => ⟨S2x8x16x16x64x192, .f32⟩
  | .hbm, ⟨90, _⟩ => ⟨S2x8x16x16x64x192, .f32⟩
  | .hbm, ⟨91, _⟩ => ⟨S1x8x16x1x64x192, .i1⟩
  | .hbm, ⟨92, _⟩ => ⟨S_, .f32⟩
  | .hbm, ⟨93, _⟩ => ⟨S_, .f32⟩
  | .hbm, ⟨94, _⟩ => ⟨S2x8x16x16x64x192, .i1⟩
  | .hbm, ⟨95, _⟩ => ⟨S2x8x16x16x64x192, .f32⟩
  | .hbm, ⟨96, _⟩ => ⟨S2x8x16x16x64x192, .f32⟩
  | .hbm, ⟨97, _⟩ => ⟨S_, .f32⟩
  | .hbm, ⟨98, _⟩ => ⟨S2x8x16x16x64, .f32⟩
  | .hbm, ⟨99, _⟩ => ⟨S2x8x16x16x64x1, .f32⟩
  | .hbm, ⟨100, _⟩ => ⟨S2x8x16x16x64x192, .f32⟩
  | .hbm, ⟨101, _⟩ => ⟨S2x8x16x16x64x192, .f32⟩
  | .hbm, ⟨102, _⟩ => ⟨S2x8x16x16x64x192, .f32⟩
  | .hbm, ⟨103, _⟩ => ⟨S_, .f32⟩
  | .hbm, ⟨104, _⟩ => ⟨S2x8x16x16x64, .f32⟩
  | .hbm, ⟨105, _⟩ => ⟨S2x8x16x16x64x64, .f32⟩
  | .hbm, ⟨106, _⟩ => ⟨S2x8x64x16x16x64, .f32⟩
  | .hbm, ⟨107, _⟩ => ⟨S2x8x64x16x16, .f32⟩
  | .hbm, ⟨108, _⟩ => ⟨S2x8x64x16x16x1, .f32⟩
  | .hbm, ⟨109, _⟩ => ⟨S2x8x64x16x16x64, .f32⟩
  | .hbm, ⟨110, _⟩ => ⟨S2x8x64x16x16x64, .f32⟩
  | .hbm, ⟨111, _⟩ => ⟨S2x8x16x16x64, .f32⟩
  | .hbm, ⟨112, _⟩ => ⟨S2x8x16x16x64, .f32⟩
  | .hbm, ⟨113, _⟩ => ⟨S2x8x16x16x64, .f32⟩
  | .hbm, ⟨114, _⟩ => ⟨S2x8x64x16x16, .f32⟩
  | .hbm, ⟨115, _⟩ => ⟨S2x8192x16x64, .f32⟩
  | .hbm, ⟨116, _⟩ => ⟨S2x8192x16, .f32⟩
  | .hbm, ⟨117, _⟩ => ⟨S2x512x16x1024, .f32⟩
  | .hbm, ⟨118, _⟩ => ⟨S2x16x512x1024, .f32⟩
  | .hbm, ⟨119, _⟩ => ⟨S2x512x16x16, .f32⟩
  | .hbm, ⟨120, _⟩ => ⟨S2x16x512x16, .f32⟩
  | .hbm, ⟨121, _⟩ => ⟨S2x16x512x1024, .bf16⟩
  | .hbm, ⟨122, _⟩ => ⟨S_, .i32⟩
  | .hbm, ⟨123, _⟩ => ⟨S_, .f32⟩
  | .hbm, ⟨124, _⟩ => ⟨S2x16x512x128, .f32⟩
  | _, _ => ⟨S2x8192x16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_call1_v0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_call2_v0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call3_v0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_c_3 : Ref sig .tc := ⟨.hbm, 26, rfl⟩
abbrev main_call4_v0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_c_4 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_c_5 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_c_6 : Ref sig .tc := ⟨.hbm, 52, rfl⟩
abbrev main_v37 : Ref sig .tc := ⟨.hbm, 53, rfl⟩
abbrev main_v38 : Ref sig .tc := ⟨.hbm, 54, rfl⟩
abbrev main_c_7 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_c_8 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_c_9 : Ref sig .tc := ⟨.hbm, 73, rfl⟩
abbrev main_v55 : Ref sig .tc := ⟨.hbm, 74, rfl⟩
abbrev main_v56 : Ref sig .tc := ⟨.hbm, 75, rfl⟩
abbrev main_c_10 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_cst : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_cst_11 : Ref sig .tc := ⟨.hbm, 92, rfl⟩
abbrev main_call5_v0 : Ref sig .tc := ⟨.hbm, 93, rfl⟩
abbrev main_call5_v1 : Ref sig .tc := ⟨.hbm, 94, rfl⟩
abbrev main_call5_v2 : Ref sig .tc := ⟨.hbm, 95, rfl⟩
abbrev main_v71 : Ref sig .tc := ⟨.hbm, 96, rfl⟩
abbrev main_cst_12 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_cst_13 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_c_14 : Ref sig .tc := ⟨.hbm, 122, rfl⟩
abbrev main_call6_v0 : Ref sig .tc := ⟨.hbm, 123, rfl⟩
abbrev main_v95 : Ref sig .tc := ⟨.hbm, 124, rfl⟩

abbrev nD : Nat := 1
abbrev τ : Topo := Topo.v7x

variable {F : FTy → Type} [FloatOps F]
-- ==== Kernel8.lean ====
abbrev S16384x1024 : Shape := ⟨2, ![16384, 1024]⟩
abbrev S1024 : Shape := ⟨1, ![1024]⟩
abbrev S1x1024 : Shape := ⟨2, ![1, 1024]⟩
abbrev S1024x1024 : Shape := ⟨2, ![1024, 1024]⟩
abbrev S1024x1 : Shape := ⟨2, ![1024, 1]⟩

abbrev nBuf : Space → Nat
  | .hbm => 4
  | .vmem => 5
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1x1024, .f32⟩
  | .hbm, ⟨3, _⟩ => ⟨S16384x1024, .bf16⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1024x1024, .bf16⟩
  | .local _ .vmem, ⟨4, _⟩ => ⟨S1024x1024, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference8Ideal.lean ====
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x1024, .f32⟩
  | .hbm, ⟨14, _⟩ => ⟨S16384x1024, .f32⟩
  | .hbm, ⟨15, _⟩ => ⟨S1x1024, .f32⟩
  | .hbm, ⟨16, _⟩ => ⟨S16384x1024, .f32⟩
  | .hbm, ⟨17, _⟩ => ⟨S16384x1024, .f32⟩
  | .hbm, ⟨18, _⟩ => ⟨S16384x1024, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Proof.Body.lean ====
/- The attention's body by named parts: what each 128-query, four-head unit of it computes, as one function of the unit's
   query, key, value and bias blocks. The eight stored pieces of the output and the two of the log-sum-exp are these
   functions of the loaded blocks, by unfolding. -/
module

public import proofs.«01_k».proof.Proof.Gen.KernelIdeal.Frame

@[expose] public section

set_option maxRecDepth 65536

noncomputable section

namespace Cert.KernelIdeal.Body

open Idealize.ShloMosaic Idealize.SL.Sem Cert.KernelIdeal Cert.KernelIdeal.Gen

variable {F : FTy → Type} [FloatOps F] [Named F]

/-- A query block with every lane that is not of head `j` (in the two-half layout) zeroed. -/
def qHead (j : BitVec 32) (q : FVec F S128x256 .bf16) : FVec F S128x256 .bf16 :=
  select (broadcastTo S128x256 (shapeCast S1x256 (cmpi .eq k0_pay2 (broadcast S1x256 j)) shapeCasts_S1x256_S1x256)
    broadcasts_S1x256_S128x256) q (broadcast S128x256 (Scalar.ofBits .bf16 0x0000#16))

/-- The four heads' scores, one head's 128 rows under another's. -/
def scores (q : FVec F S128x256 .bf16) (k : FVec F S256x256 .bf16) : FVec F S512x256 .f32 :=
  matmul dot_S512x256_S256x256_S512x256_1_1_0_0_n_n none
    (concatenate S512x256 0 [⟨S128x256, qHead 0#32 q⟩, ⟨S128x256, qHead 1#32 q⟩, ⟨S128x256, qHead 2#32 q⟩,
      ⟨S128x256, qHead 3#32 q⟩] concatenates_S128x256_S128x256_S128x256_S128x256_S512x256_d0)
    k (constant S512x256 .f32 0x00000000#32)

/-- The biased scores of head 0. -/
def sc0 (q : FVec F S128x256 .bf16) (k : FVec F S256x256 .bf16) (b : FVec F S128x256 .f32) : FVec F S128x256 .f32 :=
  addf (extractStridedSlice S128x256 ![0, 0] (scores q k) slices_S512x256_o0_0_S128x256) b

/-- The biased scores of head 1. -/
def sc1 (q : FVec F S128x256 .bf16) (k : FVec F S256x256 .bf16) (b : FVec F S128x256 .f32) : FVec F S128x256 .f32 :=
  addf (extractStridedSlice S128x256 ![128, 0] (scores q k) slices_S512x256_o128_0_S128x256) b

/-- The biased scores of head 2. -/
def sc2 (q : FVec F S128x256 .bf16) (k : FVec F S256x256 .bf16) (b : FVec F S128x256 .f32) : FVec F S128x256 .f32 :=
  addf (extractStridedSlice S128x256 ![256, 0] (scores q k) slices_S512x256_o256_0_S128x256) b

/-- The biased scores of head 3. -/
def sc3 (q : FVec F S128x256 .bf16) (k : FVec F S256x256 .bf16) (b : FVec F S128x256 .f32) : FVec F S128x256 .f32 :=
  addf (extractStridedSlice S128x256 ![384, 0] (scores q k) slices_S512x256_o384_0_S128x256) b

/-- A row's greatest score. -/
def rowMax (s : FVec F S128x256 .f32) : FVec F S128x1 .f32 :=
  shapeCast S128x1 (multiReduction .maximumf [1] S128 s 0xFF800000#32 reduces_S128x256_S128 (.inl rfl) rfl) shapeCasts_S128_S128x1

/-- The weights, relative to the row's greatest. -/
def weights (s : FVec F S128x256 .f32) : FVec F S128x256 .f32 :=
  exp2 (subf s (broadcastTo S128x256 (rowMax s) broadcasts_S128x1_S128x256))

/-- A row's sum of weights. -/
def rowSum (s : FVec F S128x256 .f32) : FVec F S128x1 .f32 :=
  shapeCast S128x1 (multiReduction .add [1] S128 (weights s) 0x00000000#32 reduces_S128x256_S128 (.inl rfl) rfl) shapeCasts_S128_S128x1

/-- The head of each lane of a value block: the lane divided by 64. -/
def vLane : IVec S1x256 32 := k0_pay4 (iota .tc S1x256 32 [1] iota_S1x256_d1_w32) 64#32 k0_pay3

/-- A value block with every lane that is not of head `j` zeroed. -/
def vHead (j : BitVec 32) (v : FVec F S256x256 .bf16) : FVec F S256x256 .bf16 :=
  select (broadcastTo S256x256 (shapeCast S1x256 (cmpi .eq vLane (broadcast S1x256 j)) shapeCasts_S1x256_S1x256)
    broadcasts_S1x256_S256x256) v (broadcast S256x256 (Scalar.ofBits .bf16 0x0000#16))

/-- One head's reciprocals written into its lanes. -/
def scaleStep (j : BitVec 32) (l : FVec F S128x1 .f32) (acc : FVec F S128x256 .f32) : FVec F S128x256 .f32 :=
  select (broadcastTo S128x256 (shapeCast S1x256 (cmpi .eq vLane (broadcast S1x256 j)) shapeCasts_S1x256_S1x256) broadcasts_S1x256_S128x256)
    (broadcastTo S128x256 (shapeCast S128x1 (divf (broadcast S128x1 (Scalar.ofBits .f32 0x3F800000#32)) l) shapeCasts_S128x1_S128x1)
      broadcasts_S128x1_S128x256) acc

/-- The output of one unit: 128 queries, four heads. -/
def quad (q : FVec F S128x256 .bf16) (k v : FVec F S256x256 .bf16) (b : FVec F S128x256 .f32) : FVec F S128x256 .bf16 :=
  truncf .bf16 (mulf
    (matmul dot_S128x1024_S1024x256_S128x256_1_0_0_1_n_n none
      (concatenate S128x1024 1 [⟨S128x256, truncf .bf16 (weights (sc0 q k b)) bitsLt_bf16_f32⟩,
        ⟨S128x256, truncf .bf16 (weights (sc1 q k b)) bitsLt_bf16_f32⟩, ⟨S128x256, truncf .bf16 (weights (sc2 q k b)) bitsLt_bf16_f32⟩,
        ⟨S128x256, truncf .bf16 (weights (sc3 q k b)) bitsLt_bf16_f32⟩] concatenates_S128x256_S128x256_S128x256_S128x256_S128x1024_d1)
      (concatenate S1024x256 0 [⟨S256x256, vHead 0#32 v⟩, ⟨S256x256, vHead 1#32 v⟩, ⟨S256x256, vHead 2#32 v⟩,
        ⟨S256x256, vHead 3#32 v⟩] concatenates_S256x256_S256x256_S256x256_S256x256_S1024x256_d0)
      (constant S128x256 .f32 0x00000000#32))
    (scaleStep 3#32 (rowSum (sc3 q k b)) (scaleStep 2#32 (rowSum (sc2 q k b)) (scaleStep 1#32 (rowSum (sc1 q k b))
      (scaleStep 0#32 (rowSum (sc0 q k b)) (broadcast S128x256 (Scalar.ofBits .f32 0x00000000#32))))))) bitsLt_bf16_f32

/-- One head's log-sum-exp written into its lane. -/
def lseStep (h : BitVec 32) (s : FVec F S128x256 .f32) (acc : FVec F S128x128 .f32) : FVec F S128x128 .f32 :=
  select (broadcastTo S128x128 (shapeCast S1x128 (cmpi .eq (iota .tc S1x128 32 [1] iota_S1x128_d1_w32) (broadcast S1x128 h))
      shapeCasts_S1x128_S1x128) broadcasts_S1x128_S128x128)
    (broadcastTo S128x128 (shapeCast S128x1 (addf (mulf (rowMax s) (broadcast S128x1 (Named.named κ "ln2" 0x3F317218#32))) (log (rowSum s)))
      shapeCasts_S128x1_S128x1) broadcasts_S128x1_S128x128) acc

/-- The four heads of one unit written into the log-sum-exp. -/
def lseQuad (h0 h1 h2 h3 : BitVec 32) (q : FVec F S128x256 .bf16) (k : FVec F S256x256 .bf16) (b : FVec F S128x256 .f32)
    (acc : FVec F S128x128 .f32) : FVec F S128x128 .f32 :=
  lseStep h3 (sc3 q k b) (lseStep h2 (sc2 q k b) (lseStep h1 (sc1 q k b) (lseStep h0 (sc0 q k b) acc)))

/-- A bias block without its leading axis. -/
def biasOf (x : Vec F S1x128x256 .f32) : FVec F S128x256 .f32 := shapeCast S128x256 (View.ld x r0_0) shapeCasts_S1x128x256_S128x256

/-- A loaded query block without its leading axes. -/
def qOf (x : Vec F S1x1x128x256 .bf16) : FVec F S128x256 .bf16 := shapeCast S128x256 x shapeCasts_S1x1x128x256_S128x256

/-- The keys of the first 128 queries of a block: 64 of the block before, then 192 of the block. -/
def lo (x : Vec F S1x1x64x256 .bf16) (y : Vec F S1x1x192x256 .bf16) : FVec F S256x256 .bf16 :=
  concatenate S256x256 0 [⟨S64x256, shapeCast S64x256 x shapeCasts_S1x1x64x256_S64x256⟩,
    ⟨S192x256, shapeCast S192x256 y shapeCasts_S1x1x192x256_S192x256⟩] concatenates_S64x256_S192x256_S256x256_d0

/-- The keys of the last 128 queries of a block: 192 of the block, then 64 of the block after. -/
def hi (y : Vec F S1x1x192x256 .bf16) (x : Vec F S1x1x64x256 .bf16) : FVec F S256x256 .bf16 :=
  concatenate S256x256 0 [⟨S192x256, shapeCast S192x256 y shapeCasts_S1x1x192x256_S192x256⟩,
    ⟨S64x256, shapeCast S64x256 x shapeCasts_S1x1x64x256_S64x256⟩] concatenates_S192x256_S64x256_S256x256_d0

/-- A unit's output as it is stored. -/
def out4 (x : FVec F S128x256 .bf16) : FVec F S1x1x128x256 .bf16 := shapeCast S1x1x128x256 x shapeCasts_S128x256_S1x1x128x256

/-- A half block's log-sum-exp as it is stored. -/
def lse4 (x : FVec F S128x128 .f32) : FVec F S1x1x128x128 .f32 := shapeCast S1x1x128x128 x shapeCasts_S128x128_S1x1x128x128

/-- The log-sum-exp before any head is written. -/
def lseZero : FVec F S128x128 .f32 := broadcast S128x128 (Scalar.ofBits .f32 0x00000000#32)

theorem out0_9_eq (x0 : Vec F S1x1x256x1024 .bf16) (x1 : Vec F S1x1x64x1024 .bf16) (x2 : Vec F S1x1x256x1024 .bf16)
    (x3 x4 : Vec F S1x1x64x1024 .bf16) (x5 : Vec F S1x1x256x1024 .bf16) (x6 : Vec F S1x1x64x1024 .bf16) (x7 x8 : Vec F S1x128x256 .f32) :
    out0_9 x0 x1 x2 x3 x4 x5 x6 x7 x8 = View.canon [
      ⟨r0_20, out4 (quad (qOf (View.ld x0 r0_20)) (hi (View.ld x2 r0_21) (View.ld x3 r0_11)) (hi (View.ld x5 r0_21) (View.ld x6 r0_11)) (biasOf x8))⟩,
      ⟨r0_18, out4 (quad (qOf (View.ld x0 r0_18)) (hi (View.ld x2 r0_19) (View.ld x3 r0_8)) (hi (View.ld x5 r0_19) (View.ld x6 r0_8)) (biasOf x8))⟩,
      ⟨r0_16, out4 (quad (qOf (View.ld x0 r0_16)) (hi (View.ld x2 r0_17) (View.ld x3 r0_5)) (hi (View.ld x5 r0_17) (View.ld x6 r0_5)) (biasOf x8))⟩,
      ⟨r0_14, out4 (quad (qOf (View.ld x0 r0_14)) (hi (View.ld x2 r0_15) (View.ld x3 r0_2)) (hi (View.ld x5 r0_15) (View.ld x6 r0_2)) (biasOf x8))⟩,
      ⟨r0_10, out4 (quad (qOf (View.ld x0 r0_10)) (lo (View.ld x1 r0_11) (View.ld x2 r0_12)) (lo (View.ld x4 r0_11) (View.ld x5 r0_12)) (biasOf x7))⟩,
      ⟨r0_7, out4 (quad (qOf (View.ld x0 r0_7)) (lo (View.ld x1 r0_8) (View.ld x2 r0_9)) (lo (View.ld x4 r0_8) (View.ld x5 r0_9)) (biasOf x7))⟩,
      ⟨r0_4, out4 (quad (qOf (View.ld x0 r0_4)) (lo (View.ld x1 r0_5) (View.ld x2 r0_6)) (lo (View.ld x4 r0_5) (View.ld x5 r0_6)) (biasOf x7))⟩,
      ⟨r0_1, out4 (quad (qOf (View.ld x0 r0_1)) (lo (View.ld x1 r0_2) (View.ld x2 r0_3)) (lo (View.ld x4 r0_2) (View.ld x5 r0_3)) (biasOf x7))⟩] := by
  rfl

theorem out0_10_eq (x0 : Vec F S1x1x256x1024 .bf16) (x1 : Vec F S1x1x64x1024 .bf16) (x2 : Vec F S1x1x256x1024 .bf16)
    (x3 x4 : Vec F S1x1x64x1024 .bf16) (x5 : Vec F S1x1x256x1024 .bf16) (x6 : Vec F S1x1x64x1024 .bf16) (x7 x8 : Vec F S1x128x256 .f32) :
    out0_10 x0 x1 x2 x3 x4 x5 x6 x7 x8 = View.canon [
      ⟨r0_22, lse4 (lseQuad 12#32 13#32 14#32 15#32 (qOf (View.ld x0 r0_20)) (hi (View.ld x2 r0_21) (View.ld x3 r0_11)) (biasOf x8)
        (lseQuad 8#32 9#32 10#32 11#32 (qOf (View.ld x0 r0_18)) (hi (View.ld x2 r0_19) (View.ld x3 r0_8)) (biasOf x8)
        (lseQuad 4#32 5#32 6#32 7#32 (qOf (View.ld x0 r0_16)) (hi (View.ld x2 r0_17) (View.ld x3 r0_5)) (biasOf x8)
        (lseQuad 0#32 1#32 2#32 3#32 (qOf (View.ld x0 r0_14)) (hi (View.ld x2 r0_15) (View.ld x3 r0_2)) (biasOf x8) lseZero))))⟩,
      ⟨r0_13, lse4 (lseQuad 12#32 13#32 14#32 15#32 (qOf (View.ld x0 r0_10)) (lo (View.ld x1 r0_11) (View.ld x2 r0_12)) (biasOf x7)
        (lseQuad 8#32 9#32 10#32 11#32 (qOf (View.ld x0 r0_7)) (lo (View.ld x1 r0_8) (View.ld x2 r0_9)) (biasOf x7)
        (lseQuad 4#32 5#32 6#32 7#32 (qOf (View.ld x0 r0_4)) (lo (View.ld x1 r0_5) (View.ld x2 r0_6)) (biasOf x7)
        (lseQuad 0#32 1#32 2#32 3#32 (qOf (View.ld x0 r0_1)) (lo (View.ld x1 r0_2) (View.ld x2 r0_3)) (biasOf x7) lseZero))))⟩] := by
  rfl

end Cert.KernelIdeal.Body

end
-- ==== Proof.Band.lean ====
/- Softmax over a band of positions, at the extended reals: the rows that the kernel and the reference form, padded with positions
   outside the band whose score is −∞, give the same weighted mean and the same log-sum-exp. Nothing here is about a program. -/
module

public import Idealize.ShloMosaic.Lib.Pointwise

@[expose] public section

noncomputable section

namespace Cert.Band

open Idealize.ShloMosaic

theorem ix4_congr {n0 n1 n2 n3 : ℕ} {a a' : Fin n0} {b b' : Fin n1} {x x' : Fin n2} {y y' : Fin n3} (ha : (a : ℕ) = a') (hb : (b : ℕ) = b')
    (hx : (x : ℕ) = x') (hy : (y : ℕ) = y') : (ix4 a b x y : Shape.Idx (⟨4, ![n0, n1, n2, n3]⟩ : Shape)) = ix4 a' b' x' y' := by
  rw [Fin.ext ha, Fin.ext hb, Fin.ext hx, Fin.ext hy]

/-- The greatest of a row. -/
def mx {n : ℕ} (f : Fin n → EReal) : EReal := Finset.univ.fold max ⊥ f

/-- A row's weights to base two. -/
def wt {n : ℕ} (f : Fin n → EReal) (x : Fin n) : EReal := Ideal.exp2 (f x - mx f)

/-- A row's sum of weights. -/
def sm {n : ℕ} (f : Fin n → EReal) : EReal := ∑ x, wt f x

/-- A row's log-sum-exp, from its greatest score and its sum of weights, both to base two. -/
def lseVal {n : ℕ} (f : Fin n → EReal) : EReal := mx f * ((Real.log 2 : ℝ) : EReal) + Ideal.log (sm f)

/-- A row's weights to base e. -/
def ew {n : ℕ} (f : Fin n → EReal) (x : Fin n) : EReal := Ideal.exp (f x - mx f)

/-- A row's sum of weights to base e. -/
def es {n : ℕ} (f : Fin n → EReal) : EReal := ∑ x, ew f x

variable {M : ℕ}

/-- The positions at most 64 away from position `n`, itself among them. -/
def near (n : Fin M) : Finset (Fin M) := Finset.univ.filter fun t => (n : ℕ) ≤ t + 64 ∧ (t : ℕ) ≤ n + 64

theorem self_near (n : Fin M) : n ∈ near n := by simp [near]

/-- The greatest score in the band. -/
def top (n : Fin M) (g : Fin M → ℝ) : ℝ := (near n).sup' ⟨n, self_near n⟩ g

/-- A position's weight, of scores that are an eighth of `g`. -/
def wgt (n : Fin M) (g : Fin M → ℝ) (t : Fin M) : ℝ := Real.exp ((g t - top n g) / 8)

/-- The band's sum of weights. -/
def tot (n : Fin M) (g : Fin M → ℝ) : ℝ := ∑ t ∈ near n, wgt n g t

/-- The band's weighted mean of `v`. -/
def mean (n : Fin M) (g : Fin M → ℝ) (v : Fin M → EReal) : EReal :=
  (∑ t ∈ near n, (wgt n g t : EReal) * v t) * ((tot n g : ℝ) : EReal)⁻¹

/-- The band's log-sum-exp. -/
def lse (n : Fin M) (g : Fin M → ℝ) : EReal := ((top n g / 8 + Real.log (tot n g) : ℝ) : EReal)

/-- Whether column `x` of a row of scores stands for a position in the band: the row is for position `base + row`, its columns
    for the positions from `base - 64` on. -/
def Valid (M base row x : ℕ) : Prop := row ≤ x ∧ x ≤ row + 128 ∧ 64 ≤ base + x ∧ base + x < M + 64

instance (M base row x : ℕ) : Decidable (Valid M base row x) := by unfold Valid; infer_instance

variable [NeZero M]

/-- The position that column `x` stands for (clamped where there is none). -/
def pos (base x : ℕ) : Fin M := ⟨min (base + x - 64) (M - 1), by have := NeZero.pos M; omega⟩

/-- A sum over a row's valid columns is the sum over the band. -/
theorem sum_valid {N base row : ℕ} (hN : row + 128 < N) (n : Fin M) (hn : (n : ℕ) = base + row) {A : Type} [AddCommMonoid A]
    (f : Fin M → A) : (∑ x : Fin N, if Valid M base row x then f (pos base x) else 0) = ∑ t ∈ near n, f t := by
  rw [← Finset.sum_filter]
  refine Finset.sum_bij (fun x _ => pos base x) ?_ ?_ ?_ ?_
  · intro x hx
    obtain ⟨h1, h2, h3, h4⟩ := (Finset.mem_filter.1 hx).2
    exact Finset.mem_filter.2 ⟨Finset.mem_univ _, by simp only [pos]; omega, by simp only [pos]; omega⟩
  · intro x hx y hy h
    obtain ⟨h1, h2, h3, h4⟩ := (Finset.mem_filter.1 hx).2
    obtain ⟨k1, k2, k3, k4⟩ := (Finset.mem_filter.1 hy).2
    simp only [pos, Fin.mk.injEq] at h
    apply Fin.ext; omega
  · intro t ht
    obtain ⟨h1, h2⟩ := (Finset.mem_filter.1 ht).2
    have := t.isLt
    refine ⟨⟨t + 64 - base, by omega⟩, Finset.mem_filter.2 ⟨Finset.mem_univ _, ?_⟩, ?_⟩
    · refine ⟨?_, ?_, ?_, ?_⟩ <;> dsimp only <;> omega
    · apply Fin.ext; simp only [pos]; omega
  · intro x _; rfl

theorem exists_valid {N base row : ℕ} (hN : row + 128 < N) (n : Fin M) (hn : (n : ℕ) = base + row) {t : Fin M} (ht : t ∈ near n) :
    ∃ x : Fin N, Valid M base row x ∧ pos base x = t := by
  simp only [near, Finset.mem_filter, Finset.mem_univ, true_and] at ht
  have := t.isLt
  refine ⟨⟨t + 64 - base, by omega⟩, ?_, ?_⟩
  · refine ⟨?_, ?_, ?_, ?_⟩ <;> dsimp only <;> omega
  · apply Fin.ext; simp only [pos]; omega

theorem pos_near {N base row : ℕ} (n : Fin M) (hn : (n : ℕ) = base + row) {x : Fin N} (hx : Valid M base row x) : pos base x ∈ near n := by
  obtain ⟨h1, h2, h3, h4⟩ := hx
  simp only [near, pos, Finset.mem_filter, Finset.mem_univ, true_and]; omega

/-- The greatest of a row of scores. -/
theorem mx_valid {N base row : ℕ} (hN : row + 128 < N) (n : Fin M) (hn : (n : ℕ) = base + row) (a : ℝ) (ha : 0 ≤ a)
    (g : Fin M → ℝ) (s : Fin N → EReal) (hs : ∀ x, s x = if Valid M base row x then ((a * g (pos base x) : ℝ) : EReal) else ⊥) :
    mx s = ((a * top n g : ℝ) : EReal) := by
  unfold mx
  apply le_antisymm
  · rw [Finset.fold_max_le]
    refine ⟨bot_le, fun x _ => ?_⟩
    rw [hs]
    split
    · next h =>
      exact EReal.coe_le_coe_iff.2 (mul_le_mul_of_nonneg_left (Finset.le_sup' g (pos_near n hn h)) ha)
    · exact bot_le
  · rw [Finset.le_fold_max]
    right
    obtain ⟨t, ht, he⟩ := Finset.exists_mem_eq_sup' ⟨n, self_near n⟩ g
    obtain ⟨x, hv, hp⟩ := exists_valid hN n hn ht
    refine ⟨x, Finset.mem_univ _, ?_⟩
    rw [hs, if_pos hv, hp, top, he]

theorem tot_pos (n : Fin M) (g : Fin M → ℝ) : 0 < tot n g :=
  Finset.sum_pos (fun _ _ => Real.exp_pos _) ⟨n, self_near n⟩

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale that the kernel's scores bear: an eighth, to base two. -/
def c2 : ℝ := (Real.log 2)⁻¹ * (1 / 8)

theorem c2_pos : 0 < c2 := mul_pos (inv_pos.2 (Real.log_pos (by norm_num))) (by norm_num)

theorem exp2_c2 (x y : ℝ) : Ideal.exp2 (((c2 * x : ℝ) : EReal) - ((c2 * y : ℝ) : EReal)) = ((Real.exp ((x - y) / 8) : ℝ) : EReal) := by
  rw [← EReal.coe_sub]
  show ((Real.rpow 2 (c2 * x - c2 * y) : ℝ) : EReal) = _
  congr 1
  show (2 : ℝ) ^ (c2 * x - c2 * y) = _
  rw [Real.rpow_def_of_pos (by norm_num)]
  congr 1
  have : Real.log 2 ≠ 0 := (Real.log_pos (by norm_num)).ne'
  unfold c2
  field_simp

theorem exp_eighth (x y : ℝ) : Ideal.exp (((1 / 8 * x : ℝ) : EReal) - ((1 / 8 * y : ℝ) : EReal)) = ((Real.exp ((x - y) / 8) : ℝ) : EReal) := by
  rw [← EReal.coe_sub]
  show ((Real.exp (1 / 8 * x - 1 / 8 * y) : ℝ) : EReal) = _
  congr 2; ring

theorem div_one (x : EReal) (n : Fin M) (g : Fin M → ℝ) : x * Ideal.div 1 ((tot n g : ℝ) : EReal) = x * ((tot n g : ℝ) : EReal)⁻¹ := by
  have h : ((tot n g : ℝ) : EReal) ≠ 0 := by exact_mod_cast (tot_pos n g).ne'
  simp only [Ideal.div, if_neg h, one_mul]

theorem div_tot (x : EReal) (n : Fin M) (g : Fin M → ℝ) : Ideal.div x ((tot n g : ℝ) : EReal) = x * ((tot n g : ℝ) : EReal)⁻¹ := by
  have h : ((tot n g : ℝ) : EReal) ≠ 0 := by exact_mod_cast (tot_pos n g).ne'
  simp only [Ideal.div, if_neg h]

theorem log_tot (n : Fin M) (g : Fin M → ℝ) : Ideal.log ((tot n g : ℝ) : EReal) = ((Real.log (tot n g) : ℝ) : EReal) := by
  show (if tot n g ≤ 0 then (⊥ : EReal) else ((Real.log (tot n g) : ℝ) : EReal)) = _
  rw [if_neg (not_le.2 (tot_pos n g))]

section Rows

variable {N base row : ℕ} (hN : row + 128 < N) (n : Fin M) (hn : (n : ℕ) = base + row) (g : Fin M → ℝ) (s : Fin N → EReal)

include hN hn

/-- A weight to base two. -/
theorem wt_valid (hs : ∀ x, s x = if Valid M base row x then ((c2 * g (pos base x) : ℝ) : EReal) else ⊥) (x : Fin N) :
    wt s x = if Valid M base row x then ((wgt n g (pos base x) : ℝ) : EReal) else 0 := by
  unfold wt
  rw [mx_valid hN n hn c2 c2_pos.le g s hs, hs]
  split
  · exact exp2_c2 _ _
  · rfl

/-- A weight to base e. -/
theorem ew_valid (hs : ∀ x, s x = if Valid M base row x then ((1 / 8 * g (pos base x) : ℝ) : EReal) else ⊥) (x : Fin N) :
    ew s x = if Valid M base row x then ((wgt n g (pos base x) : ℝ) : EReal) else 0 := by
  unfold ew
  rw [mx_valid hN n hn (1 / 8) (by norm_num) g s hs, hs]
  split
  · exact exp_eighth _ _
  · rfl

omit hN hn in
theorem sum_weights (hN : row + 128 < N) (hn : (n : ℕ) = base + row) (w : Fin N → EReal)
    (hw : ∀ x, w x = if Valid M base row x then ((wgt n g (pos base x) : ℝ) : EReal) else 0) : ∑ x, w x = ((tot n g : ℝ) : EReal) := by
  unfold tot
  rw [coe_sum, ← sum_valid hN n hn fun t => ((wgt n g t : ℝ) : EReal)]
  exact Finset.sum_congr rfl fun x _ => hw x

omit hN hn in
theorem sum_weighted (hN : row + 128 < N) (hn : (n : ℕ) = base + row) (w v : Fin N → EReal) (vt : Fin M → EReal)
    (hw : ∀ x, w x = if Valid M base row x then ((wgt n g (pos base x) : ℝ) : EReal) else 0)
    (hv : ∀ x : Fin N, Valid M base row x → v x = vt (pos base x)) : ∑ x, w x * v x = ∑ t ∈ near n, (wgt n g t : EReal) * vt t := by
  rw [← sum_valid hN n hn fun t => (wgt n g t : EReal) * vt t]
  refine Finset.sum_congr rfl fun x _ => ?_
  rw [hw]
  split
  · next h => rw [hv x h]
  · exact zero_mul _

/-- The kernel's row: the weighted sum times the reciprocal of the sum of weights. -/
theorem mean_of_row2 (hs : ∀ x, s x = if Valid M base row x then ((c2 * g (pos base x) : ℝ) : EReal) else ⊥) (v : Fin N → EReal)
    (vt : Fin M → EReal) (hv : ∀ x : Fin N, Valid M base row x → v x = vt (pos base x)) :
    (∑ x, wt s x * v x) * Ideal.div 1 (sm s) = mean n g vt := by
  have hw := wt_valid hN n hn g s hs
  rw [sm, sum_weights n g hN hn _ hw, div_one, sum_weighted n g hN hn _ v vt hw hv, mean]

/-- The kernel's log-sum-exp. -/
theorem lse_of_row2 (hs : ∀ x, s x = if Valid M base row x then ((c2 * g (pos base x) : ℝ) : EReal) else ⊥) : lseVal s = lse n g := by
  have hw := wt_valid hN n hn g s hs
  rw [lseVal, mx_valid hN n hn c2 c2_pos.le g s hs, sm, sum_weights n g hN hn _ hw, log_tot, ← EReal.coe_mul, ← EReal.coe_add, lse]
  congr 2
  have : Real.log 2 ≠ 0 := (Real.log_pos (by norm_num)).ne'
  unfold c2
  field_simp

/-- The reference's row: the weighted sum over the sum of weights. -/
theorem mean_of_row (hs : ∀ x, s x = if Valid M base row x then ((1 / 8 * g (pos base x) : ℝ) : EReal) else ⊥) (v : Fin N → EReal)
    (vt : Fin M → EReal) (hv : ∀ x : Fin N, Valid M base row x → v x = vt (pos base x)) :
    Ideal.div (∑ x, ew s x * v x) (es s) = mean n g vt := by
  have hw := ew_valid hN n hn g s hs
  rw [es, sum_weights n g hN hn _ hw, div_tot, sum_weighted n g hN hn _ v vt hw hv, mean]

/-- The reference's log-sum-exp. -/
theorem lse_of_row (hs : ∀ x, s x = if Valid M base row x then ((1 / 8 * g (pos base x) : ℝ) : EReal) else ⊥) :
    mx s + Ideal.log (es s) = lse n g := by
  have hw := ew_valid hN n hn g s hs
  rw [mx_valid hN n hn (1 / 8) (by norm_num) g s hs, es, sum_weights n g hN hn _ hw, log_tot, ← EReal.coe_add, lse]
  congr 2; ring

end Rows

end Cert.Band

end
-- ==== Proof.BodyIdeal.lean ====
/- The attention's body at the extended reals, index by index. -/
module

public import proofs.«01_k».proof.Proof.Body
public import proofs.«01_k».proof.Proof.Band
public import Idealize.ShloMosaic.Lib.Pointwise

@[expose] public section

set_option maxRecDepth 16384

noncomputable section

namespace Cert.KernelIdeal.Body

open Idealize.ShloMosaic Idealize.SL.Sem Cert.KernelIdeal Cert.KernelIdeal.Gen Cert.Band

theorem qLane (x : Fin 256) : k0_pay2 (ix2 0 x) = BitVec.ofNat 32 ((x : ℕ) % 128 / 32) := by
  revert x; decide +kernel

theorem vLane_eq (x : Fin 256) : vLane (ix2 0 x) = BitVec.ofNat 32 ((x : ℕ) / 64) := by
  revert x; decide +kernel

theorem zero_bf16 : Ideal.ofBits .bf16 0x0000#16 = 0 := by simp [Ideal.ofBits, Ideal.ieee]

theorem zero_f32 : Ideal.ofBits .f32 0x00000000#32 = 0 := by simp [Ideal.ofBits, Ideal.ieee]

theorem one_f32 : Ideal.ofBits .f32 0x3F800000#32 = 1 := by
  simp [Ideal.ofBits, Ideal.ieee, -EReal.coe_mul]; norm_num

theorem ninf_f32 : Ideal.ofBits .f32 0xFF800000#32 = ⊥ := by simp [Ideal.ofBits, Ideal.ieee]

theorem rowMax_apply (s : FVec Ideal S128x256 .f32) (r : Fin 128) :
    rowMax s (ix2 r 0) = mx fun x => s (ix2 r x) := by
  unfold rowMax mx
  pointwise
  rw [ninf_f32]

theorem weights_apply (s : FVec Ideal S128x256 .f32) (r : Fin 128) (x : Fin 256) :
    weights s (ix2 r x) = wt (fun x => s (ix2 r x)) x := by
  unfold weights wt
  pointwise
  rw [rowMax_apply]
  rfl

theorem rowSum_apply (s : FVec Ideal S128x256 .f32) (r : Fin 128) :
    rowSum s (ix2 r 0) = sm fun x => s (ix2 r x) := by
  unfold rowSum sm
  pointwise
  simp only [weights_apply]

theorem select_eq_ite (a b : BitVec 32) (x y : EReal) : Scalar.select (IntOp.cmpi .eq a b) x y = if a = b then x else y := by
  by_cases h : a = b
  · subst h; simp [Scalar.select, IntOp.cmpi]
  · have h' : (a == b) = false := by simp [h]
    simp [Scalar.select, IntOp.cmpi, h, h']

theorem qHead_apply (j : BitVec 32) (q : FVec Ideal S128x256 .bf16) (r : Fin 128) (x : Fin 256) :
    qHead j q (ix2 r x) = if BitVec.ofNat 32 ((x : ℕ) % 128 / 32) = j then q (ix2 r x) else (0 : EReal) := by
  unfold qHead
  pointwise
  rw [qLane]
  exact select_eq_ite _ _ _ _

theorem vHead_apply (j : BitVec 32) (v : FVec Ideal S256x256 .bf16) (r : Fin 256) (x : Fin 256) :
    vHead j v (ix2 r x) = if BitVec.ofNat 32 ((x : ℕ) / 64) = j then v (ix2 r x) else (0 : EReal) := by
  unfold vHead
  pointwise
  rw [vLane_eq]
  exact select_eq_ite _ _ _ _

theorem scaleStep_apply (j : BitVec 32) (l : FVec Ideal S128x1 .f32) (acc : FVec Ideal S128x256 .f32) (r : Fin 128) (x : Fin 256) :
    scaleStep j l acc (ix2 r x) = if BitVec.ofNat 32 ((x : ℕ) / 64) = j then Ideal.div 1 (l (ix2 r 0)) else acc (ix2 r x) := by
  unfold scaleStep
  pointwise
  rw [vLane_eq]
  exact select_eq_ite _ _ _ _

/-- The lane of head `j`'s feature `f` in a query or key block: the two halves of the features are 128 lanes apart. -/
def lane (j : Fin 4) (f : Fin 64) : Fin 256 := ⟨(f : ℕ) / 32 * 128 + (j : ℕ) * 32 + (f : ℕ) % 32, by omega⟩

/-- A sum over the lanes of one head. -/
theorem sum_lanes (j : Fin 4) (A : Fin 256 → EReal) :
    (∑ x : Fin 256, if BitVec.ofNat 32 ((x : ℕ) % 128 / 32) = BitVec.ofNat 32 (j : ℕ) then A x else 0) = ∑ f, A (lane j f) := by
  have h : ∀ x : Fin 256, BitVec.ofNat 32 ((x : ℕ) % 128 / 32) = BitVec.ofNat 32 (j : ℕ) ↔ (x : ℕ) % 128 / 32 = j := by
    revert j; decide +kernel
  simp only [h]
  rw [← Finset.sum_filter]
  symm
  refine Finset.sum_nbij (lane j) ?_ ?_ ?_ ?_
  · intro f _
    simp only [Finset.mem_filter, Finset.mem_univ, true_and, lane]
    omega
  · intro f _ g _ e
    simp only [lane, Fin.mk.injEq] at e
    ext; omega
  · intro x hx
    simp only [Finset.coe_filter, Finset.mem_univ, true_and, Set.mem_setOf_eq] at hx
    refine ⟨⟨(x : ℕ) / 128 * 32 + (x : ℕ) % 32, by omega⟩, by simp, ?_⟩
    ext; simp only [lane]; omega
  · intro f _; rfl

/-- A query's biased scores of head `j` against the unit's 256 keys. -/
def sRow (q : FVec Ideal S128x256 .bf16) (k : FVec Ideal S256x256 .bf16) (b : FVec Ideal S128x256 .f32) (j : Fin 4) (r : Fin 128)
    (x : Fin 256) : EReal :=
  (∑ f, q (ix2 r (lane j f)) * k (ix2 x (lane j f))) + b (ix2 r x)

theorem head_sum (j : Fin 4) (jw : BitVec 32) (hj : jw = BitVec.ofNat 32 (j : ℕ)) (q : FVec Ideal S128x256 .bf16)
    (k : FVec Ideal S256x256 .bf16) (r : Fin 128) (x : Fin 256) :
    (∑ y : Fin 256, (qHead jw q (ix2 r y) : EReal) * k (ix2 x y)) = ∑ f, (q (ix2 r (lane j f)) : EReal) * k (ix2 x (lane j f)) := by
  subst hj
  simp only [qHead_apply, ite_mul, zero_mul]
  exact sum_lanes j fun y => q (ix2 r y) * k (ix2 x y)

theorem sc0_apply (q : FVec Ideal S128x256 .bf16) (k : FVec Ideal S256x256 .bf16) (b : FVec Ideal S128x256 .f32) (r : Fin 128) (x : Fin 256) :
    sc0 q k b (ix2 r x) = sRow q k b 0 r x := by
  unfold sc0 scores sRow
  pointwise
  exact congrArg (· + b (ix2 r x)) (head_sum 0 _ rfl q k r x)

theorem sc1_apply (q : FVec Ideal S128x256 .bf16) (k : FVec Ideal S256x256 .bf16) (b : FVec Ideal S128x256 .f32) (r : Fin 128) (x : Fin 256) :
    sc1 q k b (ix2 r x) = sRow q k b 1 r x := by
  unfold sc1 scores sRow
  pointwise
  exact congrArg (· + b (ix2 r x)) (head_sum 1 _ rfl q k r x)

theorem sc2_apply (q : FVec Ideal S128x256 .bf16) (k : FVec Ideal S256x256 .bf16) (b : FVec Ideal S128x256 .f32) (r : Fin 128) (x : Fin 256) :
    sc2 q k b (ix2 r x) = sRow q k b 2 r x := by
  unfold sc2 scores sRow
  pointwise
  have n1 : ¬ (256 + (r : ℕ) < 128) := by omega
  have n2 : ¬ (256 + (r : ℕ) - 128 < 128) := by omega
  have n3 : 256 + (r : ℕ) - 128 - 128 = r := by omega
  simp only [n1, n2, n3, r.isLt, dite_true, dite_false, Fin.eta]
  exact congrArg (· + b (ix2 r x)) (head_sum 2 _ rfl q k r x)

theorem sc3_apply (q : FVec Ideal S128x256 .bf16) (k : FVec Ideal S256x256 .bf16) (b : FVec Ideal S128x256 .f32) (r : Fin 128) (x : Fin 256) :
    sc3 q k b (ix2 r x) = sRow q k b 3 r x := by
  unfold sc3 scores sRow
  pointwise
  have n1 : ¬ (384 + (r : ℕ) < 128) := by omega
  have n2 : ¬ (384 + (r : ℕ) - 128 < 128) := by omega
  have n3 : ¬ (384 + (r : ℕ) - 128 - 128 < 128) := by omega
  have n4 : 384 + (r : ℕ) - 128 - 128 - 128 = r := by omega
  simp only [n1, n2, n3, n4, dite_false, Fin.eta]
  exact congrArg (· + b (ix2 r x)) (head_sum 3 _ rfl q k r x)

/-- A sum of 1024 terms as four runs of 256. -/
theorem sum_quads (G : Fin 1024 → EReal) :
    ∑ x, G x = ∑ a : Fin 256, (G ⟨a, by omega⟩ + G ⟨256 + a, by omega⟩ + G ⟨512 + a, by omega⟩ + G ⟨768 + a, by omega⟩) := by
  rw [Finset.sum_add_distrib, Finset.sum_add_distrib, Finset.sum_add_distrib]
  have h1 := Fin.sum_univ_add (a := 768) (b := 256) G
  have h2 := Fin.sum_univ_add (a := 512) (b := 256) fun i => G (Fin.castAdd 256 i)
  have h3 := Fin.sum_univ_add (a := 256) (b := 256) fun i => G (Fin.castAdd 256 (Fin.castAdd 256 i))
  rw [h2, h3] at h1
  exact h1

/-- The unit's output of query `r` at lane `x`: the weighted sum of the values of the lane's head, over the sum of weights. -/
theorem quad_apply (q : FVec Ideal S128x256 .bf16) (k v : FVec Ideal S256x256 .bf16) (b : FVec Ideal S128x256 .f32) (r : Fin 128)
    (x : Fin 256) : quad q k v b (ix2 r x)
      = (∑ a, wt (sRow q k b ⟨(x : ℕ) / 64, by omega⟩ r) a * v (ix2 a x)) * Ideal.div 1 (sm (sRow q k b ⟨(x : ℕ) / 64, by omega⟩ r)) := by
  have e0 : (fun x => sc0 q k b (ix2 r x)) = sRow q k b 0 r := funext (sc0_apply q k b r)
  have e1 : (fun x => sc1 q k b (ix2 r x)) = sRow q k b 1 r := funext (sc1_apply q k b r)
  have e2 : (fun x => sc2 q k b (ix2 r x)) = sRow q k b 2 r := funext (sc2_apply q k b r)
  have e3 : (fun x => sc3 q k b (ix2 r x)) = sRow q k b 3 r := funext (sc3_apply q k b r)
  unfold quad
  pointwise
  rw [sum_quads]
  simp only [weights_apply, vHead_apply, scaleStep_apply, rowSum_apply, e0, e1, e2, e3]
  have hx : (x : ℕ) / 64 = 0 ∨ (x : ℕ) / 64 = 1 ∨ (x : ℕ) / 64 = 2 ∨ (x : ℕ) / 64 = 3 := by omega
  have a1 : ∀ a : Fin 256, ¬ (256 + (a : ℕ) < 256) := by omega
  have a2 : ∀ a : Fin 256, ¬ (512 + (a : ℕ) < 256) := by omega
  have a3 : ∀ a : Fin 256, ¬ (768 + (a : ℕ) < 256) := by omega
  have a4 : ∀ a : Fin 256, 512 + (a : ℕ) - 256 = 256 + a := by omega
  have a5 : ∀ a : Fin 256, 768 + (a : ℕ) - 256 = 512 + a := by omega
  have a6 : ∀ a : Fin 256, 512 + (a : ℕ) - 256 = 256 + a := by omega
  rcases hx with h | h | h | h <;>
    simp [h, a1, a2, a3, a4, a5, a6]

theorem lLane (l : Fin 128) : iota .tc S1x128 32 [1] iota_S1x128_d1_w32 (ix2 0 l) = BitVec.ofNat 32 (l : ℕ) := by
  revert l; decide +kernel

theorem ln2_named : Named.named (F := Ideal) (φ := .f32) κ "ln2" 0x3F317218#32 = ((Real.log 2 : ℝ) : EReal) :=
  IdealRules.named_const.ideal_named_scalar _ _ _ _ rfl

theorem lseStep_apply (h : BitVec 32) (s : FVec Ideal S128x256 .f32) (acc : FVec Ideal S128x128 .f32) (r l : Fin 128) :
    lseStep h s acc (ix2 r l) = if BitVec.ofNat 32 (l : ℕ) = h then lseVal (fun x => s (ix2 r x)) else acc (ix2 r l) := by
  unfold lseStep lseVal
  pointwise
  rw [rowMax_apply, rowSum_apply, ln2_named]
  exact select_eq_ite _ _ _ _

theorem word_eq (a b : ℕ) (ha : a < 4096) (hb : b < 4096) : BitVec.ofNat 32 a = BitVec.ofNat 32 b ↔ a = b := by
  constructor
  · intro h
    have := congrArg BitVec.toNat h
    simp only [BitVec.toNat_ofNat] at this
    omega
  · rintro rfl; rfl

theorem lseQuad_apply (c : Fin 4) (h0 h1 h2 h3 : BitVec 32) (e0 : h0 = BitVec.ofNat 32 (4 * c)) (e1 : h1 = BitVec.ofNat 32 (4 * c + 1))
    (e2 : h2 = BitVec.ofNat 32 (4 * c + 2)) (e3 : h3 = BitVec.ofNat 32 (4 * c + 3)) (q : FVec Ideal S128x256 .bf16)
    (k : FVec Ideal S256x256 .bf16) (b : FVec Ideal S128x256 .f32) (acc : FVec Ideal S128x128 .f32) (r l : Fin 128) :
    lseQuad h0 h1 h2 h3 q k b acc (ix2 r l)
      = if (l : ℕ) / 4 = c then lseVal (sRow q k b ⟨(l : ℕ) % 4, by omega⟩ r) else acc (ix2 r l) := by
  have s0 : (fun x => sc0 q k b (ix2 r x)) = sRow q k b 0 r := funext (sc0_apply q k b r)
  have s1 : (fun x => sc1 q k b (ix2 r x)) = sRow q k b 1 r := funext (sc1_apply q k b r)
  have s2 : (fun x => sc2 q k b (ix2 r x)) = sRow q k b 2 r := funext (sc2_apply q k b r)
  have s3 : (fun x => sc3 q k b (ix2 r x)) = sRow q k b 3 r := funext (sc3_apply q k b r)
  subst e0 e1 e2 e3
  unfold lseQuad
  rw [lseStep_apply, lseStep_apply, lseStep_apply, lseStep_apply, s0, s1, s2, s3]
  have w0 := word_eq l (4 * c) (by omega) (by omega)
  have w1 := word_eq l (4 * c + 1) (by omega) (by omega)
  have w2 := word_eq l (4 * c + 2) (by omega) (by omega)
  have w3 := word_eq l (4 * c + 3) (by omega) (by omega)
  simp only [w0, w1, w2, w3]
  by_cases hc : (l : ℕ) / 4 = c
  · rw [if_pos hc]
    have hm : (l : ℕ) % 4 = 0 ∨ (l : ℕ) % 4 = 1 ∨ (l : ℕ) % 4 = 2 ∨ (l : ℕ) % 4 = 3 := by omega
    rcases hm with hm | hm | hm | hm
    · rw [if_neg (by omega), if_neg (by omega), if_neg (by omega), if_pos (by omega)]; simp [hm]
    · rw [if_neg (by omega), if_neg (by omega), if_pos (by omega)]; simp [hm]
    · rw [if_neg (by omega), if_pos (by omega)]; simp [hm]
    · rw [if_pos (by omega)]; simp [hm]
  · rw [if_neg hc, if_neg (by omega), if_neg (by omega), if_neg (by omega), if_neg (by omega)]

theorem lseZero_apply (r l : Fin 128) : lseZero (F := Ideal) (ix2 r l) = (0 : EReal) := by
  unfold lseZero
  pointwise

end Cert.KernelIdeal.Body

end
-- ==== Proof.UnitRead.lean ====
/- One unit of the attention's body (128 queries, four heads, 256 keys) over blocks that hold their parts of the queries, keys,
   values and biases: its output is the band's weighted mean, and its log-sum-exp the band's. -/
module

public import proofs.«01_k».proof.Proof.BodyIdeal

@[expose] public section

set_option maxRecDepth 16384

noncomputable section

namespace Cert.KernelIdeal.Units

open Idealize.ShloMosaic Idealize.SL.Sem Cert.KernelIdeal Cert.KernelIdeal.Gen Cert.KernelIdeal.Body Cert.Band

variable {M : ℕ}

/-- A query's products with the keys of its subsequence, for head `h`; `tok` gives the token at a position of the subsequence. -/
def dots (q k : FVec Ideal S2x8192x16x64 .f32) (b : Fin 2) (tok : Fin M → Fin 8192) (h : Fin 16) (n : Fin M) (t : Fin M) : ℝ :=
  ∑ f : Fin 64, (q (ix4 b (tok n) h f) : EReal).toReal * (k (ix4 b (tok t) h f) : EReal).toReal

variable [NeZero M]

/-- The head of a query or key lane. -/
def hd (l : Fin 1024) : Fin 16 := ⟨l / 256 * 4 + l % 128 / 32, by omega⟩
/-- The feature of a query or key lane. -/
def ft (l : Fin 1024) : Fin 64 := ⟨l % 256 / 128 * 32 + l % 32, by omega⟩

/-- The blocks of block `i` of a subsequence: what each holds. -/
structure Blocks (q k v : FVec Ideal S2x8192x16x64 .f32) (b : Fin 2) (tok : Fin M → Fin 8192) (i : ℕ) (hM : 256 * i + 256 ≤ M) (x0 : Vec Ideal S1x1x256x1024 .bf16)
    (x1 : Vec Ideal S1x1x64x1024 .bf16) (x2 : Vec Ideal S1x1x256x1024 .bf16) (x3 x4 : Vec Ideal S1x1x64x1024 .bf16)
    (x5 : Vec Ideal S1x1x256x1024 .bf16) (x6 : Vec Ideal S1x1x64x1024 .bf16) (x7 x8 : Vec Ideal S1x128x256 .f32) : Prop where
  h0 : ∀ (p : Fin 256) (l : Fin 1024), (x0 (ix4 0 0 p l) : EReal) = q (ix4 b (tok ⟨256 * i + p, by omega⟩) (hd l) (ft l)) * ((c2 : ℝ) : EReal)
  h1 : ∀ (p : Fin 64) (l : Fin 1024) (n : Fin M), (n : ℕ) + 64 = 256 * i + p → x1 (ix4 0 0 p l) = k (ix4 b (tok n) (hd l) (ft l))
  h2 : ∀ (p : Fin 256) (l : Fin 1024), x2 (ix4 0 0 p l) = k (ix4 b (tok ⟨256 * i + p, by omega⟩) (hd l) (ft l))
  h3 : ∀ (p : Fin 64) (l : Fin 1024) (n : Fin M), (n : ℕ) = 256 * i + 256 + p → x3 (ix4 0 0 p l) = k (ix4 b (tok n) (hd l) (ft l))
  h4 : ∀ (p : Fin 64) (l : Fin 1024) (n : Fin M), (n : ℕ) + 64 = 256 * i + p →
    x4 (ix4 0 0 p l) = v (ix4 b (tok n) ⟨l / 64, by omega⟩ ⟨l % 64, by omega⟩)
  h5 : ∀ (p : Fin 256) (l : Fin 1024), x5 (ix4 0 0 p l) = v (ix4 b (tok ⟨256 * i + p, by omega⟩) ⟨l / 64, by omega⟩ ⟨l % 64, by omega⟩)
  h6 : ∀ (p : Fin 64) (l : Fin 1024) (n : Fin M), (n : ℕ) = 256 * i + 256 + p →
    x6 (ix4 0 0 p l) = v (ix4 b (tok n) ⟨l / 64, by omega⟩ ⟨l % 64, by omega⟩)
  h7 : ∀ (p : Fin 128) (x : Fin 256), (x7 (ix3 0 p x) : EReal) = if Valid M (256 * i) p x then 0 else ⊥
  h8 : ∀ (p : Fin 128) (x : Fin 256), (x8 (ix3 0 p x) : EReal) = if Valid M (256 * i + 128) p x then 0 else ⊥

section

variable (q k v : FVec Ideal S2x8192x16x64 .f32) (b : Fin 2) (tok : Fin M → Fin 8192) (base : ℕ) (hbase : base + 128 ≤ M) (c : Fin 4)

/-- A query block of quad `c`, from position `base` on. -/
def IsQ (x : FVec Ideal S128x256 .bf16) : Prop := ∀ (p : Fin 128) (j : Fin 4) (f : Fin 64),
  (x (ix2 p (lane j f)) : EReal) = q (ix4 b (tok ⟨base + p, by omega⟩) ⟨4 * c + j, by omega⟩ f) * ((c2 : ℝ) : EReal)

/-- A key block of quad `c`, from position `base - 64` on, where there is a position. -/
def IsK (x : FVec Ideal S256x256 .bf16) : Prop := ∀ (p : Fin 256) (j : Fin 4) (f : Fin 64), 64 ≤ base + p → base + p < M + 64 →
  x (ix2 p (lane j f)) = k (ix4 b (tok (pos base p)) ⟨4 * c + j, by omega⟩ f)

/-- A value block of quad `c`, from position `base - 64` on, where there is a position. -/
def IsV (x : FVec Ideal S256x256 .bf16) : Prop := ∀ (p : Fin 256) (l : Fin 256), 64 ≤ base + p → base + p < M + 64 →
  x (ix2 p l) = v (ix4 b (tok (pos base p)) ⟨4 * c + l / 64, by omega⟩ ⟨l % 64, by omega⟩)

variable (M) in
/-- The biases of the band. -/
def IsB (x : FVec Ideal S128x256 .f32) : Prop := ∀ (p : Fin 128) (y : Fin 256), (x (ix2 p y) : EReal) = if Valid M base p y then 0 else ⊥

variable {q k v b tok base hbase c} {qb : FVec Ideal S128x256 .bf16} {kb vb : FVec Ideal S256x256 .bf16} {bb : FVec Ideal S128x256 .f32}
  (fq : ∀ i, (q i : EReal) ≠ ⊤ ∧ (q i : EReal) ≠ ⊥) (fk : ∀ i, (k i : EReal) ≠ ⊤ ∧ (k i : EReal) ≠ ⊥)
  (hq : IsQ q b tok base hbase c qb) (hk : IsK k b tok base c kb) (hb : IsB M base bb)

include fq fk hq hk hb

/-- A row of scores. -/
theorem row_eq (j : Fin 4) (p : Fin 128) (x : Fin 256) : sRow qb kb bb j p x
    = if Valid M base p x then ((c2 * dots q k b tok ⟨4 * c + j, by omega⟩ ⟨base + p, by omega⟩ (pos base x) : ℝ) : EReal) else ⊥ := by
  unfold sRow
  rw [hb]
  split
  · next h =>
    rw [add_zero, dots, Finset.mul_sum, coe_sum]
    refine Finset.sum_congr rfl fun f _ => ?_
    rw [hq, hk x j f h.2.2.1 h.2.2.2]
    generalize hA : q (ix4 b (tok ⟨base + p, by omega⟩) ⟨4 * c + j, by omega⟩ f) = A
    generalize hC : k (ix4 b (tok (pos base x)) ⟨4 * c + j, by omega⟩ f) = C
    have a1 := fq (ix4 b (tok ⟨base + p, by omega⟩) ⟨4 * c + j, by omega⟩ f)
    have c1 := fk (ix4 b (tok (pos base x)) ⟨4 * c + j, by omega⟩ f)
    rw [hA] at a1
    rw [hC] at c1
    rw [EReal.coe_mul, EReal.coe_mul, EReal.coe_toReal a1.1 a1.2, EReal.coe_toReal c1.1 c1.2, mul_comm (A : EReal), mul_assoc]
  · exact EReal.add_bot _

/-- The unit's log-sum-exp of head `j`. -/
theorem lse_eq (j : Fin 4) (p : Fin 128) : lseVal (sRow qb kb bb j p)
    = lse ⟨base + p, by omega⟩ (dots q k b tok ⟨4 * c + j, by omega⟩ ⟨base + p, by omega⟩) :=
  lse_of_row2 (base := base) (row := p) (by omega) _ rfl _ _ (row_eq fq fk hq hk hb j p)

/-- The unit's output. -/
theorem quad_eq (hv : IsV v b tok base c vb) (p : Fin 128) (l : Fin 256) : (quad qb kb vb bb (ix2 p l) : EReal)
    = mean ⟨base + p, by omega⟩ (dots q k b tok ⟨4 * c + l / 64, by omega⟩ ⟨base + p, by omega⟩)
      (fun t => v (ix4 b (tok t) ⟨4 * c + l / 64, by omega⟩ ⟨l % 64, by omega⟩)) := by
  rw [quad_apply]
  exact mean_of_row2 (base := base) (row := p) (by omega) _ rfl _ _ (row_eq fq fk hq hk hb ⟨l / 64, by omega⟩ p) _ _
    fun x h => hv x l h.2.2.1 h.2.2.2

end

end Cert.KernelIdeal.Units

end
-- ==== Proof.BlockValue.lean ====
/- A grid point's output blocks: from blocks that hold their parts of the queries, keys, values and biases, the body leaves the
   bands' weighted means and log-sum-exps. -/
module

public import proofs.«01_k».proof.Proof.UnitRead
public import Idealize.ShloMosaic.Lib.Pipeline.ValueKit.Tiles

@[expose] public section

set_option maxRecDepth 16384

noncomputable section

namespace Cert.KernelIdeal.Units

open Idealize.ShloMosaic Idealize.SL.Sem Cert.KernelIdeal Cert.KernelIdeal.Gen Cert.KernelIdeal.Body Cert.Band

variable {M : ℕ}

theorem tok_congr (tok : Fin M → Fin 8192) {n n' : Fin M} (h : (n : ℕ) = n') : (tok n : ℕ) = tok n' := by
  rw [Fin.ext h]

section Loads

variable [NeZero M]

/-- A rectangle's load, at an index. -/
theorem ld4 {n2 n3 m2 m3 : ℕ} {e : EltTy} (x : Vec Ideal (⟨4, ![1, 1, n2, n3]⟩ : Shape) e) (o2 o3 : ℕ)
    (inb : ∀ a, (![0, 0, o2, o3] : Fin 4 → ℕ) a + (![1, 1, m2, m3] : Fin 4 → ℕ) a ≤ (![1, 1, n2, n3] : Fin 4 → ℕ) a) (p : Fin m2) (l : Fin m3)
    (h2 : o2 + p < n2) (h3 : o3 + l < n3) :
    View.ld x (Rect.unit (s := (⟨4, ![1, 1, n2, n3]⟩ : Shape)) ![0, 0, o2, o3] ![1, 1, m2, m3] inb) (ix4 0 0 p l)
      = x (ix4 0 0 ⟨o2 + p, h2⟩ ⟨o3 + l, h3⟩) := by
  refine View.ld_unit_apply_of _ _ _ _ _ _ fun a => ?_
  match a with
  | ⟨0, _⟩ => rfl
  | ⟨1, _⟩ => rfl
  | ⟨2, _⟩ => rfl
  | ⟨3, _⟩ => rfl

theorem qOf_apply (X : Vec Ideal S1x1x128x256 .bf16) (p : Fin 128) (l : Fin 256) : qOf X (ix2 p l) = X (ix4 0 0 p l) := by
  unfold qOf; pointwise

theorem lo_apply (X : Vec Ideal S1x1x64x256 .bf16) (Y : Vec Ideal S1x1x192x256 .bf16) (p l : Fin 256) :
    lo X Y (ix2 p l) = if h : (p : ℕ) < 64 then X (ix4 0 0 ⟨p, h⟩ l) else Y (ix4 0 0 ⟨p - 64, by omega⟩ l) := by
  unfold lo; pointwise

theorem hi_apply (Y : Vec Ideal S1x1x192x256 .bf16) (X : Vec Ideal S1x1x64x256 .bf16) (p l : Fin 256) :
    hi Y X (ix2 p l) = if h : (p : ℕ) < 192 then Y (ix4 0 0 ⟨p, h⟩ l) else X (ix4 0 0 ⟨p - 192, by omega⟩ l) := by
  unfold hi; pointwise

theorem biasOf_apply (X : Vec Ideal S1x128x256 .f32) (p : Fin 128) (l : Fin 256) : biasOf X (ix2 p l) = X (ix3 0 p l) := by
  unfold biasOf; pointwise

theorem out4_apply (X : FVec Ideal S128x256 .bf16) (p : Fin 128) (l : Fin 256) : out4 X (ix4 0 0 p l) = X (ix2 p l) := by
  unfold out4; pointwise

theorem lse4_apply (X : FVec Ideal S128x128 .f32) (p l : Fin 128) : lse4 X (ix4 0 0 p l) = X (ix2 p l) := by
  unfold lse4; pointwise

variable {q k v : FVec Ideal S2x8192x16x64 .f32} {b : Fin 2} {tok : Fin M → Fin 8192} {i : ℕ} {hM : 256 * i + 256 ≤ M} {x0 : Vec Ideal S1x1x256x1024 .bf16}
    {x1 : Vec Ideal S1x1x64x1024 .bf16} {x2 : Vec Ideal S1x1x256x1024 .bf16} {x3 x4 : Vec Ideal S1x1x64x1024 .bf16}
    {x5 : Vec Ideal S1x1x256x1024 .bf16} {x6 : Vec Ideal S1x1x64x1024 .bf16} {x7 x8 : Vec Ideal S1x128x256 .f32}
    (H : Blocks q k v b tok i hM x0 x1 x2 x3 x4 x5 x6 x7 x8)

include H

theorem isQ (c : Fin 4) (o s : ℕ) (ho : o = 256 * c) (hs : s + 128 ≤ 256) (inb) :
    IsQ q b tok (256 * i + s) (by omega) c (qOf (View.ld x0 (Rect.unit (s := S1x1x256x1024) ![0, 0, s, o] S1x1x128x256.size inb))) := by
  intro p j f
  rw [qOf_apply, ld4 x0 s o inb p (lane j f) (by omega) (by omega), H.h0]
  refine congrArg (fun z : EReal => z * ((c2 : ℝ) : EReal)) (congrArg q (ix4_congr rfl (tok_congr tok (by dsimp only; omega)) ?_ ?_)) <;>
    simp only [hd, ft, lane] <;> omega

theorem isK_lo (c : Fin 4) (o : ℕ) (ho : o = 256 * c) (inb inb') :
    IsK k b tok (256 * i) c (lo (View.ld x1 (Rect.unit (s := S1x1x64x1024) ![0, 0, 0, o] S1x1x64x256.size inb))
      (View.ld x2 (Rect.unit (s := S1x1x256x1024) ![0, 0, 0, o] S1x1x192x256.size inb'))) := by
  intro p j f h h'
  rw [lo_apply]
  split
  · rw [ld4 x1 0 o inb _ (lane j f) (by dsimp only; omega) (by omega), H.h1 _ _ (pos (256 * i) p) (by simp only [pos]; omega)]
    refine congrArg k (ix4_congr rfl rfl ?_ ?_) <;> simp only [hd, ft, lane] <;> omega
  · rw [ld4 x2 0 o inb' _ (lane j f) (by dsimp only; omega) (by omega), H.h2]
    refine congrArg k (ix4_congr rfl (tok_congr tok (by simp only [pos]; omega)) ?_ ?_) <;> simp only [hd, ft, lane] <;> omega

theorem isK_hi (c : Fin 4) (o : ℕ) (ho : o = 256 * c) (inb inb') :
    IsK k b tok (256 * i + 128) c (hi (View.ld x2 (Rect.unit (s := S1x1x256x1024) ![0, 0, 64, o] S1x1x192x256.size inb'))
      (View.ld x3 (Rect.unit (s := S1x1x64x1024) ![0, 0, 0, o] S1x1x64x256.size inb))) := by
  intro p j f h h'
  rw [hi_apply]
  split
  · rw [ld4 x2 64 o inb' _ (lane j f) (by dsimp only; omega) (by omega), H.h2]
    refine congrArg k (ix4_congr rfl (tok_congr tok (by simp only [pos]; omega)) ?_ ?_) <;> simp only [hd, ft, lane] <;> omega
  · rw [ld4 x3 0 o inb _ (lane j f) (by dsimp only; omega) (by omega), H.h3 _ _ (pos (256 * i + 128) p) (by simp only [pos]; omega)]
    refine congrArg k (ix4_congr rfl rfl ?_ ?_) <;> simp only [hd, ft, lane] <;> omega

theorem isV_lo (c : Fin 4) (o : ℕ) (ho : o = 256 * c) (inb inb') :
    IsV v b tok (256 * i) c (lo (View.ld x4 (Rect.unit (s := S1x1x64x1024) ![0, 0, 0, o] S1x1x64x256.size inb))
      (View.ld x5 (Rect.unit (s := S1x1x256x1024) ![0, 0, 0, o] S1x1x192x256.size inb'))) := by
  intro p l h h'
  rw [lo_apply]
  split
  · rw [ld4 x4 0 o inb _ l (by dsimp only; omega) (by omega), H.h4 _ _ (pos (256 * i) p) (by simp only [pos]; omega)]
    refine congrArg v (ix4_congr rfl rfl ?_ ?_) <;> dsimp only <;> omega
  · rw [ld4 x5 0 o inb' _ l (by dsimp only; omega) (by omega), H.h5]
    refine congrArg v (ix4_congr rfl (tok_congr tok (by simp only [pos]; omega)) ?_ ?_) <;> dsimp only <;> omega

theorem isV_hi (c : Fin 4) (o : ℕ) (ho : o = 256 * c) (inb inb') :
    IsV v b tok (256 * i + 128) c (hi (View.ld x5 (Rect.unit (s := S1x1x256x1024) ![0, 0, 64, o] S1x1x192x256.size inb'))
      (View.ld x6 (Rect.unit (s := S1x1x64x1024) ![0, 0, 0, o] S1x1x64x256.size inb))) := by
  intro p l h h'
  rw [hi_apply]
  split
  · rw [ld4 x5 64 o inb' _ l (by dsimp only; omega) (by omega), H.h5]
    refine congrArg v (ix4_congr rfl (tok_congr tok (by simp only [pos]; omega)) ?_ ?_) <;> dsimp only <;> omega
  · rw [ld4 x6 0 o inb _ l (by dsimp only; omega) (by omega), H.h6 _ _ (pos (256 * i + 128) p) (by simp only [pos]; omega)]
    refine congrArg v (ix4_congr rfl rfl ?_ ?_) <;> dsimp only <;> omega

theorem isB_lo : IsB M (256 * i) (biasOf x7) := by
  intro p y
  rw [biasOf_apply, H.h7]

theorem isB_hi : IsB M (256 * i + 128) (biasOf x8) := by
  intro p y
  rw [biasOf_apply, H.h8]

end Loads

/-- The output, at position `n` of a subsequence and lane `l`. -/
def outAt (q k v : FVec Ideal S2x8192x16x64 .f32) (b : Fin 2) (tok : Fin M → Fin 8192) (n : Fin M) (l : Fin 1024) : EReal :=
  mean n (dots q k b tok ⟨l / 64, by omega⟩ n) fun t => v (ix4 b (tok t) ⟨l / 64, by omega⟩ ⟨l % 64, by omega⟩)

/-- The log-sum-exp, at position `n` of a subsequence and lane `l`: that of head `l`, and zero from lane 16 on. -/
def lseAt (q k : FVec Ideal S2x8192x16x64 .f32) (b : Fin 2) (tok : Fin M → Fin 8192) (n : Fin M) (l : Fin 128) : EReal :=
  if h : (l : ℕ) < 16 then lse n (dots q k b tok ⟨l, h⟩ n) else 0

/-- Row `p` of block `i`, as a position. -/
def at256 (i : ℕ) (hM : 256 * i + 256 ≤ M) (p : Fin 256) : Fin M := ⟨256 * i + p, by omega⟩

/-- The output block of block `i` of a subsequence. -/
def blkOut (q k v : FVec Ideal S2x8192x16x64 .f32) (b : Fin 2) (tok : Fin M → Fin 8192) (i : ℕ) (hM : 256 * i + 256 ≤ M) : Vec Ideal S1x1x256x1024 .bf16 := fun y =>
  outAt q k v b tok (at256 i hM (y 2)) (y 3 : Fin 1024)

/-- The log-sum-exp block of block `i` of a subsequence. -/
def blkLse (q k : FVec Ideal S2x8192x16x64 .f32) (b : Fin 2) (tok : Fin M → Fin 8192) (i : ℕ) (hM : 256 * i + 256 ≤ M) : Vec Ideal S1x1x256x128 .f32 := fun y =>
  lseAt q k b tok (at256 i hM (y 2)) (y 3 : Fin 128)

/-- An index of a four-axis array from its coordinates. -/
theorem idx4_of {n0 n1 n2 n3 : ℕ} (j : Shape.Idx (⟨4, ![n0, n1, n2, n3]⟩ : Shape)) (a : Fin n0) (b : Fin n1) (x : Fin n2) (y : Fin n3)
    (h0 : ((j 0 : Fin n0) : ℕ) = a) (h1 : ((j 1 : Fin n1) : ℕ) = b) (h2 : ((j 2 : Fin n2) : ℕ) = x) (h3 : ((j 3 : Fin n3) : ℕ) = y) :
    j = ix4 a b x y := by
  funext k
  match k with
  | ⟨0, _⟩ => exact Fin.ext h0
  | ⟨1, _⟩ => exact Fin.ext h1
  | ⟨2, _⟩ => exact Fin.ext h2
  | ⟨3, _⟩ => exact Fin.ext h3

theorem idx3_of {n0 n1 n2 : ℕ} (j : Shape.Idx (⟨3, ![n0, n1, n2]⟩ : Shape)) (a : Fin n0) (b : Fin n1) (x : Fin n2)
    (h0 : ((j 0 : Fin n0) : ℕ) = a) (h1 : ((j 1 : Fin n1) : ℕ) = b) (h2 : ((j 2 : Fin n2) : ℕ) = x) : j = ix3 a b x := by
  funext k
  match k with
  | ⟨0, _⟩ => exact Fin.ext h0
  | ⟨1, _⟩ => exact Fin.ext h1
  | ⟨2, _⟩ => exact Fin.ext h2

section Store

variable [NeZero M]

variable {q k v : FVec Ideal S2x8192x16x64 .f32} {b : Fin 2} {tok : Fin M → Fin 8192} {i : ℕ} {hM : 256 * i + 256 ≤ M} {x0 : Vec Ideal S1x1x256x1024 .bf16}
    {x1 : Vec Ideal S1x1x64x1024 .bf16} {x2 : Vec Ideal S1x1x256x1024 .bf16} {x3 x4 : Vec Ideal S1x1x64x1024 .bf16}
    {x5 : Vec Ideal S1x1x256x1024 .bf16} {x6 : Vec Ideal S1x1x64x1024 .bf16} {x7 x8 : Vec Ideal S1x128x256 .f32}
    (H : Blocks q k v b tok i hM x0 x1 x2 x3 x4 x5 x6 x7 x8)
    (fq : ∀ i, (q i : EReal) ≠ ⊤ ∧ (q i : EReal) ≠ ⊥) (fk : ∀ i, (k i : EReal) ≠ ⊤ ∧ (k i : EReal) ≠ ⊥)

include fq fk

omit fq fk in
theorem idx4_eq {n2 n3 : ℕ} (x : Shape.Idx (⟨4, ![1, 1, n2, n3]⟩ : Shape)) : ∃ (p : Fin n2) (l : Fin n3), x = ix4 0 0 p l := by
  refine ⟨x 2, x 3, funext fun a => ?_⟩
  match a with
  | ⟨0, _⟩ => exact Subsingleton.elim (α := Fin 1) _ _
  | ⟨1, _⟩ => exact Subsingleton.elim (α := Fin 1) _ _
  | ⟨2, _⟩ => rfl
  | ⟨3, _⟩ => rfl

/-- A unit's stored output, at an index of its rectangle. -/
theorem piece_eq (c : Fin 4) (o s : ℕ) (ho : o = 256 * c) (hs : s + 128 ≤ 256) (inb) {qb : FVec Ideal S128x256 .bf16}
    {kb vb : FVec Ideal S256x256 .bf16} {bb : FVec Ideal S128x256 .f32} (hq : IsQ q b tok (256 * i + s) (by omega) c qb)
    (hk : IsK k b tok (256 * i + s) c kb) (hv : IsV v b tok (256 * i + s) c vb) (hb : IsB M (256 * i + s) bb)
    (x : (Rect.unit (s := S1x1x256x1024) ![0, 0, s, o] S1x1x128x256.size inb).shape.Idx) :
    out4 (quad qb kb vb bb) x = blkOut q k v b tok i hM ((Rect.unit (s := S1x1x256x1024) ![0, 0, s, o] S1x1x128x256.size inb).emb x) := by
  obtain ⟨p, l, rfl⟩ := idx4_eq (n2 := 128) (n3 := 256) x
  refine Eq.trans ?_ (ld4 (blkOut q k v b tok i hM) s o inb p l (by omega) (by omega)).symm
  rw [out4_apply, quad_eq fq fk hq hk hb hv]
  show _ = outAt q k v b tok ⟨256 * i + (s + p), _⟩ ⟨o + l, _⟩
  unfold outAt
  have e1 : (⟨256 * i + s + p, by omega⟩ : Fin M) = ⟨256 * i + (s + p), by omega⟩ := Fin.ext (by dsimp only; omega)
  have e2 : (⟨4 * c + l / 64, by omega⟩ : Fin 16) = ⟨(o + l) / 64, by omega⟩ := Fin.ext (by dsimp only; omega)
  have e3 : (⟨l % 64, by omega⟩ : Fin 64) = ⟨(o + l) % 64, by omega⟩ := Fin.ext (by dsimp only; omega)
  rw [e1, e2, e3]

include H

/-- The output block. -/
theorem out_block : out0_9 x0 x1 x2 x3 x4 x5 x6 x7 x8 = blkOut q k v b tok i hM := by
  rw [out0_9_eq]
  funext y
  refine View.canon_apply_of_pieces _ _ (fun pc hpc => ?_) y (cover0_9 _ _ _ _ _ _ _ _ y)
  simp only [List.mem_cons, List.not_mem_nil, or_false] at hpc
  rcases hpc with rfl | rfl | rfl | rfl | rfl | rfl | rfl | rfl
  · exact piece_eq fq fk 3 768 128 rfl (by omega) inb_S1x1x256x1024_S1x1x128x256_0_0_128_768 (isQ H 3 _ _ rfl (by omega) _) (isK_hi H 3 _ rfl _ _) (isV_hi H 3 _ rfl _ _) (isB_hi H)
  · exact piece_eq fq fk 2 512 128 rfl (by omega) inb_S1x1x256x1024_S1x1x128x256_0_0_128_512 (isQ H 2 _ _ rfl (by omega) _) (isK_hi H 2 _ rfl _ _) (isV_hi H 2 _ rfl _ _) (isB_hi H)
  · exact piece_eq fq fk 1 256 128 rfl (by omega) inb_S1x1x256x1024_S1x1x128x256_0_0_128_256 (isQ H 1 _ _ rfl (by omega) _) (isK_hi H 1 _ rfl _ _) (isV_hi H 1 _ rfl _ _) (isB_hi H)
  · exact piece_eq fq fk 0 0 128 rfl (by omega) inb_S1x1x256x1024_S1x1x128x256_0_0_128_0 (isQ H 0 _ _ rfl (by omega) _) (isK_hi H 0 _ rfl _ _) (isV_hi H 0 _ rfl _ _) (isB_hi H)
  · exact piece_eq fq fk 3 768 0 rfl (by omega) inb_S1x1x256x1024_S1x1x128x256_0_0_0_768 (isQ H 3 _ _ rfl (by omega) _) (isK_lo H 3 _ rfl _ _) (isV_lo H 3 _ rfl _ _) (isB_lo H)
  · exact piece_eq fq fk 2 512 0 rfl (by omega) inb_S1x1x256x1024_S1x1x128x256_0_0_0_512 (isQ H 2 _ _ rfl (by omega) _) (isK_lo H 2 _ rfl _ _) (isV_lo H 2 _ rfl _ _) (isB_lo H)
  · exact piece_eq fq fk 1 256 0 rfl (by omega) inb_S1x1x256x1024_S1x1x128x256_0_0_0_256 (isQ H 1 _ _ rfl (by omega) _) (isK_lo H 1 _ rfl _ _) (isV_lo H 1 _ rfl _ _) (isB_lo H)
  · exact piece_eq fq fk 0 0 0 rfl (by omega) inb_S1x1x256x1024_S1x1x128x256_0_0_0_0 (isQ H 0 _ _ rfl (by omega) _) (isK_lo H 0 _ rfl _ _) (isV_lo H 0 _ rfl _ _) (isB_lo H)

omit H in
/-- The log-sum-exps of the four quads of a half block. -/
theorem lse_chain (s : ℕ) (hs : s + 128 ≤ 256) {q0 q1 q2 q3 : FVec Ideal S128x256 .bf16} {k0 k1 k2 k3 : FVec Ideal S256x256 .bf16}
    {bb : FVec Ideal S128x256 .f32}
    (hq0 : IsQ q b tok (256 * i + s) (by omega) 0 q0) (hq1 : IsQ q b tok (256 * i + s) (by omega) 1 q1)
    (hq2 : IsQ q b tok (256 * i + s) (by omega) 2 q2) (hq3 : IsQ q b tok (256 * i + s) (by omega) 3 q3)
    (hk0 : IsK k b tok (256 * i + s) 0 k0) (hk1 : IsK k b tok (256 * i + s) 1 k1) (hk2 : IsK k b tok (256 * i + s) 2 k2)
    (hk3 : IsK k b tok (256 * i + s) 3 k3) (hb : IsB M (256 * i + s) bb) (inb)
    (x : (Rect.unit (s := S1x1x256x128) ![0, 0, s, 0] S1x1x128x128.size inb).shape.Idx) :
    lse4 (lseQuad 12#32 13#32 14#32 15#32 q3 k3 bb (lseQuad 8#32 9#32 10#32 11#32 q2 k2 bb (lseQuad 4#32 5#32 6#32 7#32 q1 k1 bb
      (lseQuad 0#32 1#32 2#32 3#32 q0 k0 bb lseZero)))) x
      = blkLse q k b tok i hM ((Rect.unit (s := S1x1x256x128) ![0, 0, s, 0] S1x1x128x128.size inb).emb x) := by
  obtain ⟨p, l, rfl⟩ := idx4_eq (n2 := 128) (n3 := 128) x
  refine Eq.trans ?_ (ld4 (blkLse q k b tok i hM) s 0 inb p l (by omega) (by omega)).symm
  rw [lse4_apply, lseQuad_apply 3 12#32 13#32 14#32 15#32 rfl rfl rfl rfl, lseQuad_apply 2 8#32 9#32 10#32 11#32 rfl rfl rfl rfl,
    lseQuad_apply 1 4#32 5#32 6#32 7#32 rfl rfl rfl rfl, lseQuad_apply 0 0#32 1#32 2#32 3#32 rfl rfl rfl rfl, lseZero_apply,
    lse_eq fq fk hq0 hk0 hb, lse_eq fq fk hq1 hk1 hb, lse_eq fq fk hq2 hk2 hb, lse_eq fq fk hq3 hk3 hb]
  show _ = lseAt q k b tok ⟨256 * i + (s + p), _⟩ ⟨0 + l, _⟩
  have e1 : (⟨256 * i + s + p, by omega⟩ : Fin M) = ⟨256 * i + (s + p), by omega⟩ := Fin.ext (by dsimp only; omega)
  rw [e1]
  unfold lseAt
  have e0 : ∀ (c : Fin 4) (h : 0 + (l : ℕ) < 16), (l : ℕ) / 4 = c →
      (⟨4 * c + (⟨l % 4, by omega⟩ : Fin 4), by omega⟩ : Fin 16) = ⟨0 + l, h⟩ := fun c h hc => Fin.ext (by dsimp only; omega)
  by_cases h : 0 + (l : ℕ) < 16
  · rw [dif_pos h]
    split_ifs with h3 h2 h1 h0
    · rw [e0 3 h h3]
    · rw [e0 2 h h2]
    · rw [e0 1 h h1]
    · rw [e0 0 h h0]
    · exfalso
      have a3 : ¬ ((l : ℕ) / 4 = 3) := h3
      have a2 : ¬ ((l : ℕ) / 4 = 2) := h2
      have a1 : ¬ ((l : ℕ) / 4 = 1) := h1
      have a0 : ¬ ((l : ℕ) / 4 = 0) := h0
      omega
  · rw [dif_neg h]
    have : ∀ c : Fin 4, ¬ ((l : ℕ) / 4 = c) := fun c => by omega
    rw [if_neg (this 3), if_neg (this 2), if_neg (this 1), if_neg (this 0)]

/-- The log-sum-exp block. -/
theorem lse_block : out0_10 x0 x1 x2 x3 x4 x5 x6 x7 x8 = blkLse q k b tok i hM := by
  rw [out0_10_eq]
  funext y
  refine View.canon_apply_of_pieces _ _ (fun pc hpc => ?_) y (cover0_10 _ _ y)
  simp only [List.mem_cons, List.not_mem_nil, or_false] at hpc
  rcases hpc with rfl | rfl
  · exact lse_chain fq fk 128 (by omega) (isQ H 0 _ _ rfl (by omega) _) (isQ H 1 _ _ rfl (by omega) _) (isQ H 2 _ _ rfl (by omega) _)
      (isQ H 3 _ _ rfl (by omega) _) (isK_hi H 0 _ rfl _ _) (isK_hi H 1 _ rfl _ _) (isK_hi H 2 _ rfl _ _) (isK_hi H 3 _ rfl _ _) (isB_hi H) inb_S1x1x256x128_S1x1x128x128_0_0_128_0
  · exact lse_chain fq fk 0 (by omega) (isQ H 0 _ _ rfl (by omega) _) (isQ H 1 _ _ rfl (by omega) _) (isQ H 2 _ _ rfl (by omega) _)
      (isQ H 3 _ _ rfl (by omega) _) (isK_lo H 0 _ rfl _ _) (isK_lo H 1 _ rfl _ _) (isK_lo H 2 _ rfl _ _) (isK_lo H 3 _ rfl _ _) (isB_lo H) inb_S1x1x256x128_S1x1x128x128_0_0_0_0

end Store

end Cert.KernelIdeal.Units

end
-- ==== Proof.Host.lean ====
/- What the host code hands the attention: the queries, keys and values side by side, and the biases, read at an index. -/
module

public import proofs.«01_k».proof.Proof.BodyIdeal
public import Idealize.ShloMosaic.Lib.StableHlo.ReadAt

@[expose] public section

set_option maxRecDepth 16384

noncomputable section

namespace Cert.KernelIdeal.HostSide

open Idealize.ShloMosaic Idealize.ShloMosaic.TcCoe Idealize.SL.Sem Cert.KernelIdeal Cert.KernelIdeal.Gen Cert.Band

variable (m : (ℓ : Loc nD τ sig) → Buf (Elt Ideal) ℓ) (c : Dev nD)

/-- The queries, before the scale. -/
abbrev qArg : FVec Ideal S2x8192x16x64 .f32 := m ((c : Thread nD τ).loc main_arg0)
/-- The keys. -/
abbrev kArg : FVec Ideal S2x8192x16x64 .f32 := m ((c : Thread nD τ).loc main_arg1)
/-- The values. -/
abbrev vArg : FVec Ideal S2x8192x16x64 .f32 := m ((c : Thread nD τ).loc main_arg2)
/-- The array that the attention reads its queries, keys and values from. -/
abbrev qkvArr : FVec Ideal S2x4x2048x3072 .bf16 := V m c main_v18
/-- The three bias tables: a unit at the start, in the middle and at the end of a subsequence. -/
abbrev biasArr : FVec Ideal S3x128x256 .f32 := V m c main_v44

/-- The token at position `n` of the subsequence of residue `r`. -/
def tk (r : Fin 4) (n : Fin 2048) : Fin 8192 := ⟨4 * n + r, by omega⟩

/-- A value lane: the values' own order. -/
theorem v_at (b : Fin 2) (r : Fin 4) (n : Fin 2048) (l : Fin 3072) (h : 2048 ≤ (l : ℕ)) :
    qkvArr m c (ix4 b r n l)
      = vArg m c (ix4 b (tk r n) ⟨(l - 2048) / 64, by omega⟩ ⟨(l - 2048) % 64, by omega⟩) := by
  unfold_abbrev_sides
  after_reads_at
  rw [dif_neg (by omega), dif_neg (by omega)]
  after_reads_at
  exact congrArg (m ((c : Thread nD τ).loc main_arg2)) (ix4_congr rfl (by simp only [tk]; omega) (by dsimp only; omega) (by dsimp only; omega))

/-- A key lane: four heads to a quad of 256 lanes, the two halves of the features 128 lanes apart. -/
theorem k_at (b : Fin 2) (r : Fin 4) (n : Fin 2048) (l : Fin 3072) (h : 1024 ≤ (l : ℕ)) (h' : (l : ℕ) < 2048) :
    qkvArr m c (ix4 b r n l) = kArg m c (ix4 b (tk r n) ⟨(l - 1024) / 256 * 4 + (l - 1024) % 128 / 32, by omega⟩
      ⟨(l - 1024) % 256 / 128 * 32 + (l - 1024) % 32, by omega⟩) := by
  unfold_abbrev_sides
  after_reads_at
  rw [dif_neg (by omega), dif_pos (by omega)]
  after_reads_at
  exact congrArg (m ((c : Thread nD τ).loc main_arg1)) (ix4_congr rfl (by simp only [tk]; omega) (by dsimp only; omega) (by dsimp only; omega))

theorem two_f32 : Ideal.ofBits .f32 0x40000000#32 = ((2 : ℝ) : EReal) := by
  simp [Ideal.ofBits, Ideal.ieee, -EReal.coe_mul]; norm_num

theorem eighth_f32 : Ideal.ofBits .f32 0x3E000000#32 = ((1 / 8 : ℝ) : EReal) := by
  simp [Ideal.ofBits, Ideal.ieee, -EReal.coe_mul]; norm_num

/-- The scale of the queries. -/
theorem scale_eq : Ideal.div (Ideal.ofBits .f32 0x3E000000#32) (Ideal.log (Ideal.ofBits .f32 0x40000000#32)) = ((Band.c2 : ℝ) : EReal) := by
  have h : 0 < Real.log 2 := Real.log_pos (by norm_num)
  rw [two_f32, eighth_f32]
  have e : Ideal.log ((2 : ℝ) : EReal) = ((Real.log 2 : ℝ) : EReal) := by
    show (if (2 : ℝ) ≤ 0 then (⊥ : EReal) else ((Real.log 2 : ℝ) : EReal)) = _
    rw [if_neg (by norm_num)]
  rw [e, Ideal.div, if_neg (by exact_mod_cast h.ne'), ← EReal.coe_inv, ← EReal.coe_mul, Band.c2]
  congr 1; ring

/-- A query lane: as a key's, and scaled. -/
theorem q_at (b : Fin 2) (r : Fin 4) (n : Fin 2048) (l : Fin 3072) (h' : (l : ℕ) < 1024) :
    qkvArr m c (ix4 b r n l) = qArg m c (ix4 b (tk r n) ⟨l / 256 * 4 + l % 128 / 32, by omega⟩
      ⟨l % 256 / 128 * 32 + l % 32, by omega⟩) * ((Band.c2 : ℝ) : EReal) := by
  unfold_abbrev_sides
  after_reads_at
  rw [dif_pos (by omega)]
  after_reads_at
  exact congrArg₂ (fun x y : EReal => x * y)
    (congrArg (m ((c : Thread nD τ).loc main_arg0)) (ix4_congr rfl (by simp only [tk]; omega) (by dsimp only; omega) (by dsimp only; omega))) scale_eq

theorem band_word : ∀ (q : Fin 128) (x : Fin 256), IntOp.cmpi .sle
    (IntOp.absi (IntOp.subi (IntOp.subi (BitVec.ofNat 32 (x : ℕ)) 64#32) (BitVec.ofNat 32 (q : ℕ)))) 64#32
      = if (q : ℕ) ≤ x ∧ (x : ℕ) ≤ q + 128 then 1#1 else 0#1 := by decide +kernel

theorem first_word : ∀ x : Fin 256, IntOp.cmpi .sge (BitVec.ofNat 32 (x : ℕ)) 64#32 = if 64 ≤ (x : ℕ) then 1#1 else 0#1 := by
  decide +kernel

theorem last_word : ∀ x : Fin 256, IntOp.cmpi .slt (BitVec.ofNat 32 (x : ℕ)) 192#32 = if (x : ℕ) < 192 then 1#1 else 0#1 := by
  decide +kernel

/-- The biases: zero at the band's columns, −∞ at the others and, in the first and the last table, where there is no position. -/
theorem bias_at (w : Fin 3) (q : Fin 128) (x : Fin 256) :
    biasArr m c (ix3 w q x)
      = if (q : ℕ) ≤ x ∧ (x : ℕ) ≤ q + 128 ∧ (w = 0 → 64 ≤ (x : ℕ)) ∧ (w = 2 → (x : ℕ) < 192) then 0 else ⊥ := by
  unfold_abbrev_sides
  after_reads_at
  simp only [id]
  pointwise
  rw [Body.ninf_f32]
  fin_cases w
  · simp only [Fin.zero_eta]
    rw [dif_pos (by decide)]
    after_reads_at
    simp only [band_word, first_word]
    by_cases h1 : (q : ℕ) ≤ x ∧ (x : ℕ) ≤ q + 128 <;> by_cases h2 : 64 ≤ (x : ℕ) <;> simp [h1, h2, Scalar.select, IntOp.andi]
  · simp only [Fin.mk_one]
    rw [dif_neg (by decide), dif_pos (by decide)]
    after_reads_at
    simp only [band_word]
    by_cases h1 : (q : ℕ) ≤ x ∧ (x : ℕ) ≤ q + 128 <;> simp [h1, Scalar.select, IntOp.andi]
  · simp only [Fin.reduceFinMk]
    rw [dif_neg (by decide), dif_neg (by decide)]
    after_reads_at
    simp only [band_word, last_word]
    by_cases h1 : (q : ℕ) ≤ x ∧ (x : ℕ) ≤ q + 128 <;> by_cases h2 : (x : ℕ) < 192 <;> simp [h1, h2, Scalar.select, IntOp.andi]

end Cert.KernelIdeal.HostSide

end
-- ==== Proof.KernelValue.lean ====
/- The attention's result arrays as functions of the queries, keys and values. -/
module

public import proofs.«01_k».proof.Proof.BlockValue
public import proofs.«01_k».proof.Proof.Host
public import proofs.«01_k».proof.Proof.Gen.KernelIdeal.Value
public import Idealize.ShloMosaic.Lib.Pipeline.ValueKit.Geometry

@[expose] public section

set_option maxRecDepth 16384

noncomputable section

namespace Cert.KernelIdeal.Units

open Idealize.ShloMosaic Idealize.ShloMosaic.TcCoe Idealize.SL.Sem Cert.KernelIdeal Cert.KernelIdeal.Gen Cert.KernelIdeal.Value
open Cert.KernelIdeal.Body Cert.KernelIdeal.HostSide Cert.Band

theorem i0 : ∀ t : Fin cfg0.N, win0_0.index t (0 : Fin 4) = (t : ℕ) / 32 ∧ win0_0.index t (1 : Fin 4) = (t : ℕ) / 8 % 4
    ∧ win0_0.index t (2 : Fin 4) = (t : ℕ) % 8 ∧ win0_0.index t (3 : Fin 4) = 0 := (by decide +kernel : ∀ t : Fin grid0.N, _)
theorem i1 : ∀ t : Fin cfg0.N, win0_1.index t (0 : Fin 4) = (t : ℕ) / 32 ∧ win0_1.index t (1 : Fin 4) = (t : ℕ) / 8 % 4
    ∧ win0_1.index t (2 : Fin 4) = (t : ℕ) % 8 * 4 - 1 ∧ win0_1.index t (3 : Fin 4) = 1 := (by decide +kernel : ∀ t : Fin grid0.N, _)
theorem i2 : ∀ t : Fin cfg0.N, win0_2.index t (0 : Fin 4) = (t : ℕ) / 32 ∧ win0_2.index t (1 : Fin 4) = (t : ℕ) / 8 % 4
    ∧ win0_2.index t (2 : Fin 4) = (t : ℕ) % 8 ∧ win0_2.index t (3 : Fin 4) = 1 := (by decide +kernel : ∀ t : Fin grid0.N, _)
theorem i3 : ∀ t : Fin cfg0.N, win0_3.index t (0 : Fin 4) = (t : ℕ) / 32 ∧ win0_3.index t (1 : Fin 4) = (t : ℕ) / 8 % 4
    ∧ win0_3.index t (2 : Fin 4) = min ((t : ℕ) % 8 * 4 + 4) 31 ∧ win0_3.index t (3 : Fin 4) = 1 := (by decide +kernel : ∀ t : Fin grid0.N, _)
theorem i4 : ∀ t : Fin cfg0.N, win0_4.index t (0 : Fin 4) = (t : ℕ) / 32 ∧ win0_4.index t (1 : Fin 4) = (t : ℕ) / 8 % 4
    ∧ win0_4.index t (2 : Fin 4) = (t : ℕ) % 8 * 4 - 1 ∧ win0_4.index t (3 : Fin 4) = 2 := (by decide +kernel : ∀ t : Fin grid0.N, _)
theorem i5 : ∀ t : Fin cfg0.N, win0_5.index t (0 : Fin 4) = (t : ℕ) / 32 ∧ win0_5.index t (1 : Fin 4) = (t : ℕ) / 8 % 4
    ∧ win0_5.index t (2 : Fin 4) = (t : ℕ) % 8 ∧ win0_5.index t (3 : Fin 4) = 2 := (by decide +kernel : ∀ t : Fin grid0.N, _)
theorem i6 : ∀ t : Fin cfg0.N, win0_6.index t (0 : Fin 4) = (t : ℕ) / 32 ∧ win0_6.index t (1 : Fin 4) = (t : ℕ) / 8 % 4
    ∧ win0_6.index t (2 : Fin 4) = min ((t : ℕ) % 8 * 4 + 4) 31 ∧ win0_6.index t (3 : Fin 4) = 2 := (by decide +kernel : ∀ t : Fin grid0.N, _)
theorem i7 : ∀ t : Fin cfg0.N, win0_7.index t (0 : Fin 3) = (if (t : ℕ) % 8 = 0 then 0 else 1) ∧ win0_7.index t (1 : Fin 3) = 0
    ∧ win0_7.index t (2 : Fin 3) = 0 := (by decide +kernel : ∀ t : Fin grid0.N, _)
theorem i8 : ∀ t : Fin cfg0.N, win0_8.index t (0 : Fin 3) = (if (t : ℕ) % 8 = 7 then 2 else 1) ∧ win0_8.index t (1 : Fin 3) = 0
    ∧ win0_8.index t (2 : Fin 3) = 0 := (by decide +kernel : ∀ t : Fin grid0.N, _)
theorem i9 : ∀ t : Fin cfg0.N, win0_9.index t (0 : Fin 4) = (t : ℕ) / 32 ∧ win0_9.index t (1 : Fin 4) = (t : ℕ) / 8 % 4
    ∧ win0_9.index t (2 : Fin 4) = (t : ℕ) % 8 ∧ win0_9.index t (3 : Fin 4) = 0 := (by decide +kernel : ∀ t : Fin grid0.N, _)
theorem i10 : ∀ t : Fin cfg0.N, win0_10.index t (0 : Fin 4) = (t : ℕ) / 32 ∧ win0_10.index t (1 : Fin 4) = (t : ℕ) / 8 % 4
    ∧ win0_10.index t (2 : Fin 4) = (t : ℕ) % 8 ∧ win0_10.index t (3 : Fin 4) = 0 := (by decide +kernel : ∀ t : Fin grid0.N, _)

/-- The batch of a grid point. -/
def bOf (t : Fin cfg0.N) : Fin 2 := ⟨(t : ℕ) / 32, by have := t.isLt.trans_eq N_0; omega⟩
/-- The residue of a grid point. -/
def rOf (t : Fin cfg0.N) : Fin 4 := ⟨(t : ℕ) / 8 % 4, by omega⟩
/-- The block of a grid point. -/
def iOf (t : Fin cfg0.N) : Fin 8 := ⟨(t : ℕ) % 8, by omega⟩

variable (m : (ℓ : Loc nD τ sig) → Buf (Elt Ideal) ℓ) (c : Dev nD) (t : Fin cfg0.N)

/-- The block lies in its subsequence. -/
theorem iM : 256 * (iOf t : ℕ) + 256 ≤ 2048 := by have := (iOf t).isLt; omega

theorem blk0 (p : Fin 256) (l : Fin 1024) : iblk m c 0 t (ix4 0 0 p l) = qkvArr m c (ix4 (bOf t) (rOf t) (at256 (iOf t) (iM t) p) ⟨0 + l, by omega⟩) := by
  obtain ⟨e0, e1, e2, e3⟩ := i0 t
  show qkvArr m c (((cfg0.win 0).blk t).view.emb (ix4 0 0 p l)) = _
  refine congrArg _ (idx4_of _ _ _ _ _ ?_ ?_ ?_ ?_)
  · show win0_0.index t (0 : Fin 4) * 1 + 1 * 0 = _; simp only [bOf]; omega
  · show win0_0.index t (1 : Fin 4) * 1 + 1 * 0 = _; simp only [rOf]; omega
  · show win0_0.index t (2 : Fin 4) * 256 + 1 * (p : ℕ) = _; simp only [at256, iOf]; omega
  · show win0_0.index t (3 : Fin 4) * 1024 + 1 * (l : ℕ) = _; dsimp only; omega

theorem blk1 (p : Fin 64) (l : Fin 1024) (n : Fin 2048) (hn : (n : ℕ) + 64 = 256 * (iOf t : ℕ) + p) :
    iblk m c 1 t (ix4 0 0 p l) = qkvArr m c (ix4 (bOf t) (rOf t) n ⟨1024 + l, by omega⟩) := by
  obtain ⟨e0, e1, e2, e3⟩ := i1 t
  have hi : (iOf t : ℕ) = (t : ℕ) % 8 := rfl
  show qkvArr m c (((cfg0.win 1).blk t).view.emb (ix4 0 0 p l)) = _
  refine congrArg _ (idx4_of _ _ _ _ _ ?_ ?_ ?_ ?_)
  · show win0_1.index t (0 : Fin 4) * 1 + 1 * 0 = _; simp only [bOf]; omega
  · show win0_1.index t (1 : Fin 4) * 1 + 1 * 0 = _; simp only [rOf]; omega
  · show win0_1.index t (2 : Fin 4) * 64 + 1 * (p : ℕ) = _; omega
  · show win0_1.index t (3 : Fin 4) * 1024 + 1 * (l : ℕ) = _; dsimp only; omega

theorem blk2 (p : Fin 256) (l : Fin 1024) : iblk m c 2 t (ix4 0 0 p l) = qkvArr m c (ix4 (bOf t) (rOf t) (at256 (iOf t) (iM t) p) ⟨1024 + l, by omega⟩) := by
  obtain ⟨e0, e1, e2, e3⟩ := i2 t
  show qkvArr m c (((cfg0.win 2).blk t).view.emb (ix4 0 0 p l)) = _
  refine congrArg _ (idx4_of _ _ _ _ _ ?_ ?_ ?_ ?_)
  · show win0_2.index t (0 : Fin 4) * 1 + 1 * 0 = _; simp only [bOf]; omega
  · show win0_2.index t (1 : Fin 4) * 1 + 1 * 0 = _; simp only [rOf]; omega
  · show win0_2.index t (2 : Fin 4) * 256 + 1 * (p : ℕ) = _; simp only [at256, iOf]; omega
  · show win0_2.index t (3 : Fin 4) * 1024 + 1 * (l : ℕ) = _; dsimp only; omega

theorem blk3 (p : Fin 64) (l : Fin 1024) (n : Fin 2048) (hn : (n : ℕ) = 256 * (iOf t : ℕ) + 256 + p) :
    iblk m c 3 t (ix4 0 0 p l) = qkvArr m c (ix4 (bOf t) (rOf t) n ⟨1024 + l, by omega⟩) := by
  obtain ⟨e0, e1, e2, e3⟩ := i3 t
  have hi : (iOf t : ℕ) = (t : ℕ) % 8 := rfl
  show qkvArr m c (((cfg0.win 3).blk t).view.emb (ix4 0 0 p l)) = _
  refine congrArg _ (idx4_of _ _ _ _ _ ?_ ?_ ?_ ?_)
  · show win0_3.index t (0 : Fin 4) * 1 + 1 * 0 = _; simp only [bOf]; omega
  · show win0_3.index t (1 : Fin 4) * 1 + 1 * 0 = _; simp only [rOf]; omega
  · show win0_3.index t (2 : Fin 4) * 64 + 1 * (p : ℕ) = _; omega
  · show win0_3.index t (3 : Fin 4) * 1024 + 1 * (l : ℕ) = _; dsimp only; omega

theorem blk4 (p : Fin 64) (l : Fin 1024) (n : Fin 2048) (hn : (n : ℕ) + 64 = 256 * (iOf t : ℕ) + p) :
    iblk m c 4 t (ix4 0 0 p l) = qkvArr m c (ix4 (bOf t) (rOf t) n ⟨2048 + l, by omega⟩) := by
  obtain ⟨e0, e1, e2, e3⟩ := i4 t
  have hi : (iOf t : ℕ) = (t : ℕ) % 8 := rfl
  show qkvArr m c (((cfg0.win 4).blk t).view.emb (ix4 0 0 p l)) = _
  refine congrArg _ (idx4_of _ _ _ _ _ ?_ ?_ ?_ ?_)
  · show win0_4.index t (0 : Fin 4) * 1 + 1 * 0 = _; simp only [bOf]; omega
  · show win0_4.index t (1 : Fin 4) * 1 + 1 * 0 = _; simp only [rOf]; omega
  · show win0_4.index t (2 : Fin 4) * 64 + 1 * (p : ℕ) = _; omega
  · show win0_4.index t (3 : Fin 4) * 1024 + 1 * (l : ℕ) = _; dsimp only; omega

theorem blk5 (p : Fin 256) (l : Fin 1024) : iblk m c 5 t (ix4 0 0 p l) = qkvArr m c (ix4 (bOf t) (rOf t) (at256 (iOf t) (iM t) p) ⟨2048 + l, by omega⟩) := by
  obtain ⟨e0, e1, e2, e3⟩ := i5 t
  show qkvArr m c (((cfg0.win 5).blk t).view.emb (ix4 0 0 p l)) = _
  refine congrArg _ (idx4_of _ _ _ _ _ ?_ ?_ ?_ ?_)
  · show win0_5.index t (0 : Fin 4) * 1 + 1 * 0 = _; simp only [bOf]; omega
  · show win0_5.index t (1 : Fin 4) * 1 + 1 * 0 = _; simp only [rOf]; omega
  · show win0_5.index t (2 : Fin 4) * 256 + 1 * (p : ℕ) = _; simp only [at256, iOf]; omega
  · show win0_5.index t (3 : Fin 4) * 1024 + 1 * (l : ℕ) = _; dsimp only; omega

theorem blk6 (p : Fin 64) (l : Fin 1024) (n : Fin 2048) (hn : (n : ℕ) = 256 * (iOf t : ℕ) + 256 + p) :
    iblk m c 6 t (ix4 0 0 p l) = qkvArr m c (ix4 (bOf t) (rOf t) n ⟨2048 + l, by omega⟩) := by
  obtain ⟨e0, e1, e2, e3⟩ := i6 t
  have hi : (iOf t : ℕ) = (t : ℕ) % 8 := rfl
  show qkvArr m c (((cfg0.win 6).blk t).view.emb (ix4 0 0 p l)) = _
  refine congrArg _ (idx4_of _ _ _ _ _ ?_ ?_ ?_ ?_)
  · show win0_6.index t (0 : Fin 4) * 1 + 1 * 0 = _; simp only [bOf]; omega
  · show win0_6.index t (1 : Fin 4) * 1 + 1 * 0 = _; simp only [rOf]; omega
  · show win0_6.index t (2 : Fin 4) * 64 + 1 * (p : ℕ) = _; omega
  · show win0_6.index t (3 : Fin 4) * 1024 + 1 * (l : ℕ) = _; dsimp only; omega

theorem blk7 (p : Fin 128) (x : Fin 256) : @Eq EReal (iblk m c 7 t (ix3 0 p x)) (if Valid 2048 (256 * (iOf t : ℕ)) p x then 0 else ⊥) := by
  obtain ⟨e0, e1, e2⟩ := i7 t
  have hi : (iOf t : ℕ) = (t : ℕ) % 8 := rfl
  have : iblk m c 7 t (ix3 0 p x) = biasArr m c (ix3 (if (t : ℕ) % 8 = 0 then 0 else 1) p x) := by
    show biasArr m c (((cfg0.win 7).blk t).view.emb (ix3 0 p x)) = _
    refine congrArg _ (idx3_of _ _ _ _ ?_ ?_ ?_)
    · show win0_7.index t (0 : Fin 3) * 1 + 1 * 0 = _; rw [e0]; split <;> rfl
    · show win0_7.index t (1 : Fin 3) * 128 + 1 * (p : ℕ) = _; omega
    · show win0_7.index t (2 : Fin 3) * 256 + 1 * (x : ℕ) = _; omega
  refine this.trans ((bias_at m c _ p x).trans (if_congr ?_ rfl rfl))
  unfold Valid
  split
  · simp; omega
  · simp; omega

theorem blk8 (p : Fin 128) (x : Fin 256) : @Eq EReal (iblk m c 8 t (ix3 0 p x)) (if Valid 2048 (256 * (iOf t : ℕ) + 128) p x then 0 else ⊥) := by
  obtain ⟨e0, e1, e2⟩ := i8 t
  have hi : (iOf t : ℕ) = (t : ℕ) % 8 := rfl
  have : iblk m c 8 t (ix3 0 p x) = biasArr m c (ix3 (if (t : ℕ) % 8 = 7 then 2 else 1) p x) := by
    show biasArr m c (((cfg0.win 8).blk t).view.emb (ix3 0 p x)) = _
    refine congrArg _ (idx3_of _ _ _ _ ?_ ?_ ?_)
    · show win0_8.index t (0 : Fin 3) * 1 + 1 * 0 = _; rw [e0]; split <;> rfl
    · show win0_8.index t (1 : Fin 3) * 128 + 1 * (p : ℕ) = _; omega
    · show win0_8.index t (2 : Fin 3) * 256 + 1 * (x : ℕ) = _; omega
  refine this.trans ((bias_at m c _ p x).trans (if_congr ?_ rfl rfl))
  unfold Valid
  split
  · simp; omega
  · simp; omega

/-- What the blocks of a grid point hold. -/
theorem blocks : Blocks (qArg m c) (kArg m c) (vArg m c) (bOf t) (tk (rOf t)) (iOf t) (iM t) (iblk m c 0 t) (iblk m c 1 t) (iblk m c 2 t)
    (iblk m c 3 t) (iblk m c 4 t) (iblk m c 5 t) (iblk m c 6 t) (iblk m c 7 t) (iblk m c 8 t) where
  h0 p l := by
    rw [blk0, q_at m c _ _ _ _ (by dsimp only; omega)]
    refine congrArg (fun z : EReal => z * ((c2 : ℝ) : EReal)) (congrArg (qArg m c) (ix4_congr rfl rfl ?_ ?_)) <;> simp only [hd, ft] <;> omega
  h1 p l n hn := by
    rw [blk1 m c t p l n hn, k_at m c _ _ _ _ (by dsimp only; omega) (by dsimp only; omega)]
    refine congrArg (kArg m c) (ix4_congr rfl rfl ?_ ?_) <;> simp only [hd, ft] <;> omega
  h2 p l := by
    rw [blk2, k_at m c _ _ _ _ (by dsimp only; omega) (by dsimp only; omega)]
    refine congrArg (kArg m c) (ix4_congr rfl rfl ?_ ?_) <;> simp only [hd, ft] <;> omega
  h3 p l n hn := by
    rw [blk3 m c t p l n hn, k_at m c _ _ _ _ (by dsimp only; omega) (by dsimp only; omega)]
    refine congrArg (kArg m c) (ix4_congr rfl rfl ?_ ?_) <;> simp only [hd, ft] <;> omega
  h4 p l n hn := by
    rw [blk4 m c t p l n hn, v_at m c _ _ _ _ (by dsimp only; omega)]
    refine congrArg (vArg m c) (ix4_congr rfl rfl ?_ ?_) <;> dsimp only <;> omega
  h5 p l := by
    rw [blk5, v_at m c _ _ _ _ (by dsimp only; omega)]
    refine congrArg (vArg m c) (ix4_congr rfl rfl ?_ ?_) <;> dsimp only <;> omega
  h6 p l n hn := by
    rw [blk6 m c t p l n hn, v_at m c _ _ _ _ (by dsimp only; omega)]
    refine congrArg (vArg m c) (ix4_congr rfl rfl ?_ ?_) <;> dsimp only <;> omega
  h7 := blk7 m c t
  h8 := blk8 m c t

/-- The output array. -/
def outArr (q k v : FVec Ideal S2x8192x16x64 .f32) : FVec Ideal S2x4x2048x1024 .bf16 := fun j => outAt q k v (j 0) (tk (j 1)) (j 2) (j 3)

/-- The log-sum-exp array. -/
def lseArr (q k : FVec Ideal S2x8192x16x64 .f32) : FVec Ideal S2x4x2048x128 .f32 := fun j => lseAt q k (j 0) (tk (j 1)) (j 2) (j 3)

variable (fq : ∀ i, (qArg m c i : EReal) ≠ ⊤ ∧ (qArg m c i : EReal) ≠ ⊥) (fk : ∀ i, (kArg m c i : EReal) ≠ ⊤ ∧ (kArg m c i : EReal) ≠ ⊥)

include fq fk

/-- The output array after the run. -/
theorem final9 : (dats m 0 c).arrAt 9 cfg0.N = outArr (qArg m c) (kArg m c) (vArg m c) := by
  refine (dats m 0 c).arrAt_eq_of_covers 9 _ (by decide +kernel) fun t hf y => ?_
  blk_simp
  rw [after0_9, out_block (blocks m c t) fq fk]
  obtain ⟨p, l, rfl⟩ := idx4_eq (n2 := 256) (n3 := 1024) y
  obtain ⟨e0, e1, e2, e3⟩ := i9 t
  refine Eq.trans ?_ (congrArg (outArr (qArg m c) (kArg m c) (vArg m c)) (idx4_of _ (bOf t) (rOf t) (at256 (iOf t) (iM t) p) l ?_ ?_ ?_ ?_)).symm
  · rfl
  · show win0_9.index t (0 : Fin 4) * 1 + 1 * 0 = _; simp only [bOf]; omega
  · show win0_9.index t (1 : Fin 4) * 1 + 1 * 0 = _; simp only [rOf]; omega
  · show win0_9.index t (2 : Fin 4) * 256 + 1 * (p : ℕ) = _; simp only [at256, iOf]; omega
  · show win0_9.index t (3 : Fin 4) * 1024 + 1 * (l : ℕ) = _; omega

/-- The log-sum-exp array after the run. -/
theorem final10 : (dats m 0 c).arrAt 10 cfg0.N = lseArr (qArg m c) (kArg m c) := by
  refine (dats m 0 c).arrAt_eq_of_covers 10 _ (by decide +kernel) fun t hf y => ?_
  blk_simp
  rw [after0_10, lse_block (blocks m c t) fq fk]
  obtain ⟨p, l, rfl⟩ := idx4_eq (n2 := 256) (n3 := 128) y
  obtain ⟨e0, e1, e2, e3⟩ := i10 t
  refine Eq.trans ?_ (congrArg (lseArr (qArg m c) (kArg m c)) (idx4_of _ (bOf t) (rOf t) (at256 (iOf t) (iM t) p) l ?_ ?_ ?_ ?_)).symm
  · rfl
  · show win0_10.index t (0 : Fin 4) * 1 + 1 * 0 = _; simp only [bOf]; omega
  · show win0_10.index t (1 : Fin 4) * 1 + 1 * 0 = _; simp only [rOf]; omega
  · show win0_10.index t (2 : Fin 4) * 256 + 1 * (p : ℕ) = _; simp only [at256, iOf]; omega
  · show win0_10.index t (3 : Fin 4) * 128 + 1 * (l : ℕ) = _; omega

end Cert.KernelIdeal.Units

end
-- ==== Proof.RefLayout.lean ====
/- The reference's layout of its queries, keys and values, and its mask. -/
module

public import proofs.«01_k».proof.Proof.BlockValue
public import proofs.«01_k».proof.Proof.Host
public import proofs.«01_k».proof.Proof.Gen.ReferenceIdeal.Read
public import Idealize.ShloMosaic.Lib.Pointwise

@[expose] public section

set_option maxRecDepth 16384

noncomputable section

namespace Cert.ReferenceIdeal.Rows

open Idealize.ShloMosaic Idealize.SL.Sem Cert.ReferenceIdeal Cert.ReferenceIdeal.Read Cert.Band
open Cert.KernelIdeal.Units (dots outAt lseAt)
open Cert.KernelIdeal.HostSide (tk)

variable (q k v : FVec Ideal S2x8192x16x64 .f32)

theorem pad_q (b : Fin 2) (p : Fin 8192) (h : Fin 16) (f : Fin 64) : val_main_v0 (F := Ideal) q (ix4 b p h f) = q (ix4 b p h f) := by
  unfold val_main_v0
  pointwise

/-- A query, as the reference lays it out: block of 64 positions, position in it, residue, head. -/
theorem q_at (b : Fin 2) (nb : Fin 32) (y : Fin 64) (r : Fin 4) (h : Fin 16) (f : Fin 64) :
    val_main_v6 (F := Ideal) q (ix6 b nb y r h f) = q (ix4 b (tk r ⟨64 * nb + y, by omega⟩) h f) := by
  unfold val_main_v6 val_main_v1
  pointwise
  rw [pad_q]
  exact congrArg q (ix4_congr rfl (by simp only [tk]; omega) rfl rfl)

theorem pad_k (b : Fin 2) (p : Fin 8192) (h : Fin 16) (f : Fin 64) : val_main_v2 (F := Ideal) k (ix4 b p h f) = k (ix4 b p h f) := by
  unfold val_main_v2
  pointwise

theorem shifted_k (b : Fin 2) (x : Fin 2176) (r : Fin 4) (h : Fin 16) (f : Fin 64) (h1 : 64 ≤ (x : ℕ)) (h2 : (x : ℕ) < 2112) :
    val_main_v7 (F := Ideal) k (ix5 b x r h f) = k (ix4 b (tk r ⟨x - 64, by omega⟩) h f) := by
  unfold val_main_v7 val_main_v3
  pointwise
  rw [dif_pos (by omega), pad_k]
  exact congrArg k (ix4_congr rfl (by simp only [tk]; omega) rfl rfl)

/-- A key of a block's window of 192 positions, where there is one. -/
theorem k_at (b : Fin 2) (nb : Fin 32) (x : Fin 192) (r : Fin 4) (h : Fin 16) (f : Fin 64) (h1 : 64 ≤ 64 * (nb : ℕ) + x)
    (h2 : 64 * (nb : ℕ) + x < 2112) : val_main_v14 (F := Ideal) k (ix6 b nb x r h f) = k (ix4 b (tk r (pos (64 * nb) x)) h f) := by
  unfold val_main_v14 val_main_v9 val_main_v11 val_main_v13 val_main_v8 val_main_v10 val_main_v12
  pointwise
  split_ifs
  all_goals
    rw [shifted_k _ _ _ _ _ _ (by dsimp only; omega) (by dsimp only; omega)]
    exact congrArg k (ix4_congr rfl (by simp only [tk, pos]; omega) rfl rfl)

/-- A value of the window: the same layout. -/
theorem v_at (b : Fin 2) (nb : Fin 32) (x : Fin 192) (r : Fin 4) (h : Fin 16) (f : Fin 64) (h1 : 64 ≤ 64 * (nb : ℕ) + x)
    (h2 : 64 * (nb : ℕ) + x < 2112) : val_main_v22 (F := Ideal) v (ix6 b nb x r h f) = v (ix4 b (tk r (pos (64 * nb) x)) h f) :=
  (congrFun (rfl : val_main_v22 (F := Ideal) v = val_main_v14 (F := Ideal) v) _).trans (k_at v b nb x r h f h1 h2)

theorem band_word : ∀ (y : Fin 64) (x : Fin 192), IntOp.cmpi .sle
    (IntOp.absi (IntOp.subi (IntOp.subi (BitVec.ofNat 32 (x : ℕ)) 64#32) (BitVec.ofNat 32 (y : ℕ)))) 64#32
      = if (y : ℕ) ≤ x ∧ (x : ℕ) ≤ y + 128 then 1#1 else 0#1 := by decide +kernel

theorem inside_word : ∀ (nb : Fin 32) (x : Fin 192) (r : Fin 4), IntOp.andi
    (IntOp.cmpi .sge (IntOp.addi (IntOp.subi (IntOp.muli (BitVec.ofNat 32 (nb : ℕ)) 64#32) 64#32) (BitVec.ofNat 32 (x : ℕ))) 0#32)
    (IntOp.cmpi .slt (IntOp.addi (IntOp.muli (IntOp.addi (IntOp.subi (IntOp.muli (BitVec.ofNat 32 (nb : ℕ)) 64#32) 64#32)
      (BitVec.ofNat 32 (x : ℕ))) 4#32) (BitVec.ofNat 32 (r : ℕ))) 8192#32)
      = if 64 ≤ 64 * (nb : ℕ) + x ∧ 64 * (nb : ℕ) + x < 2112 then 1#1 else 0#1 := by decide +kernel

/-- The mask: the band's keys that are positions. -/
theorem mask_at (nb : Fin 32) (r : Fin 4) (y : Fin 64) (x : Fin 192) :
    val_main_v66 (F := Ideal) (ix4 nb r y x) = if Valid 2048 (64 * (nb : ℕ)) y x then 1#1 else 0#1 := by
  simp only [val_main_v66_apply, val_main_v65_apply, val_main_v64_apply, val_main_v63_apply, val_main_v62_apply, val_main_v61_apply,
    val_main_v60_apply, val_main_v59_apply, val_main_v58_apply, val_main_v57_apply, val_main_v56_apply, val_main_v55_apply,
    val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_c_4_apply, val_main_c_5_apply, val_main_c_6_apply, val_main_c_7_apply,
    val_main_c_8_apply, val_main_c_9_apply, val_main_c_10_apply]
  refine (congrArg₂ IntOp.andi (band_word y x) (inside_word nb x r)).trans ?_
  by_cases h1 : (y : ℕ) ≤ x ∧ (x : ℕ) ≤ y + 128 <;> by_cases h2 : 64 ≤ 64 * (nb : ℕ) + x ∧ 64 * (nb : ℕ) + x < 2112
  · rw [if_pos h1, if_pos h2, if_pos (show Valid _ _ _ _ from ⟨h1.1, h1.2, h2.1, h2.2⟩)]; rfl
  · rw [if_pos h1, if_neg h2, if_neg (fun h : Valid _ _ _ _ => h2 ⟨h.2.2.1, h.2.2.2⟩)]; rfl
  · rw [if_neg h1, if_pos h2, if_neg (fun h : Valid _ _ _ _ => h1 ⟨h.1, h.2.1⟩)]; rfl
  · rw [if_neg h1, if_neg h2, if_neg (fun h : Valid _ _ _ _ => h1 ⟨h.1, h.2.1⟩)]; rfl

end Cert.ReferenceIdeal.Rows

end
-- ==== Proof.RefValue.lean ====
/- The reference's results as functions of the queries, keys and values. -/
module

public import proofs.«01_k».proof.Proof.RefLayout

@[expose] public section

set_option maxRecDepth 16384

noncomputable section

namespace Cert.ReferenceIdeal.Rows

open Idealize.ShloMosaic Idealize.SL.Sem Cert.ReferenceIdeal Cert.ReferenceIdeal.Read Cert.Band
open Cert.KernelIdeal.Units (dots outAt lseAt)
open Cert.KernelIdeal.HostSide (tk)

variable (q k v : FVec Ideal S2x8192x16x64 .f32)

section Finite

variable (fq : ∀ i, (q i : EReal) ≠ ⊤ ∧ (q i : EReal) ≠ ⊥) (fk : ∀ i, (k i : EReal) ≠ ⊤ ∧ (k i : EReal) ≠ ⊥)
variable (b : Fin 2) (nb : Fin 32) (r : Fin 4) (h : Fin 16) (y : Fin 64)

/-- A query's position. -/
def nOf : Fin 2048 := ⟨64 * nb + y, by omega⟩

/-- A query's masked scores. -/
def sRow (x : Fin 192) : EReal := val_main_v71 (F := Ideal) q k (ix6 b nb r h y x)

theorem select_one (x y : EReal) : Scalar.select 1#1 x y = x := rfl

theorem select_zero (x y : EReal) : Scalar.select 0#1 x y = y := rfl

include fq fk in
theorem s_at (x : Fin 192) : sRow q k b nb r h y x
    = if Valid 2048 (64 * (nb : ℕ)) y x then ((1 / 8 * dots q k b (tk r) h (nOf nb y) (pos (64 * nb) x) : ℝ) : EReal) else ⊥ := by
  unfold sRow
  rw [val_main_v71_apply]
  have hm : val_main_call5_v1 (F := Ideal) (ix6 b nb r h y x) = if Valid 2048 (64 * (nb : ℕ)) y x then 1#1 else 0#1 := by
    rw [← mask_at nb r y x]
    unfold val_main_call5_v1 val_main_v70
    pointwise
  have hn : val_main_call5_v2 (F := Ideal) (ix6 b nb r h y x) = (⊥ : EReal) := by
    unfold val_main_call5_v2 val_main_call5_v0 val_main_cst_11
    pointwise
    exact Cert.KernelIdeal.Body.ninf_f32
  rw [hm]
  by_cases hv : Valid 2048 (64 * (nb : ℕ)) y x
  · rw [if_pos hv, if_pos hv]
    obtain ⟨h1, h2, h3, h4⟩ := hv
    have he : ∀ f : Fin 64, (val_main_v6 (F := Ideal) q (ix6 b nb y r h f) : EReal) * val_main_v14 (F := Ideal) k (ix6 b nb x r h f)
        = (((q (ix4 b (tk r (nOf nb y)) h f) : EReal).toReal * (k (ix4 b (tk r (pos (64 * nb) x)) h f) : EReal).toReal : ℝ) : EReal) := by
      intro f
      rw [q_at, k_at k b nb x r h f h3 h4, EReal.coe_mul, EReal.coe_toReal (fq _).1 (fq _).2, EReal.coe_toReal (fk _).1 (fk _).2]
      rfl
    have hs : (val_main_v67 (F := Ideal) q k (ix6 b nb r h y x) : EReal) = ((dots q k b (tk r) h (nOf nb y) (pos (64 * nb) x) : ℝ) : EReal) := by
      rw [val_main_v67_apply, dots, coe_sum]
      refine Finset.sum_congr rfl fun f _ => (Eq.trans ?_ (he f))
      exact congrArg₂ (fun a b : EReal => a * b) (congrArg (val_main_v6 (F := Ideal) q) (by funext a; fin_cases a <;> rfl))
        (congrArg (val_main_v14 (F := Ideal) k) (by funext a; fin_cases a <;> rfl))
    have hc : val_main_v68 (F := Ideal) (ix6 b nb r h y x) = ((1 / 8 : ℝ) : EReal) := by
      rw [val_main_v68_apply, val_main_cst_apply]
      exact Cert.KernelIdeal.HostSide.eighth_f32
    rw [select_one, val_main_v69_apply, hs, hc, Ideal.mulf_def, ← EReal.coe_mul, mul_comm]
  · rw [if_neg hv, if_neg hv]
    rw [select_zero]
    exact hn

/-- The greatest score. -/
theorem max_at : val_main_v72 (F := Ideal) q k (ix5 b nb r h y) = mx (sRow q k b nb r h y) := by
  unfold val_main_v72 mx
  rw [Host.reduce_eq_fold_single _ _ _ _ (by decide)]
  refine congrArg₂ (fun (a : EReal) (g : Fin 192 → EReal) => Finset.univ.fold max a g) Cert.KernelIdeal.Body.ninf_f32 (funext fun x => ?_)
  exact congrArg (val_main_v71 (F := Ideal) q k) (by funext a; fin_cases a <;> rfl)

theorem weight_at (x : Fin 192) : val_main_v76 (F := Ideal) q k (ix6 b nb r h y x) = ew (sRow q k b nb r h y) x := by
  unfold val_main_v76 val_main_v75 val_main_v74 val_main_v73 ew
  pointwise
  rw [max_at]
  rfl

theorem sum_at : val_main_v77 (F := Ideal) q k (ix5 b nb r h y) = es (sRow q k b nb r h y) := by
  rw [val_main_v77_apply, es]
  refine (congrArg₂ (fun a b : EReal => a + b) (Cert.KernelIdeal.Body.zero_f32) (Finset.sum_congr rfl fun x _ => ?_)).trans (zero_add _)
  exact (congrArg (val_main_v76 (F := Ideal) q k) (by funext a; fin_cases a <;> rfl)).trans (weight_at q k b nb r h y x)

theorem prod_at (f : Fin 64) : val_main_v78 (F := Ideal) q k v (ix6 b nb r h f y)
    = ∑ x, ew (sRow q k b nb r h y) x * (val_main_v22 (F := Ideal) v (ix6 b nb x r h f) : EReal) := by
  rw [val_main_v78_apply]
  refine Finset.sum_congr rfl fun x _ => ?_
  rw [mul_comm (ew _ _), ← weight_at q k b nb r h y x]
  exact congrArg₂ (fun a b : EReal => a * b) (congrArg (val_main_v22 (F := Ideal) v) (by funext a; fin_cases a <;> rfl))
    (congrArg (val_main_v76 (F := Ideal) q k) (by funext a; fin_cases a <;> rfl))

include fq fk in
/-- The reference's mean. -/
theorem ratio_at (f : Fin 64) : (val_main_v83 (F := Ideal) q k v (ix6 b nb y r h f) : EReal)
    = mean (nOf nb y) (dots q k b (tk r) h (nOf nb y)) fun t => v (ix4 b (tk r t) h f) := by
  rw [← mean_of_row (by omega) (nOf nb y) rfl _ _ (s_at q k fq fk b nb r h y) (fun x => val_main_v22 (F := Ideal) v (ix6 b nb x r h f)) _
    (fun x hx => v_at v b nb x r h f hx.2.2.1 hx.2.2.2), ← prod_at, ← sum_at]
  unfold val_main_v83 val_main_v79 val_main_v82 val_main_v81 val_main_v80
  generalize val_main_v78 (F := Ideal) q k v = A
  generalize val_main_v77 (F := Ideal) q k = B
  pointwise

/-- The reference's log-sum-exp from the greatest scores and the sums. -/
theorem logsum_of (A B : FVec Ideal S2x32x4x16x64 .f32) :
    transpose S2x32x64x4x16 [0, 1, 4, 2, 3] (addf (shapeCast S2x32x4x16x64 (broadcastInDim S2x32x4x16x64x1 ![0, 1, 2, 3, 4]
      Gen.bcast_S2x32x4x16x64_S2x32x4x16x64x1_0_1_2_3_4 A) Gen.shapeCasts_S2x32x4x16x64x1_S2x32x4x16x64) (Host.log B))
      Gen.transposes_S2x32x4x16x64_S2x32x64x4x16_0_1_4_2_3 (ix5 b nb y r h)
      = (A (ix5 b nb r h y) : EReal) + Ideal.log (B (ix5 b nb r h y)) := by
  pointwise

include fq fk in
/-- The reference's log-sum-exp. -/
theorem logsum_at : (val_main_v87 (F := Ideal) q k (ix5 b nb y r h) : EReal) = lse (nOf nb y) (dots q k b (tk r) h (nOf nb y)) := by
  refine (logsum_of b nb r h y _ _).trans ?_
  rw [max_at, sum_at]
  exact lse_of_row (by omega) (nOf nb y) rfl _ _ (s_at q k fq fk b nb r h y)

end Finite

theorem lse_pad (b : Fin 2) (r : Fin 4) (n : Fin 2048) (l : Fin 128) : val_main_v95 (F := Ideal) q k (ix4 b r n l)
    = if h : (l : ℕ) < 16 then val_main_v93 (F := Ideal) q k (ix4 b r n ⟨l, h⟩) else (0 : EReal) := by
  unfold val_main_v95
  pointwise
  split_ifs
  · rfl
  · show (((0#32 : BitVec 32).toInt : ℝ) : EReal) = 0
    simp

section Results

variable (fq : ∀ i, (q i : EReal) ≠ ⊤ ∧ (q i : EReal) ≠ ⊥) (fk : ∀ i, (k i : EReal) ≠ ⊤ ∧ (k i : EReal) ≠ ⊥)

theorem split_n (n : Fin 2048) : nOf ⟨n / 64, by omega⟩ ⟨n % 64, by omega⟩ = n := Fin.ext (Nat.div_add_mod n 64)

include fq fk in
/-- The reference's first result. -/
theorem out_ref (b : Fin 2) (r : Fin 4) (n : Fin 2048) (l : Fin 1024) :
    (val_main_v94 (F := Ideal) q k v (ix4 b r n l) : EReal) = outAt q k v b (tk r) n l := by
  have e := ratio_at q k v fq fk b ⟨n / 64, by omega⟩ r ⟨l / 64, by omega⟩ ⟨n % 64, by omega⟩ ⟨l % 64, by omega⟩
  rw [split_n] at e
  rw [outAt, ← e]
  unfold val_main_v94 val_main_v91 val_main_v90 val_main_v88
  generalize val_main_v83 (F := Ideal) q k v = A
  pointwise

include fq fk in
/-- The reference's second result. -/
theorem lse_ref (b : Fin 2) (r : Fin 4) (n : Fin 2048) (l : Fin 128) :
    (val_main_v95 (F := Ideal) q k (ix4 b r n l) : EReal) = lseAt q k b (tk r) n l := by
  rw [lse_pad, lseAt]
  split_ifs with hl
  · have e := logsum_at q k fq fk b ⟨n / 64, by omega⟩ r ⟨l, hl⟩ ⟨n % 64, by omega⟩
    rw [split_n] at e
    rw [← e]
    unfold val_main_v93 val_main_v92 val_main_v89
    generalize val_main_v87 (F := Ideal) q k = A
    pointwise
  · rfl

end Results

end Cert.ReferenceIdeal.Rows

end
-- ==== Proof.Finite.lean ====
/- What the precondition says: every query and every key is finite. -/
module

public import proofs.«01_k».proof.Pre_finite_qk
public import Idealize.ShloMosaic.Lib.ReduceAll
public import Idealize.ShloMosaic.Lib.Pointwise

@[expose] public section

noncomputable section

namespace Cert.Pre_finite_qk.Hand

open Idealize.ShloMosaic Cert.Pre_finite_qk

/-- The predicate's shape facts. -/
theorem facts : Facts where
  bcast_S_S2x8192x16x64 := by decide
  reducesTo_S2x8192x16x64_S_d0_1_2_3 := by decide
  h_S_ := by decide

/-- The magnitude of a value lies below the infinity's word only if the value is finite. -/
theorem finite_of_lt (x : EReal) (e : Ideal.cmp .olt (max x (-x)) (Ideal.ofBits .f32 0x7F800000#32) = 1#1) : x ≠ ⊤ ∧ x ≠ ⊥ := by
  have htop : Ideal.ofBits .f32 0x7F800000#32 = ⊤ := by simp [Ideal.ofBits, Ideal.ieee]
  rw [htop] at e
  constructor <;> rintro rfl <;> simp [Ideal.cmp] at e

/-- One array's test, read at an element. -/
theorem finite_of_all [Facts] (x : FVec Ideal S2x8192x16x64 .f32)
    (e : Host.reduce IntOp.andi (cmpf .olt (Host.absf x) (broadcastInDim S2x8192x16x64 ![] Facts.bcast_S_S2x8192x16x64 (constant S_ .f32 0x7F800000#32)))
      (constantI S_ 1 1#1) Facts.reducesTo_S2x8192x16x64_S_d0_1_2_3 Facts.h_S_ ix0 = 1#1) (i : S2x8192x16x64.Idx) :
    (x i : EReal) ≠ ⊤ ∧ (x i : EReal) ≠ ⊥ := by
  haveI : Subsingleton S_.Idx := ⟨fun a b => funext fun d => d.elim0⟩
  exact finite_of_lt _ (Host.reduce_andi_all _ _ _ _ _ e i)

variable [Facts] (q k v : FVec Ideal S2x8192x16x64 .f32)

/-- The precondition gives finite queries and keys. -/
theorem finite (e : fn (F := Ideal) q k v = fun _ => 1#1) :
    (∀ i, (q i : EReal) ≠ ⊤ ∧ (q i : EReal) ≠ ⊥) ∧ ∀ i, (k i : EReal) ≠ ⊤ ∧ (k i : EReal) ≠ ⊥ := by
  have e0 := IntOp.andi_eq_one.1 (congrFun e ix0)
  exact ⟨finite_of_all q e0.1, finite_of_all k e0.2⟩

end Cert.Pre_finite_qk.Hand

end
-- ==== Proof.Swiglu.lean ====
/- The gated feed-forward of one row over the extended reals, and its sum over the hidden axis taken seven blocks of 512 at a time. -/
module

public import Idealize.ShloMosaic.PureOps.Ideal
public import Idealize.ShloMosaic.Lib.Pointwise
public import Idealize.ShloMosaic.Lib.Pipeline.ValueKit.Acc

@[expose] public section

noncomputable section

namespace Cert.Swiglu

open Idealize.ShloMosaic

/-- A hidden unit: its gate's value times the logistic function of it, times its other half. -/
def gate (g u : EReal) : EReal := g * Ideal.div 1 (1 + Ideal.exp (-g)) * u

/-- Hidden unit `j` of a row: the first 3584 columns of the weights give its gate, the others its other half. -/
def unit (h : Fin 1024 → EReal) (w : Fin 1024 → Fin 7168 → EReal) (j : Fin 3584) : EReal :=
  gate (∑ d, h d * w d ⟨j, by omega⟩) (∑ d, h d * w d ⟨3584 + j, by omega⟩)

/-- The row's result in column `n`. -/
def out (h : Fin 1024 → EReal) (w : Fin 1024 → Fin 7168 → EReal) (v : Fin 3584 → Fin 1024 → EReal) (n : Fin 1024) : EReal :=
  ∑ j, unit h w j * v j n

/-- What hidden block `s` adds to the row's result. -/
def part (h : Fin 1024 → EReal) (w : Fin 1024 → Fin 7168 → EReal) (v : Fin 3584 → Fin 1024 → EReal) (n : Fin 1024) (s : Fin 7) : EReal :=
  ∑ q : Fin 512, unit h w ⟨s * 512 + q, by omega⟩ * v ⟨s * 512 + q, by omega⟩ n

/-- The seven blocks make the row. -/
theorem sum_part (h : Fin 1024 → EReal) (w : Fin 1024 → Fin 7168 → EReal) (v : Fin 3584 → Fin 1024 → EReal) (n : Fin 1024) :
    ∑ s, part h w v n s = out h w v n :=
  Fin.sum_mul_add_fin 7 512 (fun j : Fin 3584 => unit h w j * v j n)

end Cert.Swiglu

end
-- ==== Proof.FfnStep.lean ====
/- The feed-forward kernel's body at an index: the normalised rows it keeps, and what a hidden block adds to the running sum. -/
module

public import proofs.«01_k».proof.Proof.Gen.Kernel2Ideal.Value
public import proofs.«01_k».proof.Proof.Swiglu
public import Idealize.ShloMosaic.Lib.Pipeline.ValueKit.Geometry
public import Idealize.ShloMosaic.Lib.Pointwise
public import Idealize.ShloMosaic.Lib.StableHlo.ReadAt

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- Element `d` of a row, normalised by the root of its mean square and scaled by the gain. -/
def norm (x : Fin 1024 → EReal) (g : Fin 1024 → EReal) (d : Fin 1024) : EReal :=
  x d * Ideal.rsqrt (Ideal.div (∑ e, x e * x e) (Ideal.ofBits .f32 0x44800000#32) + Ideal.ofBits .f32 0x358637BD#32) * g d

theorem pay1_apply (x : Vec Ideal S1024x1024 .f32) (g : Vec Ideal S1x1024 .f32) (p d : Fin 1024) :
    k0_pay1 x g (ix2 p d) = norm (fun e => x (ix2 p e)) (fun e => g (ix2 0 e)) d := by
  unfold k0_pay1 norm; pointwise

theorem pay2_apply (p d : Fin 1024) : k0_pay2 (F := Ideal) (ix2 p d) = (0 : EReal) := by
  unfold k0_pay2; pointwise

theorem pay3_apply (h : Vec Ideal S1024x1024 .bf16) (wg wu : Vec Ideal S1024x512 .bf16) (acc : Vec Ideal S1024x1024 .f32)
    (wd : Vec Ideal S512x1024 .bf16) (p n : Fin 1024) : @Eq EReal (k0_pay3 h wg wu acc wd (ix2 p n)) (acc (ix2 p n)
      + ∑ q : Fin 512, Swiglu.gate (∑ d, (h (ix2 p d) : EReal) * wg (ix2 d q)) (∑ d, (h (ix2 p d) : EReal) * wu (ix2 d q)) * wd (ix2 q n)) := by
  unfold k0_pay3 Swiglu.gate; pointwise
  simp only [sub_eq_add_neg, zero_add]

theorem pay4_apply (x y : Vec Ideal S1024x1024 .f32) (p n : Fin 1024) : @Eq EReal (k0_pay4 x y (ix2 p n)) (x (ix2 p n) + y (ix2 p n)) := by
  unfold k0_pay4; pointwise

theorem i0 : ∀ t : Fin cfg0.N, win0_0.index t (0 : Fin 2) = (t : ℕ) / 7 ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = 0 ∧ win0_2.index t (1 : Fin 2) = (t : ℕ) % 7 := (by decide +kernel : ∀ t : Fin grid0.N, _)
theorem i3 : ∀ t : Fin cfg0.N, win0_3.index t (0 : Fin 2) = 0 ∧ win0_3.index t (1 : Fin 2) = 7 + (t : ℕ) % 7 := (by decide +kernel : ∀ t : Fin grid0.N, _)
theorem i4 : ∀ t : Fin cfg0.N, win0_4.index t (0 : Fin 2) = (t : ℕ) % 7 ∧ win0_4.index t (1 : Fin 2) = 0 := (by decide +kernel : ∀ t : Fin grid0.N, _)
theorem i5 : ∀ t : Fin cfg0.N, win0_5.index t (0 : Fin 2) = (t : ℕ) / 7 ∧ win0_5.index t (1 : Fin 2) = 0 := (by decide +kernel : ∀ t : Fin grid0.N, _)

variable (m : (ℓ : Loc nD τ sig) → Buf (Elt Ideal) ℓ) (c : Dev nD)

/-- The rows. -/
abbrev xArg : FVec Ideal S16384x1024 .f32 := m ((c : Thread nD τ).loc main_arg0)
/-- The gain. -/
abbrev gArg : FVec Ideal S1024 .f32 := m ((c : Thread nD τ).loc main_arg1)
/-- The gate and up weights. -/
abbrev guArg : FVec Ideal S1024x7168 .f32 := m ((c : Thread nD τ).loc main_arg2)
/-- The down weights. -/
abbrev dnArg : FVec Ideal S3584x1024 .f32 := m ((c : Thread nD τ).loc main_arg3)
/-- The gain as the kernel reads it. -/
abbrev gRow : FVec Ideal S1x1024 .f32 := V m c main_v2
/-- The gate and up weights as the kernel reads them. -/
abbrev guArr : FVec Ideal S1024x7168 .bf16 := V m c main_v0
/-- The down weights as the kernel reads them. -/
abbrev dnArr : FVec Ideal S3584x1024 .bf16 := V m c main_v1

theorem g_at (d : Fin 1024) : @Eq EReal (gRow m c (ix2 0 d)) (gArg m c (ix1 d)) := by
  unfold_abbrev_sides
  after_reads_at

theorem gu_at (d : Fin 1024) (j : Fin 7168) : @Eq EReal (guArr m c (ix2 d j)) (guArg m c (ix2 d j)) := by
  unfold_abbrev_sides
  after_reads_at

theorem dn_at (j : Fin 3584) (n : Fin 1024) : @Eq EReal (dnArr m c (ix2 j n)) (dnArg m c (ix2 j n)) := by
  unfold_abbrev_sides
  after_reads_at

/-- An index of a two-axis array from its coordinates. -/
theorem idx2_of {n0 n1 : ℕ} (j : Shape.Idx (⟨2, ![n0, n1]⟩ : Shape)) (a : Fin n0) (b : Fin n1)
    (h0 : ((j 0 : Fin n0) : ℕ) = a) (h1 : ((j 1 : Fin n1) : ℕ) = b) : j = ix2 a b := by
  funext k
  match k with
  | ⟨0, _⟩ => exact Fin.ext h0
  | ⟨1, _⟩ => exact Fin.ext h1

/-- Row `p` of the block of grid point `t`. -/
def row (t : Fin cfg0.N) (p : Fin 1024) : Fin 16384 := ⟨(t : ℕ) / 7 * 1024 + p, by have := t.isLt.trans_eq N_0; omega⟩

variable (t : Fin cfg0.N)

theorem blk0 (p d : Fin 1024) : @Eq EReal (iblk m c 0 t (ix2 p d)) (xArg m c (ix2 (row t p) d)) := by
  obtain ⟨e0, e1⟩ := i0 t
  show V m c main_arg0 (((cfg0.win 0).blk t).view.emb (ix2 p d)) = _
  refine congrArg (xArg m c) (idx2_of _ _ _ ?_ ?_)
  · show win0_0.index t (0 : Fin 2) * 1024 + 1 * (p : ℕ) = _; simp only [row]; omega
  · show win0_0.index t (1 : Fin 2) * 1024 + 1 * (d : ℕ) = _; omega

theorem blk1 (d : Fin 1024) : @Eq EReal (iblk m c 1 t (ix2 0 d)) (gArg m c (ix1 d)) := by
  obtain ⟨e0, e1⟩ := i1 t
  rw [← g_at]
  show gRow m c (((cfg0.win 1).blk t).view.emb (ix2 0 d)) = _
  refine congrArg (gRow m c) (idx2_of _ _ _ ?_ ?_)
  · show win0_1.index t (0 : Fin 2) * 1 + 1 * 0 = _; rw [e0]; rfl
  · show win0_1.index t (1 : Fin 2) * 1024 + 1 * (d : ℕ) = _; omega

theorem blk2 (d : Fin 1024) (q : Fin 512) (j : Fin 7168) (hj : (j : ℕ) = (t : ℕ) % 7 * 512 + q) :
    @Eq EReal (iblk m c 2 t (ix2 d q)) (guArg m c (ix2 d j)) := by
  obtain ⟨e0, e1⟩ := i2 t
  rw [← gu_at]
  show guArr m c (((cfg0.win 2).blk t).view.emb (ix2 d q)) = _
  refine congrArg (guArr m c) (idx2_of _ _ _ ?_ ?_)
  · show win0_2.index t (0 : Fin 2) * 1024 + 1 * (d : ℕ) = _; omega
  · show win0_2.index t (1 : Fin 2) * 512 + 1 * (q : ℕ) = _; omega

theorem blk3 (d : Fin 1024) (q : Fin 512) (j : Fin 7168) (hj : (j : ℕ) = 3584 + ((t : ℕ) % 7 * 512 + q)) :
    @Eq EReal (iblk m c 3 t (ix2 d q)) (guArg m c (ix2 d j)) := by
  obtain ⟨e0, e1⟩ := i3 t
  rw [← gu_at]
  show guArr m c (((cfg0.win 3).blk t).view.emb (ix2 d q)) = _
  refine congrArg (guArr m c) (idx2_of _ _ _ ?_ ?_)
  · show win0_3.index t (0 : Fin 2) * 1024 + 1 * (d : ℕ) = _; omega
  · show win0_3.index t (1 : Fin 2) * 512 + 1 * (q : ℕ) = _; omega

theorem blk4 (q : Fin 512) (n : Fin 1024) (j : Fin 3584) (hj : (j : ℕ) = (t : ℕ) % 7 * 512 + q) :
    @Eq EReal (iblk m c 4 t (ix2 q n)) (dnArg m c (ix2 j n)) := by
  obtain ⟨e0, e1⟩ := i4 t
  rw [← dn_at]
  show dnArr m c (((cfg0.win 4).blk t).view.emb (ix2 q n)) = _
  refine congrArg (dnArr m c) (idx2_of _ _ _ ?_ ?_)
  · show win0_4.index t (0 : Fin 2) * 512 + 1 * (q : ℕ) = _; omega
  · show win0_4.index t (1 : Fin 2) * 1024 + 1 * (n : ℕ) = _; omega

end Cert.Kernel2Ideal.Ffn

end
-- ==== Proof.FfnValue.lean ====
/- The feed-forward kernel's output array: each row plus the gated feed-forward of its normalised self. -/
module

public import proofs.«01_k».proof.Proof.FfnStep
public import Idealize.ShloMosaic.Lib.Pipeline.ReadBack

@[expose] public section

set_option maxRecDepth 16384

noncomputable section

namespace Cert.Kernel2Ideal.Ffn

open Idealize.ShloMosaic Idealize.ShloMosaic.TcCoe Idealize.SL.Sem Cert.Kernel2Ideal Cert.Kernel2Ideal.Gen

/-- A row's normalised self. -/
def normRow (x : FVec Ideal S16384x1024 .f32) (g : FVec Ideal S1024 .f32) (r : Fin 16384) : Fin 1024 → EReal :=
  norm (fun e => x (ix2 r e)) (fun e => g (ix1 e))

/-- The output at row `r` and column `n`. -/
def outAt (x : FVec Ideal S16384x1024 .f32) (g : FVec Ideal S1024 .f32) (w : FVec Ideal S1024x7168 .f32) (v : FVec Ideal S3584x1024 .f32)
    (r : Fin 16384) (n : Fin 1024) : EReal :=
  x (ix2 r n) + Swiglu.out (normRow x g r) (fun d j => w (ix2 d j)) (fun j n => v (ix2 j n)) n

/-- The output array. -/
def outArr (x : FVec Ideal S16384x1024 .f32) (g : FVec Ideal S1024 .f32) (w : FVec Ideal S1024x7168 .f32) (v : FVec Ideal S3584x1024 .f32) :
    FVec Ideal S16384x1024 .f32 := fun i => outAt x g w v (i 0) (i 1)

variable (m : (ℓ : Loc nD τ sig) → Buf (Elt Ideal) ℓ) (c : Dev nD)

/-- What grid point `t` adds to the running sum. -/
def term (t : Fin cfg0.N) (i : S1024x1024.Idx) : EReal :=
  Swiglu.part (normRow (xArg m c) (gArg m c) (row t (i 0))) (fun d j => guArg m c (ix2 d j)) (fun j n => dnArg m c (ix2 j n)) (i 1)
    ⟨(t : ℕ) % 7, by omega⟩

/-- The body's step over kept rows `h` that are the normalised ones. -/
theorem step (t : Fin cfg0.N) (h : Vec Ideal S1024x1024 .bf16) (acc : Vec Ideal S1024x1024 .f32) (p n : Fin 1024)
    (hh : ∀ d, (h (ix2 p d) : EReal) = normRow (xArg m c) (gArg m c) (row t p) d) :
    @Eq EReal (k0_pay3 h (iblk m c 2 t) (iblk m c 3 t) acc (iblk m c 4 t) (ix2 p n)) (acc (ix2 p n) + term m c t (ix2 p n)) := by
  rw [pay3_apply]
  refine congrArg (fun z : EReal => acc (ix2 p n) + z) ?_
  unfold term Swiglu.part Swiglu.unit
  refine Finset.sum_congr rfl fun q _ => ?_
  rw [blk4 m c t q n ⟨(t : ℕ) % 7 * 512 + q, by omega⟩ rfl]
  refine congrArg (fun z : EReal => z * _) (congrArg₂ Swiglu.gate ?_ ?_) <;> refine Finset.sum_congr rfl fun d _ => ?_
  · rw [hh, blk2 m c t d q ⟨(t : ℕ) % 7 * 512 + q, by omega⟩ rfl]; rfl
  · rw [hh, blk3 m c t d q ⟨3584 + ((t : ℕ) % 7 * 512 + q), by omega⟩ rfl]; rfl

/-- The rows a first point of a block puts by. -/
theorem first (t : Fin cfg0.N) (p d : Fin 1024) :
    @Eq EReal (k0_pay1 (iblk m c 0 t) (iblk m c 1 t) (ix2 p d)) (normRow (xArg m c) (gArg m c) (row t p) d) := by
  rw [pay1_apply]
  unfold normRow
  refine congrFun (congrArg₂ norm ?_ ?_) d
  · exact funext fun e => blk0 m c t p e
  · exact funext fun e => blk1 m c t e

theorem kept_A (t : Fin cfg0.N) (h0 : t.val % 7 = 0) : (outsAt0 m c t.val t.isLt).2.1 = k0_pay1 (iblk m c 0 t) (iblk m c 1 t) := by
  rw [outsAt0_A m c t h0 (by omega)]; frame_out

theorem kept_step (t : Fin cfg0.N) (h0 : ¬ t.val % 7 = 0) :
    (outsAt0 m c t.val t.isLt).2.1 = (outsAt0 m c (t.val - 1) (Nat.lt_of_le_of_lt (Nat.sub_le _ _) t.isLt)).2.1 := by
  by_cases h1 : t.val % 7 = 6
  · rw [outsAt0_C m c t h0 h1]; dsimp only; unfold sout0_C_0; rfl
  · rw [outsAt0_B m c t h0 h1]; dsimp only; unfold sout0_B_0; rfl

theorem acc_A (t : Fin cfg0.N) (h0 : t.val % 7 = 0) : (outsAt0 m c t.val t.isLt).2.2
    = k0_pay3 (k0_pay1 (iblk m c 0 t) (iblk m c 1 t)) (iblk m c 2 t) (iblk m c 3 t) (k0_pay2 (F := Ideal)) (iblk m c 4 t) := by
  rw [outsAt0_A m c t h0 (by omega)]; frame_out

theorem acc_step (t : Fin cfg0.N) (h0 : ¬ t.val % 7 = 0) : (outsAt0 m c t.val t.isLt).2.2
    = k0_pay3 (outsAt0 m c (t.val - 1) (Nat.lt_of_le_of_lt (Nat.sub_le _ _) t.isLt)).2.1 (iblk m c 2 t) (iblk m c 3 t)
        (outsAt0 m c (t.val - 1) (Nat.lt_of_le_of_lt (Nat.sub_le _ _) t.isLt)).2.2 (iblk m c 4 t) := by
  by_cases h1 : t.val % 7 = 6
  · rw [outsAt0_C m c t h0 h1]; frame_out; simp only [Memref.IsWhole.read_unread, read_unread_whole]
  · rw [outsAt0_B m c t h0 h1]; frame_out; simp only [Memref.IsWhole.read_unread, read_unread_whole]

theorem out_C (t : Fin cfg0.N) (h1 : t.val % 7 = 6) : (outsAt0 m c t.val t.isLt).1
    = k0_pay4 (iblk m c 0 t) (outsAt0 m c t.val t.isLt).2.2 := by
  rw [acc_step m c t (by omega), outsAt0_C m c t (by omega) h1]; frame_out; simp only [Memref.IsWhole.read_unread, read_unread_whole]

/-- A two-axis index is its coordinates. -/
theorem idx2_eq {n0 n1 : ℕ} (j : Shape.Idx (⟨2, ![n0, n1]⟩ : Shape)) : ∃ a b, j = ix2 a b := ⟨j 0, j 1, idx2_of j _ _ rfl rfl⟩

/-- The kept rows after every point are the normalised ones. -/
theorem kept : ∀ (n : ℕ) (hn : n < cfg0.N) (p d : Fin 1024),
    @Eq EReal ((outsAt0 m c n hn).2.1 (ix2 p d)) (normRow (xArg m c) (gArg m c) (row ⟨n, hn⟩ p) d)
  | 0, hn, p, d => by rw [kept_A m c ⟨0, hn⟩ rfl, first]
  | n + 1, hn, p, d => by
    by_cases h0 : (n + 1) % 7 = 0
    · rw [kept_A m c ⟨n + 1, hn⟩ h0, first]
    · rw [kept_step m c ⟨n + 1, hn⟩ h0]
      refine (kept n (Nat.lt_of_succ_lt hn) p d).trans (congrArg (fun r => normRow (xArg m c) (gArg m c) r d) (Fin.ext ?_))
      simp only [row]; omega

/-- The running sum at the last point of a block of rows. -/
theorem acc_last (t : Fin cfg0.N) (h1 : t.val % 7 = 7 - 1) (p n : Fin 1024) : @Eq EReal ((outsAt0 m c t.val t.isLt).2.2 (ix2 p n))
    (Swiglu.out (normRow (xArg m c) (gArg m c) (row t p)) (fun d j => guArg m c (ix2 d j)) (fun j n => dnArg m c (ix2 j n)) n) := by
  rw [Pipeline.eq_sum_fin_of_reset_step_apply_of_flush (fun n h => (outsAt0 m c n h).2.2) 7 (fun _ => (0 : EReal)) (term m c) ?_ ?_ t h1 (ix2 p n)]
  · rw [zero_add, ← Swiglu.sum_part]
    refine Finset.sum_congr rfl fun s _ => ?_
    have e1 : row ⟨7 * (t.val / 7) + s.val, Pipeline.run_point_lt_of_flush t h1 s⟩ p = row t p := Fin.ext (by simp only [row]; omega)
    have e2 : (⟨(7 * (t.val / 7) + s.val) % 7, by omega⟩ : Fin 7) = s := Fin.ext (by dsimp only; omega)
    show Swiglu.part (normRow _ _ (row ⟨7 * (t.val / 7) + s.val, _⟩ p)) _ _ n (⟨(7 * (t.val / 7) + s.val) % 7, _⟩ : Fin 7) = _
    rw [e1, e2]
  · intro u h0 i
    obtain ⟨a, b, rfl⟩ := idx2_eq (n0 := 1024) (n1 := 1024) i
    rw [acc_A m c u h0, step m c u _ _ a b (fun d => first m c u a d), pay2_apply]
  · intro u h0 i
    obtain ⟨a, b, rfl⟩ := idx2_eq (n0 := 1024) (n1 := 1024) i
    rw [acc_step m c u h0, step m c u _ _ a b fun d => ?_]
    refine (kept m c _ _ a d).trans (congrArg (fun r => normRow (xArg m c) (gArg m c) r d) (Fin.ext ?_))
    simp only [row]; omega

/-- The output array after the run. -/
theorem final5 : (dats m 0 c).arrAt 5 cfg0.N = outArr (xArg m c) (gArg m c) (guArg m c) (dnArg m c) := by
  refine (dats m 0 c).arrAt_eq_of_covers 5 _ (by decide +kernel) fun t hf y => ?_
  have h1 : t.val % 7 = 6 := (flush0_5 t).mp hf
  blk_simp
  rw [after0_5, out_C m c t h1]
  obtain ⟨p, n, rfl⟩ := idx2_eq (n0 := 1024) (n1 := 1024) y
  obtain ⟨e0, e1⟩ := i5 t
  refine Eq.trans ?_ (congrArg (outArr (xArg m c) (gArg m c) (guArg m c) (dnArg m c)) (idx2_of _ (row t p) n ?_ ?_)).symm
  · refine (pay4_apply _ _ p n).trans ?_
    rw [acc_last m c t h1, blk0]
    rfl
  · show win0_5.index t (0 : Fin 2) * 1024 + 1 * (p : ℕ) = _; simp only [row]; omega
  · show win0_5.index t (1 : Fin 2) * 1024 + 1 * (n : ℕ) = _; omega

end Cert.Kernel2Ideal.Ffn

end
-- ==== Proof.FfnRef.lean ====
/- The feed-forward reference at an index. -/
module

public import proofs.«01_k».proof.Proof.FfnValue
public import proofs.«01_k».proof.Proof.Gen.Reference2Ideal.Read

@[expose] public section

set_option maxRecDepth 16384

noncomputable section

namespace Cert.Reference2Ideal.Ffn

open Idealize.ShloMosaic Idealize.ShloMosaic.TcCoe Idealize.SL.Sem Cert.Reference2Ideal Cert.Reference2Ideal.Read Cert.Kernel2Ideal.Ffn

variable (x : FVec Ideal S16384x1024 .f32) (g : FVec Ideal S1024 .f32) (w : FVec Ideal S1024x7168 .f32) (v : FVec Ideal S3584x1024 .f32)

theorem norm_at (r : Fin 16384) (d : Fin 1024) : @Eq EReal (val_main_v12 (F := Ideal) x g (ix2 r d)) (normRow x g r d) := by
  unfold normRow Cert.Kernel2Ideal.Ffn.norm val_main_v12 val_main_v11 val_main_v10 val_main_v9 val_main_v8 val_main_v7 val_main_v6 val_main_v5 val_main_v4 val_main_v3 val_main_v2
    val_main_v1 val_main_v0 val_main_cst val_main_cst_0 val_main_cst_1
  pointwise

theorem dot_at (r : Fin 16384) (j : Fin 7168) :
    @Eq EReal (val_main_v13 (F := Ideal) x g w (ix2 r j)) (∑ d, normRow x g r d * w (ix2 d j)) := by
  simp only [← norm_at]
  unfold val_main_v13
  generalize val_main_v12 (F := Ideal) x g = h
  pointwise

theorem unit_at (r : Fin 16384) (j : Fin 3584) :
    @Eq EReal (val_main_v17 (F := Ideal) x g w (ix2 r j)) (Swiglu.unit (normRow x g r) (fun d j => w (ix2 d j)) j) := by
  unfold Swiglu.unit Swiglu.gate
  rw [← dot_at, ← dot_at]
  unfold val_main_v17 val_main_v16 val_main_call0_v5 val_main_call0_v4 val_main_call0_v3 val_main_call0_v2 val_main_call0_v1 val_main_call0_v0
    val_main_call0_cst val_main_call0_cst_0 val_main_v14 val_main_v15
  generalize val_main_v13 (F := Ideal) x g w = a
  pointwise

/-- The reference's result. -/
theorem out_ref (r : Fin 16384) (n : Fin 1024) : @Eq EReal (val_main_v19 (F := Ideal) x g w v (ix2 r n)) (outAt x g w v r n) := by
  unfold outAt Swiglu.out
  simp only [← unit_at]
  unfold val_main_v19 val_main_v18
  generalize val_main_v17 (F := Ideal) x g w = a
  pointwise

end Cert.Reference2Ideal.Ffn

end
-- ==== Proof.ExpertRange.lean ====
/- The experts' table: what the precondition says of it, and that the blocks it selects lie in the weights. -/
module

public import proofs.«01_k».proof.Proof.Gen.Kernel3.Frame
public import proofs.«01_k».proof.Proof.Gen.Kernel3Ideal.Frame
public import proofs.«01_k».proof.Proof.Gen.Pre_expert_in_range
public import Idealize.ShloMosaic.Lib.ReduceAll
public import Idealize.ShloMosaic.Lib.Pointwise
public import Idealize.ShloMosaic.Lib.WordCmp

@[expose] public section

set_option maxRecDepth 16384

noncomputable section

namespace Cert.Expert

open Idealize.ShloMosaic Idealize.ShloMosaic.TcCoe

variable {F : FTy → Type} [FloatOps F]

/-- A word that is neither negative nor at least 8 as a signed number is below 8. -/
theorem toNat_lt_of_range (x : BitVec 32) (h : IntOp.andi (IntOp.cmpi .sge x 0#32) (IntOp.cmpi .slt x 8#32) = 1#1) : x.toNat < 8 := by
  obtain ⟨h0, h1⟩ := IntOp.andi_eq_one.1 h
  rw [IntOp.cmpi_sge] at h0
  rw [IntOp.cmpi_slt] at h1
  have e0 : (0#32 : BitVec 32).toInt = 0 := by decide
  have e8 : (8#32 : BitVec 32).toInt = 8 := by decide
  rw [e0] at h0; rw [e8] at h1
  have hb := x.isLt
  have hx := BitVec.toInt_eq_toNat_cond x
  split at hx <;> omega

/-- The precondition gives a table of expert numbers below 8. -/
theorem range (x0 : FVec F Cert.Pre_expert_in_range.S129024x1024 .f32) (x1 : IVec Cert.Pre_expert_in_range.S126 32)
    (x2 : FVec F Cert.Pre_expert_in_range.S8x1024x7168 .f32) (x3 : FVec F Cert.Pre_expert_in_range.S8x3584x1024 .f32)
    (x4 : FVec F Cert.Pre_expert_in_range.S172032x1024 .bf16)
    (e : Cert.Pre_expert_in_range.fn (F := F) x0 x1 x2 x3 x4 = fun _ => 1#1) (i : Cert.Pre_expert_in_range.S126.Idx) : (x1 i).toNat < 8 := by
  haveI : Subsingleton Cert.Pre_expert_in_range.S_.Idx := ⟨fun a b => funext fun d => d.elim0⟩
  exact toNat_lt_of_range _ (Host.reduce_andi_all _ _ _ _ _ (congrFun e ix0) i)

end Cert.Expert

namespace Cert.Kernel3Ideal.Expert

open Idealize.ShloMosaic Idealize.ShloMosaic.TcCoe Cert.Kernel3Ideal Cert.Kernel3Ideal.Gen

variable {F : FTy → Type} [FloatOps F]

/-- The table's word at a grid point's block. -/
theorem word (pf : pre0.Contents (Elt F)) (i : grid0.Coords) (h : ∀ a, (k0_off1 i) a + S1.size a ≤ S126.size a) (h1 : S1.numel = 1) :
    (pf.at 0 (Rect.unit (s := S126) (k0_off1 i) S1.size h) h1 : BitVec 32) = (pf 0 : IVec S126 32) (ix1 (i 0)) := by
  have b : (i 0).val < 126 := (i 0).isLt
  refine congrArg (pf 0 : IVec S126 32) (funext fun (a : Fin 1) => ?_)
  obtain rfl : a = 0 := Subsingleton.elim _ _
  refine Fin.ext ?_
  show (BitVec.ofNat 32 (i 0).val).toNat + 1 * 0 = (i 0).val
  rw [BitVec.toNat_ofNat]; omega

theorem toNat_coord {n k : ℕ} (h : n < k) (hk : k < 4294967296) : (BitVec.ofNat 32 n).toNat = n := by
  rw [BitVec.toNat_ofNat]; omega

theorem block1 (pf : pre0.Contents (Elt F)) (i : grid0.Coords) :
    cc0_transform_1 Facts₀.k0_off1_inb Facts₀.numel1_S1 pf i = ![((pf 0 : IVec S126 32) (ix1 (i 0))).toNat, 0, (i 1).val] := by
  have b : (i 1).val < 7 := (i 1).isLt
  rw [← toNat_coord b (by omega), ← word pf i (Facts₀.k0_off1_inb i) Facts₀.numel1_S1]
  rfl

theorem block2 (pf : pre0.Contents (Elt F)) (i : grid0.Coords) :
    cc0_transform_2 Facts₀.k0_off1_inb Facts₀.numel1_S1 pf i = ![((pf 0 : IVec S126 32) (ix1 (i 0))).toNat, 0, 7 + (i 1).val] := by
  have b : (i 1).val < 7 := (i 1).isLt
  have e : (Scalar.addi 7#32 (BitVec.ofNat 32 (i 1).val)).toNat = 7 + (i 1).val := by
    show (7#32 + BitVec.ofNat 32 (i 1).val).toNat = _
    rw [BitVec.toNat_add, toNat_coord b (by omega), BitVec.toNat_ofNat]; omega
  rw [← e, ← word pf i (Facts₀.k0_off1_inb i) Facts₀.numel1_S1]
  rfl

theorem block3 (pf : pre0.Contents (Elt F)) (i : grid0.Coords) :
    cc0_transform_3 Facts₀.k0_off1_inb Facts₀.numel1_S1 pf i = ![((pf 0 : IVec S126 32) (ix1 (i 0))).toNat, (i 1).val, 0] := by
  have b : (i 1).val < 7 := (i 1).isLt
  rw [← toNat_coord b (by omega), ← word pf i (Facts₀.k0_off1_inb i) Facts₀.numel1_S1]
  rfl

/-- With a table of expert numbers below 8, every block that it selects lies in the weights. -/
theorem ok_of (pf : pre0.Contents (Elt F)) (h : ∀ j, ((pf 0 : IVec S126 32) j).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩ <;>
  have b : (i 1).val < 7 := (i 1).isLt <;> have hw := h (ix1 (i 0))
  · rw [block1]
    match a with
    | ⟨0, _⟩ => show (((pf 0 : IVec S126 32) (ix1 (i 0))).toNat + 1) * 1 ≤ 8; omega
    | ⟨1, _⟩ => show (0 + 1) * 1024 ≤ 1024; omega
    | ⟨2, _⟩ => show ((i 1).val + 1) * 512 ≤ 7168; omega
  · rw [block2]
    match a with
    | ⟨0, _⟩ => show (((pf 0 : IVec S126 32) (ix1 (i 0))).toNat + 1) * 1 ≤ 8; omega
    | ⟨1, _⟩ => show (0 + 1) * 1024 ≤ 1024; omega
    | ⟨2, _⟩ => show (7 + (i 1).val + 1) * 512 ≤ 7168; omega
  · rw [block3]
    match a with
    | ⟨0, _⟩ => show (((pf 0 : IVec S126 32) (ix1 (i 0))).toNat + 1) * 1 ≤ 8; omega
    | ⟨1, _⟩ => show ((i 1).val + 1) * 512 ≤ 3584; omega
    | ⟨2, _⟩ => show (0 + 1) * 1024 ≤ 1024; omega

/-- The precondition's side condition on the table, from the table as launched. -/
theorem ok (m : (ℓ : Loc nD τ sig) → Buf (Elt F) ℓ) (h : ∀ j, ((m (((0 : Dev nD) : Thread nD τ).loc main_arg1) : IVec S126 32) j).toNat < 8) :
    Ok m := by
  refine ok_of _ fun j => ?_
  rw [show (tbl m 0 : IVec S126 32) = m (((0 : Dev nD) : Thread nD τ).loc main_arg1) from V_main_arg1 m 0]
  exact h j

end Cert.Kernel3Ideal.Expert

namespace Cert.Kernel3.Expert

open Idealize.ShloMosaic Idealize.ShloMosaic.TcCoe Cert.Kernel3 Cert.Kernel3.Gen

variable {F : FTy → Type} [FloatOps F]

/-- The same for the kernel, whose index maps are the idealized one's. -/
theorem ok (m : (ℓ : Loc nD τ sig) → Buf (Elt F) ℓ) (h : ∀ j, ((m (((0 : Dev nD) : Thread nD τ).loc main_arg1) : IVec S126 32) j).toNat < 8) :
    Ok m := by
  refine Cert.Kernel3Ideal.Expert.ok_of (F := F) (fun | 0 => (tbl m 0 : IVec S126 32)) fun j => ?_
  show ((tbl m 0 : IVec S126 32) j).toNat < 8
  rw [show (tbl m 0 : IVec S126 32) = m (((0 : Dev nD) : Thread nD τ).loc main_arg1) from V_main_arg1 m 0]
  exact h j

end Cert.Kernel3.Expert

end
-- ==== Proof.ExpertStep.lean ====
/- The expert kernel's body at an index: the blocks it reads, and what a hidden block adds to the running sum. -/
module

public import proofs.«01_k».proof.Proof.ExpertRange
public import proofs.«01_k».proof.Proof.Swiglu
public import Idealize.ShloMosaic.Lib.Pipeline.ValueKit.Geometry
public import Idealize.ShloMosaic.Lib.StableHlo.ReadAt

@[expose] public section

set_option maxRecDepth 16384

noncomputable section

namespace Cert.Kernel3Ideal.Expert

open Idealize.ShloMosaic Idealize.ShloMosaic.TcCoe Idealize.SL.Sem Cert.Kernel3Ideal Cert.Kernel3Ideal.Gen

theorem pay1_apply (x : Vec Ideal S1024x1024 .f32) (p n : Fin 1024) : @Eq EReal (k0_pay1 x (ix2 p n)) (x (ix2 p n)) := by
  unfold k0_pay1; pointwise

theorem pay2_apply (p n : Fin 1024) : k0_pay2 (F := Ideal) (ix2 p n) = (0 : EReal) := by
  unfold k0_pay2; pointwise

theorem pay3_apply (h : Vec Ideal S1024x1024 .bf16) (wg wu : Vec Ideal S1x1024x512 .bf16) (acc : Vec Ideal S1024x1024 .f32)
    (wd : Vec Ideal S1x512x1024 .bf16) (p n : Fin 1024) : @Eq EReal (k0_pay3 h wg wu acc wd (ix2 p n)) (acc (ix2 p n)
      + ∑ q : Fin 512, Swiglu.gate (∑ d, (h (ix2 p d) : EReal) * wg (ix3 0 d q)) (∑ d, (h (ix2 p d) : EReal) * wu (ix3 0 d q)) * wd (ix3 0 q n)) := by
  unfold k0_pay3 Swiglu.gate; pointwise
  simp only [sub_eq_add_neg, zero_add]

variable (m : (ℓ : Loc nD τ sig) → Buf (Elt Ideal) ℓ) (hO : Ok m) (c : Dev nD)

/-- The rows. -/
abbrev xArg : FVec Ideal S129024x1024 .f32 := m ((c : Thread nD τ).loc main_arg0)
/-- The experts' table. -/
abbrev eArg : IVec S126 32 := m ((c : Thread nD τ).loc main_arg1)
/-- The experts' gate and up weights. -/
abbrev guArg : FVec Ideal S8x1024x7168 .f32 := m ((c : Thread nD τ).loc main_arg2)
/-- The experts' down weights. -/
abbrev dnArg : FVec Ideal S8x3584x1024 .f32 := m ((c : Thread nD τ).loc main_arg3)
/-- The earlier rows. -/
abbrev oldArg : FVec Ideal S172032x1024 .bf16 := m ((c : Thread nD τ).loc main_arg4)
/-- The rows as the kernel reads them. -/
abbrev xArr : FVec Ideal S129024x1024 .bf16 := V m c main_v0
/-- The gate and up weights as the kernel reads them. -/
abbrev guArr : FVec Ideal S8x1024x7168 .bf16 := V m c main_v1
/-- The down weights as the kernel reads them. -/
abbrev dnArr : FVec Ideal S8x3584x1024 .bf16 := V m c main_v2
/-- The array that the kernel writes into, as it finds it. -/
abbrev oldArr : FVec Ideal S172032x1024 .bf16 := V m c main_v3

theorem x_at (r : Fin 129024) (d : Fin 1024) : @Eq EReal (xArr m c (ix2 r d)) (xArg m c (ix2 r d)) := by
  unfold_abbrev_sides
  after_reads_at

theorem gu_at (e : Fin 8) (d : Fin 1024) (j : Fin 7168) : @Eq EReal (guArr m c (ix3 e d j)) (guArg m c (ix3 e d j)) := by
  unfold_abbrev_sides
  after_reads_at

theorem dn_at (e : Fin 8) (j : Fin 3584) (n : Fin 1024) : @Eq EReal (dnArr m c (ix3 e j n)) (dnArg m c (ix3 e j n)) := by
  unfold_abbrev_sides
  after_reads_at

theorem old_at (r : Fin 172032) (n : Fin 1024) : @Eq EReal (oldArr m c (ix2 r n)) (oldArg m c (ix2 r n)) := by
  unfold_abbrev_sides
  after_reads_at
  rfl

/-- An index of a two-axis array from its coordinates. -/
theorem idx2_of {n0 n1 : ℕ} (j : Shape.Idx (⟨2, ![n0, n1]⟩ : Shape)) (a : Fin n0) (b : Fin n1)
    (h0 : ((j 0 : Fin n0) : ℕ) = a) (h1 : ((j 1 : Fin n1) : ℕ) = b) : j = ix2 a b := by
  funext k
  match k with
  | ⟨0, _⟩ => exact Fin.ext h0
  | ⟨1, _⟩ => exact Fin.ext h1

/-- An index of a three-axis array from its coordinates. -/
theorem idx3_of {n0 n1 n2 : ℕ} (j : Shape.Idx (⟨3, ![n0, n1, n2]⟩ : Shape)) (a : Fin n0) (b : Fin n1) (d : Fin n2)
    (h0 : ((j 0 : Fin n0) : ℕ) = a) (h1 : ((j 1 : Fin n1) : ℕ) = b) (h2 : ((j 2 : Fin n2) : ℕ) = d) : j = ix3 a b d := by
  funext k
  match k with
  | ⟨0, _⟩ => exact Fin.ext h0
  | ⟨1, _⟩ => exact Fin.ext h1
  | ⟨2, _⟩ => exact Fin.ext h2

/-- The expert of row block `b`. -/
def expert (e : IVec S126 32) (b : Fin 126) : Fin 8 := ⟨(e (ix1 b)).toNat % 8, by omega⟩

variable (t : Fin (cfgM m hO).N)

/-- The row block of grid point `t`. -/
def blockOf : Fin 126 := ⟨(t : ℕ) / 7, by have : (t : ℕ) < 882 := t.isLt.trans_eq N_0; omega⟩

/-- Row `p` of the block of grid point `t`. -/
def row (p : Fin 1024) : Fin 129024 := ⟨(t : ℕ) / 7 * 1024 + p, by have : (t : ℕ) < 882 := t.isLt.trans_eq N_0; omega⟩

theorem coord0 (t : Fin grid0.N) : (grid0.coords t 0).val = (t : ℕ) / 7 := by
  have : (t : ℕ) < 882 := t.isLt.trans_eq N_0
  rw [show (grid0.coords t 0).val = (t : ℕ) / 7 % 126 from Pipeline.Grid.coords_val t 0 (by decide) rfl]; omega

theorem coord1 (t : Fin grid0.N) : (grid0.coords t 1).val = (t : ℕ) % 7 := by
  rw [show (grid0.coords t 1).val = (t : ℕ) / 1 % 7 from Pipeline.Grid.coords_val t 1 (by decide) rfl]; omega

theorem i0 : ((cfgM m hO).win 0).index t (0 : Fin 2) = (t : ℕ) / 7 ∧ ((cfgM m hO).win 0).index t (1 : Fin 2) = 0 :=
  (by decide +kernel : ∀ t : Fin grid0.N, cc0_transform_0 (grid0.coords t) (0 : Fin 2) = (t : ℕ) / 7 ∧ cc0_transform_0 (grid0.coords t) (1 : Fin 2) = 0) t

theorem i4 : ((cfgM m hO).win 4).index t (0 : Fin 2) = 42 + (t : ℕ) / 7 ∧ ((cfgM m hO).win 4).index t (1 : Fin 2) = 0 :=
  (by decide +kernel : ∀ t : Fin grid0.N, cc0_transform_5 (grid0.coords t) (0 : Fin 2) = 42 + (t : ℕ) / 7 ∧ cc0_transform_5 (grid0.coords t) (1 : Fin 2) = 0) t

variable (hE : ∀ j, (eArg m 0 j).toNat < 8)

include hE in
/-- The expert whose weights grid point `t` reads. -/
theorem word_at : ((tbl m 0 : IVec S126 32) (ix1 (grid0.coords t 0))).toNat = expert (eArg m 0) (blockOf m hO t) := by
  rw [show (tbl m 0 : IVec S126 32) = eArg m 0 from V_main_arg1 m 0,
    show grid0.coords t 0 = blockOf m hO t from Fin.ext (coord0 t)]
  exact (Nat.mod_eq_of_lt (hE _)).symm

include hE in
theorem i1 : ((cfgM m hO).win 1).index t (0 : Fin 3) = expert (eArg m 0) (blockOf m hO t) ∧ ((cfgM m hO).win 1).index t (1 : Fin 3) = 0
    ∧ ((cfgM m hO).win 1).index t (2 : Fin 3) = (t : ℕ) % 7 := by
  have e := block1 (tbl m) (grid0.coords t)
  exact ⟨(congrFun e 0).trans (word_at m hO t hE), congrFun e 1, (congrFun e 2).trans (coord1 t)⟩

include hE in
theorem i2 : ((cfgM m hO).win 2).index t (0 : Fin 3) = expert (eArg m 0) (blockOf m hO t) ∧ ((cfgM m hO).win 2).index t (1 : Fin 3) = 0
    ∧ ((cfgM m hO).win 2).index t (2 : Fin 3) = 7 + (t : ℕ) % 7 := by
  have e := block2 (tbl m) (grid0.coords t)
  exact ⟨(congrFun e 0).trans (word_at m hO t hE), congrFun e 1, (congrFun e 2).trans (congrArg (7 + ·) (coord1 t))⟩

include hE in
theorem i3 : ((cfgM m hO).win 3).index t (0 : Fin 3) = expert (eArg m 0) (blockOf m hO t) ∧ ((cfgM m hO).win 3).index t (1 : Fin 3) = (t : ℕ) % 7
    ∧ ((cfgM m hO).win 3).index t (2 : Fin 3) = 0 := by
  have e := block3 (tbl m) (grid0.coords t)
  exact ⟨(congrFun e 0).trans (word_at m hO t hE), (congrFun e 1).trans (coord1 t), congrFun e 2⟩

theorem blk0 (p d : Fin 1024) : @Eq EReal (iblk m hO c 0 t (ix2 p d)) (xArg m c (ix2 (row m hO t p) d)) := by
  obtain ⟨e0, e1⟩ := i0 m hO t
  rw [← x_at]
  show xArr m c ((((cfgM m hO).win 0).blk t).view.emb (ix2 p d)) = _
  refine congrArg (xArr m c) (idx2_of _ _ _ ?_ ?_)
  · show ((cfgM m hO).win 0).index t (0 : Fin 2) * 1024 + 1 * (p : ℕ) = (t : ℕ) / 7 * 1024 + p; omega
  · show ((cfgM m hO).win 0).index t (1 : Fin 2) * 1024 + 1 * (d : ℕ) = _; omega

include hE in
theorem blk1 (d : Fin 1024) (q : Fin 512) (j : Fin 7168) (hj : (j : ℕ) = (t : ℕ) % 7 * 512 + q) :
    @Eq EReal (iblk m hO c 1 t (ix3 0 d q)) (guArg m c (ix3 (expert (eArg m 0) (blockOf m hO t)) d j)) := by
  obtain ⟨e0, e1, e2⟩ := i1 m hO t hE
  rw [← gu_at]
  show guArr m c ((((cfgM m hO).win 1).blk t).view.emb (ix3 0 d q)) = _
  refine congrArg (guArr m c) (idx3_of _ _ _ _ ?_ ?_ ?_)
  · show ((cfgM m hO).win 1).index t (0 : Fin 3) * 1 + 1 * 0 = _; omega
  · show ((cfgM m hO).win 1).index t (1 : Fin 3) * 1024 + 1 * (d : ℕ) = _; omega
  · show ((cfgM m hO).win 1).index t (2 : Fin 3) * 512 + 1 * (q : ℕ) = _; omega

include hE in
theorem blk2 (d : Fin 1024) (q : Fin 512) (j : Fin 7168) (hj : (j : ℕ) = 3584 + ((t : ℕ) % 7 * 512 + q)) :
    @Eq EReal (iblk m hO c 2 t (ix3 0 d q)) (guArg m c (ix3 (expert (eArg m 0) (blockOf m hO t)) d j)) := by
  obtain ⟨e0, e1, e2⟩ := i2 m hO t hE
  rw [← gu_at]
  show guArr m c ((((cfgM m hO).win 2).blk t).view.emb (ix3 0 d q)) = _
  refine congrArg (guArr m c) (idx3_of _ _ _ _ ?_ ?_ ?_)
  · show ((cfgM m hO).win 2).index t (0 : Fin 3) * 1 + 1 * 0 = _; omega
  · show ((cfgM m hO).win 2).index t (1 : Fin 3) * 1024 + 1 * (d : ℕ) = _; omega
  · show ((cfgM m hO).win 2).index t (2 : Fin 3) * 512 + 1 * (q : ℕ) = _; omega

include hE in
theorem blk3 (q : Fin 512) (n : Fin 1024) (j : Fin 3584) (hj : (j : ℕ) = (t : ℕ) % 7 * 512 + q) :
    @Eq EReal (iblk m hO c 3 t (ix3 0 q n)) (dnArg m c (ix3 (expert (eArg m 0) (blockOf m hO t)) j n)) := by
  obtain ⟨e0, e1, e2⟩ := i3 m hO t hE
  rw [← dn_at]
  show dnArr m c ((((cfgM m hO).win 3).blk t).view.emb (ix3 0 q n)) = _
  refine congrArg (dnArr m c) (idx3_of _ _ _ _ ?_ ?_ ?_)
  · show ((cfgM m hO).win 3).index t (0 : Fin 3) * 1 + 1 * 0 = _; omega
  · show ((cfgM m hO).win 3).index t (1 : Fin 3) * 512 + 1 * (q : ℕ) = _; omega
  · show ((cfgM m hO).win 3).index t (2 : Fin 3) * 1024 + 1 * (n : ℕ) = _; omega

end Cert.Kernel3Ideal.Expert

end
-- ==== Proof.ExpertValue.lean ====
/- The expert kernel's output array: the gated feed-forward of each row by its block's expert, below the earlier rows. -/
module

public import proofs.«01_k».proof.Proof.ExpertStep
public import Idealize.ShloMosaic.Lib.Pipeline.ReadBack
public import Idealize.ShloMosaic.Lib.Pipeline.ValueKit.Partial

@[expose] public section

set_option maxRecDepth 16384

noncomputable section

namespace Cert.Kernel3Ideal.Expert

open Idealize.ShloMosaic Idealize.ShloMosaic.TcCoe Idealize.SL.Sem Cert.Kernel3Ideal Cert.Kernel3Ideal.Gen

/-- The feed-forward of row `r` at column `n`, by the expert of the row's block. -/
def rowOut (x : FVec Ideal S129024x1024 .f32) (e : IVec S126 32) (w : FVec Ideal S8x1024x7168 .f32) (v : FVec Ideal S8x3584x1024 .f32)
    (r : Fin 129024) (n : Fin 1024) : EReal :=
  Swiglu.out (fun d => x (ix2 r d)) (fun d j => w (ix3 (expert e ⟨(r : ℕ) / 1024, by omega⟩) d j))
    (fun j n => v (ix3 (expert e ⟨(r : ℕ) / 1024, by omega⟩) j n)) n

/-- The output at row `r` and column `n`: the first 43008 rows are the earlier ones. -/
def outAt (x : FVec Ideal S129024x1024 .f32) (e : IVec S126 32) (w : FVec Ideal S8x1024x7168 .f32) (v : FVec Ideal S8x3584x1024 .f32)
    (old : FVec Ideal S172032x1024 .bf16) (r : Fin 172032) (n : Fin 1024) : EReal :=
  if 42 ≤ (r : ℕ) / 1024 then rowOut x e w v ⟨(r : ℕ) - 43008, by omega⟩ n else old (ix2 r n)

/-- The output array. -/
def outArr (x : FVec Ideal S129024x1024 .f32) (e : IVec S126 32) (w : FVec Ideal S8x1024x7168 .f32) (v : FVec Ideal S8x3584x1024 .f32)
    (old : FVec Ideal S172032x1024 .bf16) : FVec Ideal S172032x1024 .bf16 := fun i => outAt x e w v old (i 0) (i 1)

variable (m : (ℓ : Loc nD τ sig) → Buf (Elt Ideal) ℓ) (hO : Ok m) (c : Dev nD)

/-- What grid point `t` adds to the running sum. -/
def term (t : Fin (cfgM m hO).N) (i : S1024x1024.Idx) : EReal :=
  Swiglu.part (fun d => xArg m c (ix2 (row m hO t (i 0)) d)) (fun d j => guArg m c (ix3 (expert (eArg m 0) (blockOf m hO t)) d j))
    (fun j n => dnArg m c (ix3 (expert (eArg m 0) (blockOf m hO t)) j n)) (i 1) ⟨(t : ℕ) % 7, by omega⟩

variable (hE : ∀ j, (eArg m 0 j).toNat < 8)

include hE in
/-- The body's step over a running sum. -/
theorem step (t : Fin (cfgM m hO).N) (acc : Vec Ideal S1024x1024 .f32) (p n : Fin 1024) :
    @Eq EReal (k0_pay3 (iblk m hO c 0 t) (iblk m hO c 1 t) (iblk m hO c 2 t) acc (iblk m hO c 3 t) (ix2 p n))
      (acc (ix2 p n) + term m hO c t (ix2 p n)) := by
  refine (pay3_apply (iblk m hO c 0 t) (iblk m hO c 1 t) (iblk m hO c 2 t) acc (iblk m hO c 3 t) p n).trans ?_
  refine congrArg (fun z : EReal => acc (ix2 p n) + z) ?_
  unfold term Swiglu.part Swiglu.unit
  refine Finset.sum_congr rfl fun q _ => ?_
  rw [blk3 m hO c t hE q n ⟨(t : ℕ) % 7 * 512 + q, by omega⟩ rfl]
  refine congrArg (fun z : EReal => z * _) (congrArg₂ Swiglu.gate ?_ ?_) <;> refine Finset.sum_congr rfl fun d _ => ?_
  · rw [blk0, blk1 m hO c t hE d q ⟨(t : ℕ) % 7 * 512 + q, by omega⟩ rfl]; rfl
  · rw [blk0, blk2 m hO c t hE d q ⟨3584 + ((t : ℕ) % 7 * 512 + q), by omega⟩ rfl]; rfl

theorem pay3_congr {h h' : Vec Ideal S1024x1024 .bf16} {wg wg' wu wu' : Vec Ideal S1x1024x512 .bf16} {acc : Vec Ideal S1024x1024 .f32}
    {wd wd' : Vec Ideal S1x512x1024 .bf16} (e0 : h = h') (e1 : wg = wg') (e2 : wu = wu') (e3 : wd = wd') :
    k0_pay3 h wg wu acc wd = k0_pay3 h' wg' wu' acc wd' := by rw [e0, e1, e2, e3]

theorem acc_A (t : Fin (cfgM m hO).N) (h0 : t.val % 7 = 0) : (outsAt0 m hO c t.val t.isLt).2
    = k0_pay3 (iblk m hO c 0 t) (iblk m hO c 1 t) (iblk m hO c 2 t) (k0_pay2 (F := Ideal)) (iblk m hO c 3 t) := by
  rw [outsAt0_A m hO c t h0 (by omega)]; frame_out
  exact pay3_congr (Memref.IsWhole.read_unread _ _) (Memref.IsWhole.read_unread _ _) (Memref.IsWhole.read_unread _ _) (Memref.IsWhole.read_unread _ _)

theorem acc_step (t : Fin (cfgM m hO).N) (h0 : ¬ t.val % 7 = 0) : (outsAt0 m hO c t.val t.isLt).2
    = k0_pay3 (iblk m hO c 0 t) (iblk m hO c 1 t) (iblk m hO c 2 t)
        (outsAt0 m hO c (t.val - 1) (Nat.lt_of_le_of_lt (Nat.sub_le _ _) t.isLt)).2 (iblk m hO c 3 t) := by
  by_cases h1 : t.val % 7 = 6
  · rw [outsAt0_C m hO c t h0 h1]; frame_out; simp only [read_unread_whole]
    exact pay3_congr (Memref.IsWhole.read_unread _ _) (Memref.IsWhole.read_unread _ _) (Memref.IsWhole.read_unread _ _) (Memref.IsWhole.read_unread _ _)
  · rw [outsAt0_B m hO c t h0 h1]; frame_out; simp only [read_unread_whole]
    exact pay3_congr (Memref.IsWhole.read_unread _ _) (Memref.IsWhole.read_unread _ _) (Memref.IsWhole.read_unread _ _) (Memref.IsWhole.read_unread _ _)

theorem out_C (t : Fin (cfgM m hO).N) (h1 : t.val % 7 = 6) : (outsAt0 m hO c t.val t.isLt).1
    = k0_pay1 (outsAt0 m hO c t.val t.isLt).2 := by
  rw [acc_step m hO c t (by omega), outsAt0_C m hO c t (by omega) h1]; frame_out; simp only [read_unread_whole]
  exact congrArg k0_pay1 (pay3_congr (Memref.IsWhole.read_unread _ _) (Memref.IsWhole.read_unread _ _) (Memref.IsWhole.read_unread _ _) (Memref.IsWhole.read_unread _ _))

/-- A two-axis index is its coordinates. -/
theorem idx2_eq {n0 n1 : ℕ} (j : Shape.Idx (⟨2, ![n0, n1]⟩ : Shape)) : ∃ a b, j = ix2 a b := ⟨j 0, j 1, idx2_of j _ _ rfl rfl⟩

include hE in
/-- The running sum at the last point of a block of rows. -/
theorem acc_last (t : Fin (cfgM m hO).N) (h1 : t.val % 7 = 7 - 1) (p n : Fin 1024) : @Eq EReal ((outsAt0 m hO c t.val t.isLt).2 (ix2 p n))
    (rowOut (xArg m c) (eArg m 0) (guArg m c) (dnArg m c) (row m hO t p) n) := by
  rw [Pipeline.eq_sum_fin_of_reset_step_apply_of_flush (fun n h => (outsAt0 m hO c n h).2) 7 (fun _ => (0 : EReal)) (term m hO c) ?_ ?_ t h1 (ix2 p n)]
  · unfold rowOut
    rw [zero_add, ← Swiglu.sum_part]
    refine Finset.sum_congr rfl fun s _ => ?_
    have hb := Pipeline.run_point_lt_of_flush t h1 s
    have e1 : row m hO ⟨7 * (t.val / 7) + s.val, hb⟩ p = row m hO t p := Fin.ext (by
      show (7 * (t.val / 7) + s.val) / 7 * 1024 + p.val = t.val / 7 * 1024 + p.val; omega)
    have e2 : (⟨(7 * (t.val / 7) + s.val) % 7, by omega⟩ : Fin 7) = s := Fin.ext (by dsimp only; omega)
    have e3 : blockOf m hO ⟨7 * (t.val / 7) + s.val, hb⟩ = ⟨(row m hO t p : ℕ) / 1024, by omega⟩ := Fin.ext (by
      show (7 * (t.val / 7) + s.val) / 7 = (t.val / 7 * 1024 + p.val) / 1024; omega)
    show Swiglu.part (fun d => xArg m c (ix2 (row m hO ⟨7 * (t.val / 7) + s.val, hb⟩ p) d))
      (fun d j => guArg m c (ix3 (expert (eArg m 0) (blockOf m hO ⟨7 * (t.val / 7) + s.val, hb⟩)) d j))
      (fun j n => dnArg m c (ix3 (expert (eArg m 0) (blockOf m hO ⟨7 * (t.val / 7) + s.val, hb⟩)) j n)) n
      (⟨(7 * (t.val / 7) + s.val) % 7, _⟩ : Fin 7) = _
    rw [e1, e2, e3]
  · intro u h0 i
    obtain ⟨a, b, rfl⟩ := idx2_eq (n0 := 1024) (n1 := 1024) i
    rw [acc_A m hO c u h0, step m hO c hE u _ a b, pay2_apply]
  · intro u h0 i
    obtain ⟨a, b, rfl⟩ := idx2_eq (n0 := 1024) (n1 := 1024) i
    rw [acc_step m hO c u h0, step m hO c hE u _ a b]

theorem nblk0 : ((cfgM m hO).win 4).nblk (0 : Fin 2) = 168 := by
  show (172032 + 1024 - 1) / 1024 = 168; omega

theorem nblk1 : ((cfgM m hO).win 4).nblk (1 : Fin 2) = 1 := by
  show (1024 + 1024 - 1) / 1024 = 1; omega

/-- The blocks written are those from the forty-second on. -/
theorem covers : ((cfgM m hO).win 4).CoversWhere (fun β => 42 ≤ β (0 : Fin 2)) := by
  refine ⟨(by decide : ∀ a : Fin 2, 0 < S1024x1024.size a), fun t _ => ⟨?_, fun a => .inl rfl⟩, fun β hq => ?_⟩
  · show 42 ≤ ((cfgM m hO).win 4).index t (0 : Fin 2)
    rw [(i4 m hO t).1]; omega
  · have b0 : (β (0 : Fin 2) : ℕ) < 168 := lt_of_lt_of_eq (β (0 : Fin 2)).isLt (nblk0 m hO)
    have b1 : (β (1 : Fin 2) : ℕ) < 1 := lt_of_lt_of_eq (β (1 : Fin 2)).isLt (nblk1 m hO)
    have h0 : 42 ≤ (β (0 : Fin 2) : ℕ) := hq
    have hN : ((β (0 : Fin 2) : ℕ) - 42) * 7 + 6 < (cfgM m hO).N := by
      rw [show (cfgM m hO).N = 882 from N_0]; omega
    refine ⟨⟨((β (0 : Fin 2) : ℕ) - 42) * 7 + 6, hN⟩, fun (a : Fin 2) => ?_, (flush0_4 (adm m hO) _).mpr (by dsimp only; omega)⟩
    obtain ⟨e0, e1⟩ := i4 m hO ⟨((β (0 : Fin 2) : ℕ) - 42) * 7 + 6, hN⟩
    match a with
    | ⟨0, _⟩ => refine e0.trans ?_; show 42 + (((β (0 : Fin 2) : ℕ) - 42) * 7 + 6) / 7 = (β (0 : Fin 2) : ℕ); omega
    | ⟨1, _⟩ => refine e1.trans ?_; show 0 = (β (1 : Fin 2) : ℕ); omega

include hE in
/-- The output array after the run. -/
theorem final4 : (dats m hO 0 c).arrAt 4 (cfgM m hO).N = outArr (xArg m c) (eArg m 0) (guArg m c) (dnArg m c) (oldArg m c) := by
  have key := fun i => (dats m hO 0 c).arrAt_apply_of_coversWhere 4 (outArr (xArg m c) (eArg m 0) (guArg m c) (dnArg m c) (oldArg m c))
    (P := fun i : S172032x1024.Idx => 42 ≤ ((i 0 : Fin 172032) : ℕ) / 1024) (fun β => 42 ≤ β (0 : Fin 2)) (covers m hO) (fun t hf y => ?_) (fun j => Iff.rfl) i
  · funext i
    refine (key i).trans ?_
    obtain ⟨r, n, rfl⟩ := idx2_eq (n0 := 172032) (n1 := 1024) i
    by_cases h : 42 ≤ (r : ℕ) / 1024
    · exact if_pos h
    · refine (if_neg h).trans ?_
      rw [A_eq]
      exact (old_at m c r n).trans (if_neg h).symm
  · have h1 : t.val % 7 = 6 := (flush0_4 (adm m hO) t).mp hf
    blk_simp
    rw [after0_4, out_C m hO c t h1]
    obtain ⟨p, n, rfl⟩ := idx2_eq (n0 := 1024) (n1 := 1024) y
    obtain ⟨e0, e1⟩ := i4 m hO t
    have hN : (t : ℕ) < 882 := t.isLt.trans_eq N_0
    refine Eq.trans ?_ (congrArg (outArr (xArg m c) (eArg m 0) (guArg m c) (dnArg m c) (oldArg m c))
      (idx2_of _ (⟨43008 + row m hO t p, by omega⟩ : Fin 172032) n ?_ ?_)).symm
    · refine (pay1_apply _ p n).trans ((acc_last m hO c hE t h1 p n).trans ?_)
      have hr : (row m hO t p : ℕ) = (t : ℕ) / 7 * 1024 + p := rfl
      refine Eq.trans ?_ (if_pos (show 42 ≤ (43008 + (row m hO t p : ℕ)) / 1024 by omega)).symm
      refine congrArg (fun r => rowOut (xArg m c) (eArg m 0) (guArg m c) (dnArg m c) r n) (Fin.ext ?_)
      show (row m hO t p : ℕ) = 43008 + (row m hO t p : ℕ) - 43008; omega
    · show ((cfgM m hO).win 4).index t (0 : Fin 2) * 1024 + 1 * (p : ℕ) = 43008 + ((t : ℕ) / 7 * 1024 + p); omega
    · show ((cfgM m hO).win 4).index t (1 : Fin 2) * 1024 + 1 * (n : ℕ) = n; omega

end Cert.Kernel3Ideal.Expert

end
-- ==== Proof.ExpertRef.lean ====
/- The expert reference at an index. -/
module

public import proofs.«01_k».proof.Proof.ExpertValue
public import proofs.«01_k».proof.Proof.Gen.Reference3Ideal.Read

@[expose] public section

set_option maxRecDepth 16384

noncomputable section

namespace Cert.Reference3Ideal.Expert

open Idealize.ShloMosaic Idealize.ShloMosaic.TcCoe Idealize.SL.Sem Cert.Reference3Ideal Cert.Reference3Ideal.Read Cert.Kernel3Ideal.Expert

/-- The dimension numbers of a gather of whole matrices, one for each index of a list. -/
abbrev matDims (N K R C : ℕ)
    (wf : GatherDims.WF ⟨3, ![N, R, C]⟩ ⟨2, ![K, 1]⟩ ⟨3, ![K, R, C]⟩ [1, 2] [0] [] [0] [] 1 ![1, R, C]) :
    GatherDims ⟨3, ![N, R, C]⟩ ⟨2, ![K, 1]⟩ ⟨3, ![K, R, C]⟩ :=
  { offsetDims := [1, 2], collapsedSliceDims := [0], operandBatchingDims := [], startIndicesBatchingDims := [],
    startIndexMap := [0], indexVectorDim := 1, sliceSizes := ![1, R, C], wf := wf }

/-- An index in range gathers its matrix. -/
theorem gather_mat {α : Type} {N K R C : ℕ} (wf) (x : (⟨3, ![N, R, C]⟩ : Shape).Idx → α) (idx : IVec (⟨2, ![K, 1]⟩ : Shape) 32)
    (b : Fin K) (r : Fin R) (n : Fin C) (e : Fin N) (he : (idx (ix2 b 0)).toInt.toNat = e) :
    Host.gather (matDims N K R C wf) x idx (ix3 b r n) = x (ix3 e r n) := by
  unfold Host.gather
  refine congrArg x (funext fun a => Fin.ext ?_)
  show (matDims N K R C wf).start (ix3 b r n) idx a + (matDims N K R C wf).batchCoord (ix3 b r n) a
    + (matDims N K R C wf).offCoord (ix3 b r n) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    refine (dif_pos (List.mem_singleton.mpr rfl)).trans ?_
    have hs : (matDims N K R C wf).siIdx (ix3 b r n) ⟨List.idxOf (0 : Fin 3) (matDims N K R C wf).startIndexMap,
        List.idxOf_lt_length_iff.2 (List.mem_singleton.mpr rfl)⟩ = ix2 b 0 := by
      refine idx2_of _ _ _ ?_ ?_ <;> rfl
    refine (congrArg (fun j => min (idx j).toInt.toNat (N - 1)) hs).trans ?_
    show min (idx (ix2 b 0)).toInt.toNat (N - 1) = (e : ℕ)
    rw [he]; omega
  | ⟨1, _⟩ =>
    unfold GatherDims.start
    rw [dif_neg (fun h => absurd (congrArg Fin.val (List.mem_singleton.mp h)) (Nat.succ_ne_zero _)), Nat.zero_add]
    rfl
  | ⟨2, _⟩ =>
    unfold GatherDims.start
    rw [dif_neg (fun h => absurd (congrArg Fin.val (List.mem_singleton.mp h)) (Nat.succ_ne_zero _)), Nat.zero_add]
    rfl

variable (x : FVec Ideal S129024x1024 .f32) (e : IVec S126 32) (w : FVec Ideal S8x1024x7168 .f32) (v : FVec Ideal S8x3584x1024 .f32)
  (old : FVec Ideal S172032x1024 .bf16) (hE : ∀ j, (e j).toNat < 8)

/-- A word below 8 is not negative, and as a signed number is itself. -/
theorem select_range (z : BitVec 32) (h : z.toNat < 8) :
    Scalar.select (IntOp.cmpi .slt z 0#32) (IntOp.addi z 8#32) z = z ∧ z.toInt.toNat = z.toNat := by
  have hz := BitVec.toInt_eq_toNat_cond z
  rw [if_pos (by omega)] at hz
  have hn : ¬ IntOp.cmpi .slt z 0#32 = 1#1 := fun h => by
    have := IntOp.cmpi_slt.1 h
    rw [show (0#32 : BitVec 32).toInt = 0 by decide] at this; omega
  exact ⟨if_neg hn, by omega⟩

include hE in
theorem idx_gu (b : Fin 126) : (val_main_v6 (F := Ideal) e (ix2 b 0)).toInt.toNat = expert e b := by
  have hb := select_range (e (ix1 b)) (hE _)
  have he : val_main_v6 (F := Ideal) e (ix2 b 0) = e (ix1 b) := by
    rw [val_main_v6_apply, val_main_v5_apply, val_main_v2_apply, val_main_v4_apply, val_main_v1_apply, val_main_v3_apply]
    have : idx_main_v6 (ix2 b 0) = ix1 b := by funext a; obtain rfl : a = 0 := Subsingleton.elim _ _; rfl
    rw [this]; exact hb.1
  rw [he, hb.2]; exact (Nat.mod_eq_of_lt (hE _)).symm

include hE in
theorem idx_dn (b : Fin 126) : (val_main_v18 (F := Ideal) e (ix2 b 0)).toInt.toNat = expert e b := by
  have hb := select_range (e (ix1 b)) (hE _)
  have he : val_main_v18 (F := Ideal) e (ix2 b 0) = e (ix1 b) := by
    rw [val_main_v18_apply, val_main_v17_apply, val_main_v14_apply, val_main_v16_apply, val_main_v13_apply, val_main_v15_apply]
    have : idx_main_v18 (ix2 b 0) = ix1 b := by funext a; obtain rfl : a = 0 := Subsingleton.elim _ _; rfl
    rw [this]; exact hb.1
  rw [he, hb.2]; exact (Nat.mod_eq_of_lt (hE _)).symm

include hE in
theorem gu_ref (b : Fin 126) (d : Fin 1024) (j : Fin 7168) :
    @Eq EReal (val_main_v7 (F := Ideal) e w (ix3 b d j)) (w (ix3 (expert e b) d j)) :=
  gather_mat _ w (val_main_v6 (F := Ideal) e) b d j (expert e b) (idx_gu e hE b)

include hE in
theorem dn_ref (b : Fin 126) (j : Fin 3584) (n : Fin 1024) :
    @Eq EReal (val_main_v19 (F := Ideal) e v (ix3 b j n)) (v (ix3 (expert e b) j n)) :=
  gather_mat _ v (val_main_v18 (F := Ideal) e) b j n (expert e b) (idx_dn e hE b)

/-- Row `p` of block `b`. -/
def rowOf (b : Fin 126) (p : Fin 1024) : Fin 129024 := ⟨(b : ℕ) * 1024 + p, by omega⟩

include hE in
theorem dot_at (b : Fin 126) (p : Fin 1024) (j : Fin 7168) : @Eq EReal (val_main_v8 (F := Ideal) x e w (ix3 b p j))
    (∑ d, x (ix2 (rowOf b p) d) * w (ix3 (expert e b) d j)) := by
  simp only [← gu_ref e w hE b]
  unfold val_main_v8 val_main_v0
  generalize val_main_v7 (F := Ideal) e w = a
  pointwise
  rfl

include hE in
theorem unit_at (b : Fin 126) (p : Fin 1024) (j : Fin 3584) : @Eq EReal (val_main_v12 (F := Ideal) x e w (ix3 b p j))
    (Swiglu.unit (fun d => x (ix2 (rowOf b p) d)) (fun d j => w (ix3 (expert e b) d j)) j) := by
  unfold Swiglu.unit Swiglu.gate
  rw [← dot_at x e w hE, ← dot_at x e w hE]
  unfold val_main_v12 val_main_v11 val_main_call0_v5 val_main_call0_v4 val_main_call0_v3 val_main_call0_v2 val_main_call0_v1 val_main_call0_v0
    val_main_call0_cst val_main_call0_cst_0 val_main_v9 val_main_v10
  generalize val_main_v8 (F := Ideal) x e w = a
  pointwise

include hE in
theorem block_at (b : Fin 126) (p n : Fin 1024) : @Eq EReal (val_main_v20 (F := Ideal) x e w v (ix3 b p n)) (rowOut x e w v (rowOf b p) n) := by
  have hb : (⟨(rowOf b p : ℕ) / 1024, by omega⟩ : Fin 126) = b := Fin.ext (by simp only [rowOf]; omega)
  unfold rowOut Swiglu.out
  rw [hb]
  simp only [← unit_at x e w hE, ← dn_ref e v hE]
  unfold val_main_v20
  generalize val_main_v12 (F := Ideal) x e w = a
  generalize val_main_v19 (F := Ideal) e v = a'
  pointwise

include hE in
theorem new_at (r : Fin 129024) (n : Fin 1024) : @Eq EReal (val_main_v22 (F := Ideal) x e w v (ix2 r n)) (rowOut x e w v r n) := by
  have hr : rowOf ⟨(r : ℕ) / 1024, by omega⟩ ⟨(r : ℕ) % 1024, by omega⟩ = r := Fin.ext (by simp only [rowOf]; omega)
  refine Eq.trans ?_ ((block_at x e w v hE ⟨(r : ℕ) / 1024, by omega⟩ ⟨(r : ℕ) % 1024, by omega⟩ n).trans (by rw [hr]))
  rw [val_main_v22_apply]
  unfold val_main_v21
  generalize val_main_v20 (F := Ideal) x e w v = a
  pointwise

include hE in
/-- The reference's result. -/
theorem out_ref (r : Fin 172032) (n : Fin 1024) : @Eq EReal (val_main_v24 (F := Ideal) x e w v old (ix2 r n)) (outAt x e w v old r n) := by
  unfold outAt
  split
  · rw [← new_at x e w v hE]
    unfold val_main_v24 val_main_v23
    generalize val_main_v22 (F := Ideal) x e w v = a
    pointwise
    exact dif_neg (by omega)
  · unfold val_main_v24 val_main_v23
    generalize val_main_v22 (F := Ideal) x e w v = a
    pointwise
    exact dif_pos (by omega)

end Cert.Reference3Ideal.Expert

end
-- ==== Proof.Glu.lean ====
/- The gate of the state-space mixer: the kernel's output array, and the reference at an index. -/
module

public import proofs.«01_k».proof.Proof.Gen.Kernel4Ideal.Value
public import proofs.«01_k».proof.Proof.Gen.Reference4Ideal.Read
public import proofs.«01_k».proof.Proof.FfnValue

@[expose] public section

set_option maxRecDepth 16384

noncomputable section

namespace Cert.Kernel4Ideal.Glu

open Idealize.ShloMosaic Idealize.ShloMosaic.TcCoe Idealize.SL.Sem Cert.Kernel4Ideal Cert.Kernel4Ideal.Gen Cert.Kernel2Ideal.Ffn

/-- Column `n` of a row `x` plus the row `h` through the weights, its first half gated by the logistic function of its second. -/
def glu (h : Fin 1024 → EReal) (w : Fin 1024 → Fin 2048 → EReal) (x : EReal) (n : Fin 1024) : EReal :=
  x + (∑ d, h d * w d ⟨n, by omega⟩) * Ideal.div 1 (1 + Ideal.exp (-∑ d, h d * w d ⟨1024 + n, by omega⟩))

/-- The output array. -/
def outArr (h x : FVec Ideal S16384x1024 .f32) (w : FVec Ideal S1024x2048 .f32) : FVec Ideal S16384x1024 .f32 := fun i =>
  glu (fun d => h (ix2 (i 0) d)) (fun d j => w (ix2 d j)) (x i) (i 1)

theorem pay1_apply (h : Vec Ideal S512x1024 .bf16) (w : Vec Ideal S1024x2048 .bf16) (x : Vec Ideal S512x1024 .f32) (p : Fin 512) (n : Fin 1024) :
    @Eq EReal (k0_pay1 h w x (ix2 p n)) (glu (fun d => h (ix2 p d)) (fun d j => w (ix2 d j)) (x (ix2 p n)) n) := by
  unfold k0_pay1 glu; pointwise
  simp only [sub_eq_add_neg, zero_add]

theorem i0 : ∀ t : Fin cfg0.N, win0_0.index t (0 : Fin 2) = (t : ℕ) ∧ win0_0.index t (1 : Fin 2) = 0 := (by decide +kernel : ∀ t : Fin grid0.N, _)
theorem i1 : ∀ t : Fin cfg0.N, win0_1.index t (0 : Fin 2) = (t : ℕ) ∧ win0_1.index t (1 : Fin 2) = 0 := (by decide +kernel : ∀ t : Fin grid0.N, _)
theorem i2 : ∀ t : Fin cfg0.N, win0_2.index t (0 : Fin 2) = 0 ∧ win0_2.index t (1 : Fin 2) = 0 := (by decide +kernel : ∀ t : Fin grid0.N, _)
theorem i3 : ∀ t : Fin cfg0.N, win0_3.index t (0 : Fin 2) = (t : ℕ) ∧ win0_3.index t (1 : Fin 2) = 0 := (by decide +kernel : ∀ t : Fin grid0.N, _)

variable (m : (ℓ : Loc nD τ sig) → Buf (Elt Ideal) ℓ) (c : Dev nD)

/-- The rows that are gated. -/
abbrev hArg : FVec Ideal S16384x1024 .f32 := m ((c : Thread nD τ).loc main_arg0)
/-- The rows they are added to. -/
abbrev xArg : FVec Ideal S16384x1024 .f32 := m ((c : Thread nD τ).loc main_arg1)
/-- The weights. -/
abbrev wArg : FVec Ideal S1024x2048 .f32 := m ((c : Thread nD τ).loc main_arg2)
/-- The rows that are gated, as the kernel reads them. -/
abbrev hArr : FVec Ideal S16384x1024 .bf16 := V m c main_v0
/-- The weights as the kernel reads them. -/
abbrev wArr : FVec Ideal S1024x2048 .bf16 := V m c main_v1

theorem h_at (r : Fin 16384) (d : Fin 1024) : @Eq EReal (hArr m c (ix2 r d)) (hArg m c (ix2 r d)) := by
  unfold_abbrev_sides
  after_reads_at

theorem w_at (d : Fin 1024) (j : Fin 2048) : @Eq EReal (wArr m c (ix2 d j)) (wArg m c (ix2 d j)) := by
  unfold_abbrev_sides
  after_reads_at

/-- Row `p` of the block of grid point `t`. -/
def row (t : Fin cfg0.N) (p : Fin 512) : Fin 16384 := ⟨(t : ℕ) * 512 + p, by have := t.isLt.trans_eq N_0; omega⟩

variable (t : Fin cfg0.N)

theorem blk0 (p : Fin 512) (d : Fin 1024) : @Eq EReal (iblk m c 0 t (ix2 p d)) (hArg m c (ix2 (row t p) d)) := by
  obtain ⟨e0, e1⟩ := i0 t
  rw [← h_at]
  show hArr m c (((cfg0.win 0).blk t).view.emb (ix2 p d)) = _
  refine congrArg (hArr m c) (idx2_of _ _ _ ?_ ?_)
  · show win0_0.index t (0 : Fin 2) * 512 + 1 * (p : ℕ) = _; simp only [row]; omega
  · show win0_0.index t (1 : Fin 2) * 1024 + 1 * (d : ℕ) = _; omega

theorem blk1 (p : Fin 512) (n : Fin 1024) : @Eq EReal (iblk m c 1 t (ix2 p n)) (xArg m c (ix2 (row t p) n)) := by
  obtain ⟨e0, e1⟩ := i1 t
  show V m c main_arg1 (((cfg0.win 1).blk t).view.emb (ix2 p n)) = _
  refine congrArg (xArg m c) (idx2_of _ _ _ ?_ ?_)
  · show win0_1.index t (0 : Fin 2) * 512 + 1 * (p : ℕ) = _; simp only [row]; omega
  · show win0_1.index t (1 : Fin 2) * 1024 + 1 * (n : ℕ) = _; omega

theorem blk2 (d : Fin 1024) (j : Fin 2048) : @Eq EReal (iblk m c 2 t (ix2 d j)) (wArg m c (ix2 d j)) := by
  obtain ⟨e0, e1⟩ := i2 t
  rw [← w_at]
  show wArr m c (((cfg0.win 2).blk t).view.emb (ix2 d j)) = _
  refine congrArg (wArr m c) (idx2_of _ _ _ ?_ ?_)
  · show win0_2.index t (0 : Fin 2) * 1024 + 1 * (d : ℕ) = _; omega
  · show win0_2.index t (1 : Fin 2) * 2048 + 1 * (j : ℕ) = _; omega

/-- The output array after the run. -/
theorem final3 : (dats m 0 c).arrAt 3 cfg0.N = outArr (hArg m c) (xArg m c) (wArg m c) := by
  refine (dats m 0 c).arrAt_eq_of_covers 3 _ (by decide +kernel) fun t hf y => ?_
  blk_simp
  rw [after0_3, show out0_3 (iblk m c 0 t) (iblk m c 1 t) (iblk m c 2 t) = k0_pay1 (iblk m c 0 t) (iblk m c 2 t) (iblk m c 1 t) by frame_out]
  obtain ⟨p, n, rfl⟩ := idx2_eq (n0 := 512) (n1 := 1024) y
  obtain ⟨e0, e1⟩ := i3 t
  refine Eq.trans ?_ (congrArg (outArr (hArg m c) (xArg m c) (wArg m c)) (idx2_of _ (row t p) n ?_ ?_)).symm
  · refine (pay1_apply _ _ _ p n).trans ?_
    simp only [blk0, blk1, blk2]
    rfl
  · show win0_3.index t (0 : Fin 2) * 512 + 1 * (p : ℕ) = _; simp only [row]; omega
  · show win0_3.index t (1 : Fin 2) * 1024 + 1 * (n : ℕ) = _; omega

end Cert.Kernel4Ideal.Glu

namespace Cert.Reference4Ideal.Glu

open Idealize.ShloMosaic Cert.Reference4Ideal Cert.Reference4Ideal.Read Cert.Kernel4Ideal.Glu

variable (h x : FVec Ideal S16384x1024 .f32) (w : FVec Ideal S1024x2048 .f32)

theorem dot_at (r : Fin 16384) (j : Fin 2048) : @Eq EReal (val_main_v0 (F := Ideal) h w (ix2 r j)) (∑ d, h (ix2 r d) * w (ix2 d j)) := by
  unfold val_main_v0
  pointwise

/-- The reference's result. -/
theorem out_ref (r : Fin 16384) (n : Fin 1024) : @Eq EReal (val_main_v10 (F := Ideal) h x w (ix2 r n)) (outArr h x w (ix2 r n)) := by
  show _ = glu (fun d => h (ix2 r d)) (fun d j => w (ix2 d j)) (x (ix2 r n)) n
  unfold glu
  rw [← dot_at, ← dot_at]
  unfold val_main_v10 val_main_v9 val_main_v8 val_main_v7 val_main_v6 val_main_v5 val_main_v4 val_main_v3 val_main_v2 val_main_v1 val_main_cst val_main_cst_0
  generalize val_main_v0 (F := Ideal) h w = a
  pointwise

end Cert.Reference4Ideal.Glu

end
-- ==== Proof.FirstRange.lean ====
/- The table of the experts' first blocks: what the precondition says of it, and that the blocks it selects lie in the weights. -/
module

public import proofs.«01_k».proof.Proof.ExpertRange
public import proofs.«01_k».proof.Proof.Gen.Kernel5.Frame
public import proofs.«01_k».proof.Proof.Gen.Kernel5Ideal.Frame
public import proofs.«01_k».proof.Proof.Gen.Pre_first_in_range

@[expose] public section

set_option maxRecDepth 16384

noncomputable section

namespace Cert.Expert

open Idealize.ShloMosaic Idealize.ShloMosaic.TcCoe

variable {F : FTy → Type} [FloatOps F]

/-- The precondition gives a table of expert numbers below 8. -/
theorem range_first (x0 : FVec F Cert.Pre_first_in_range.S43008x1024 .f32) (x1 : IVec Cert.Pre_first_in_range.S42 32)
    (x2 : FVec F Cert.Pre_first_in_range.S8x1024x7168 .f32) (x3 : FVec F Cert.Pre_first_in_range.S8x3584x1024 .f32)
    (e : Cert.Pre_first_in_range.fn (F := F) x0 x1 x2 x3 = fun _ => 1#1) (i : Cert.Pre_first_in_range.S42.Idx) : (x1 i).toNat < 8 := by
  haveI : Subsingleton Cert.Pre_first_in_range.S_.Idx := ⟨fun a b => funext fun d => d.elim0⟩
  exact toNat_lt_of_range _ (Host.reduce_andi_all _ _ _ _ _ (congrFun e ix0) i)

end Cert.Expert

namespace Cert.Kernel5Ideal.Expert

open Idealize.ShloMosaic Idealize.ShloMosaic.TcCoe Cert.Kernel5Ideal Cert.Kernel5Ideal.Gen

variable {F : FTy → Type} [FloatOps F]

/-- The table's word at a grid point's block. -/
theorem word (pf : pre0.Contents (Elt F)) (i : grid0.Coords) (h : ∀ a, (k0_off1 i) a + S1.size a ≤ S42.size a) (h1 : S1.numel = 1) :
    (pf.at 0 (Rect.unit (s := S42) (k0_off1 i) S1.size h) h1 : BitVec 32) = (pf 0 : IVec S42 32) (ix1 (i 0)) := by
  have b : (i 0).val < 42 := (i 0).isLt
  refine congrArg (pf 0 : IVec S42 32) (funext fun (a : Fin 1) => ?_)
  obtain rfl : a = 0 := Subsingleton.elim _ _
  refine Fin.ext ?_
  show (BitVec.ofNat 32 (i 0).val).toNat + 1 * 0 = (i 0).val
  rw [BitVec.toNat_ofNat]; omega

theorem block1 (pf : pre0.Contents (Elt F)) (i : grid0.Coords) :
    cc0_transform_1 Facts₀.k0_off1_inb Facts₀.numel1_S1 pf i = ![((pf 0 : IVec S42 32) (ix1 (i 0))).toNat, 0, (i 1).val] := by
  have b : (i 1).val < 7 := (i 1).isLt
  rw [← Cert.Kernel3Ideal.Expert.toNat_coord b (by omega), ← word pf i (Facts₀.k0_off1_inb i) Facts₀.numel1_S1]
  rfl

theorem block2 (pf : pre0.Contents (Elt F)) (i : grid0.Coords) :
    cc0_transform_2 Facts₀.k0_off1_inb Facts₀.numel1_S1 pf i = ![((pf 0 : IVec S42 32) (ix1 (i 0))).toNat, 0, 7 + (i 1).val] := by
  have b : (i 1).val < 7 := (i 1).isLt
  have e : (Scalar.addi 7#32 (BitVec.ofNat 32 (i 1).val)).toNat = 7 + (i 1).val := by
    show (7#32 + BitVec.ofNat 32 (i 1).val).toNat = _
    rw [BitVec.toNat_add, Cert.Kernel3Ideal.Expert.toNat_coord b (by omega), BitVec.toNat_ofNat]; omega
  rw [← e, ← word pf i (Facts₀.k0_off1_inb i) Facts₀.numel1_S1]
  rfl

theorem block3 (pf : pre0.Contents (Elt F)) (i : grid0.Coords) :
    cc0_transform_3 Facts₀.k0_off1_inb Facts₀.numel1_S1 pf i = ![((pf 0 : IVec S42 32) (ix1 (i 0))).toNat, (i 1).val, 0] := by
  have b : (i 1).val < 7 := (i 1).isLt
  rw [← Cert.Kernel3Ideal.Expert.toNat_coord b (by omega), ← word pf i (Facts₀.k0_off1_inb i) Facts₀.numel1_S1]
  rfl

/-- With a table of expert numbers below 8, every block that it selects lies in the weights. -/
theorem ok_of (pf : pre0.Contents (Elt F)) (h : ∀ j, ((pf 0 : IVec S42 32) j).toNat < 8) : ok0 pf := by
  refine ⟨fun i => ⟨fun a => ?_, .inr (Affine.block_words_dvd (of_decide_eq_true rfl) (by decide))⟩,
    fun i => ⟨fun a => ?_, .inr (Affine.block_words_dvd (of_decide_eq_true rfl) (by decide))⟩,
    fun i => ⟨fun a => ?_, .inr (Affine.block_words_dvd (of_decide_eq_true rfl) (by decide))⟩⟩ <;>
  have b : (i 1).val < 7 := (i 1).isLt <;> have hw := h (ix1 (i 0))
  · rw [block1]
    match a with
    | ⟨0, _⟩ => show (((pf 0 : IVec S42 32) (ix1 (i 0))).toNat + 1) * 1 ≤ 8; omega
    | ⟨1, _⟩ => show (0 + 1) * 1024 ≤ 1024; omega
    | ⟨2, _⟩ => show ((i 1).val + 1) * 512 ≤ 7168; omega
  · rw [block2]
    match a with
    | ⟨0, _⟩ => show (((pf 0 : IVec S42 32) (ix1 (i 0))).toNat + 1) * 1 ≤ 8; omega
    | ⟨1, _⟩ => show (0 + 1) * 1024 ≤ 1024; omega
    | ⟨2, _⟩ => show (7 + (i 1).val + 1) * 512 ≤ 7168; omega
  · rw [block3]
    match a with
    | ⟨0, _⟩ => show (((pf 0 : IVec S42 32) (ix1 (i 0))).toNat + 1) * 1 ≤ 8; omega
    | ⟨1, _⟩ => show ((i 1).val + 1) * 512 ≤ 3584; omega
    | ⟨2, _⟩ => show (0 + 1) * 1024 ≤ 1024; omega

/-- The precondition's side condition on the table, from the table as launched. -/
theorem ok (m : (ℓ : Loc nD τ sig) → Buf (Elt F) ℓ) (h : ∀ j, ((m (((0 : Dev nD) : Thread nD τ).loc main_arg1) : IVec S42 32) j).toNat < 8) :
    Ok m := by
  refine ok_of _ fun j => ?_
  rw [show (tbl m 0 : IVec S42 32) = m (((0 : Dev nD) : Thread nD τ).loc main_arg1) from V_main_arg1 m 0]
  exact h j

end Cert.Kernel5Ideal.Expert

namespace Cert.Kernel5.Expert

open Idealize.ShloMosaic Idealize.ShloMosaic.TcCoe Cert.Kernel5 Cert.Kernel5.Gen

variable {F : FTy → Type} [FloatOps F]

/-- The same for the kernel, whose index maps are the idealized one's. -/
theorem ok (m : (ℓ : Loc nD τ sig) → Buf (Elt F) ℓ) (h : ∀ j, ((m (((0 : Dev nD) : Thread nD τ).loc main_arg1) : IVec S42 32) j).toNat < 8) :
    Ok m := by
  refine Cert.Kernel5Ideal.Expert.ok_of (F := F) (fun | 0 => (tbl m 0 : IVec S42 32)) fun j => ?_
  show ((tbl m 0 : IVec S42 32) j).toNat < 8
  rw [show (tbl m 0 : IVec S42 32) = m (((0 : Dev nD) : Thread nD τ).loc main_arg1) from V_main_arg1 m 0]
  exact h j

end Cert.Kernel5.Expert

end
-- ==== Proof.FirstStep.lean ====
/- The expert kernel on the first blocks, its body at an index: the blocks it reads, and what a hidden block adds to the running sum. -/
module

public import proofs.«01_k».proof.Proof.FirstRange
public import proofs.«01_k».proof.Proof.ExpertValue
public import Idealize.ShloMosaic.Lib.Pipeline.ValueKit.Geometry
public import Idealize.ShloMosaic.Lib.StableHlo.ReadAt

@[expose] public section

set_option maxRecDepth 16384

noncomputable section

namespace Cert.Kernel5Ideal.Expert

open Idealize.ShloMosaic Idealize.ShloMosaic.TcCoe Idealize.SL.Sem Cert.Kernel5Ideal Cert.Kernel5Ideal.Gen
open Cert.Kernel3Ideal.Expert (idx2_of idx3_of)

theorem pay1_apply (x : Vec Ideal S1024x1024 .f32) (p n : Fin 1024) : @Eq EReal (k0_pay1 x (ix2 p n)) (x (ix2 p n)) :=
  Cert.Kernel3Ideal.Expert.pay1_apply x p n

theorem pay2_apply (p n : Fin 1024) : k0_pay2 (F := Ideal) (ix2 p n) = (0 : EReal) :=
  Cert.Kernel3Ideal.Expert.pay2_apply p n

theorem pay3_apply (h : Vec Ideal S1024x1024 .bf16) (wg wu : Vec Ideal S1x1024x512 .bf16) (acc : Vec Ideal S1024x1024 .f32)
    (wd : Vec Ideal S1x512x1024 .bf16) (p n : Fin 1024) : @Eq EReal (k0_pay3 h wg wu acc wd (ix2 p n)) (acc (ix2 p n)
      + ∑ q : Fin 512, Swiglu.gate (∑ d, (h (ix2 p d) : EReal) * wg (ix3 0 d q)) (∑ d, (h (ix2 p d) : EReal) * wu (ix3 0 d q)) * wd (ix3 0 q n)) :=
  Cert.Kernel3Ideal.Expert.pay3_apply h wg wu acc wd p n

variable (m : (ℓ : Loc nD τ sig) → Buf (Elt Ideal) ℓ) (hO : Ok m) (c : Dev nD)

/-- The rows. -/
abbrev xArg : FVec Ideal S43008x1024 .f32 := m ((c : Thread nD τ).loc main_arg0)
/-- The experts' table. -/
abbrev eArg : IVec S42 32 := m ((c : Thread nD τ).loc main_arg1)
/-- The experts' gate and up weights. -/
abbrev guArg : FVec Ideal S8x1024x7168 .f32 := m ((c : Thread nD τ).loc main_arg2)
/-- The experts' down weights. -/
abbrev dnArg : FVec Ideal S8x3584x1024 .f32 := m ((c : Thread nD τ).loc main_arg3)
/-- The rows as the kernel reads them. -/
abbrev xArr : FVec Ideal S43008x1024 .bf16 := V m c main_v0
/-- The gate and up weights as the kernel reads them. -/
abbrev guArr : FVec Ideal S8x1024x7168 .bf16 := V m c main_v1
/-- The down weights as the kernel reads them. -/
abbrev dnArr : FVec Ideal S8x3584x1024 .bf16 := V m c main_v2

theorem x_at (r : Fin 43008) (d : Fin 1024) : @Eq EReal (xArr m c (ix2 r d)) (xArg m c (ix2 r d)) := by
  unfold_abbrev_sides
  after_reads_at

theorem gu_at (e : Fin 8) (d : Fin 1024) (j : Fin 7168) : @Eq EReal (guArr m c (ix3 e d j)) (guArg m c (ix3 e d j)) := by
  unfold_abbrev_sides
  after_reads_at

theorem dn_at (e : Fin 8) (j : Fin 3584) (n : Fin 1024) : @Eq EReal (dnArr m c (ix3 e j n)) (dnArg m c (ix3 e j n)) := by
  unfold_abbrev_sides
  after_reads_at

/-- The expert of row block `b`. -/
def expert (e : IVec S42 32) (b : Fin 42) : Fin 8 := ⟨(e (ix1 b)).toNat % 8, by omega⟩

variable (t : Fin (cfgM m hO).N)

/-- The row block of grid point `t`. -/
def blockOf : Fin 42 := ⟨(t : ℕ) / 7, by have : (t : ℕ) < 294 := t.isLt.trans_eq N_0; omega⟩

/-- Row `p` of the block of grid point `t`. -/
def row (p : Fin 1024) : Fin 43008 := ⟨(t : ℕ) / 7 * 1024 + p, by have : (t : ℕ) < 294 := t.isLt.trans_eq N_0; omega⟩

theorem coord0 (t : Fin grid0.N) : (grid0.coords t 0).val = (t : ℕ) / 7 := by
  have : (t : ℕ) < 294 := t.isLt.trans_eq N_0
  rw [show (grid0.coords t 0).val = (t : ℕ) / 7 % 42 from Pipeline.Grid.coords_val t 0 (by decide) rfl]; omega

theorem coord1 (t : Fin grid0.N) : (grid0.coords t 1).val = (t : ℕ) % 7 := by
  rw [show (grid0.coords t 1).val = (t : ℕ) / 1 % 7 from Pipeline.Grid.coords_val t 1 (by decide) rfl]; omega

theorem i0 : ((cfgM m hO).win 0).index t (0 : Fin 2) = (t : ℕ) / 7 ∧ ((cfgM m hO).win 0).index t (1 : Fin 2) = 0 :=
  (by decide +kernel : ∀ t : Fin grid0.N, cc0_transform_0 (grid0.coords t) (0 : Fin 2) = (t : ℕ) / 7 ∧ cc0_transform_0 (grid0.coords t) (1 : Fin 2) = 0) t

theorem i4 : ((cfgM m hO).win 4).index t (0 : Fin 2) = (t : ℕ) / 7 ∧ ((cfgM m hO).win 4).index t (1 : Fin 2) = 0 :=
  (by decide +kernel : ∀ t : Fin grid0.N, cc0_transform_4 (grid0.coords t) (0 : Fin 2) = (t : ℕ) / 7 ∧ cc0_transform_4 (grid0.coords t) (1 : Fin 2) = 0) t

variable (hE : ∀ j, (eArg m 0 j).toNat < 8)

include hE in
/-- The expert whose weights grid point `t` reads. -/
theorem word_at : ((tbl m 0 : IVec S42 32) (ix1 (grid0.coords t 0))).toNat = expert (eArg m 0) (blockOf m hO t) := by
  rw [show (tbl m 0 : IVec S42 32) = eArg m 0 from V_main_arg1 m 0,
    show grid0.coords t 0 = blockOf m hO t from Fin.ext (coord0 t)]
  exact (Nat.mod_eq_of_lt (hE _)).symm

include hE in
theorem i1 : ((cfgM m hO).win 1).index t (0 : Fin 3) = expert (eArg m 0) (blockOf m hO t) ∧ ((cfgM m hO).win 1).index t (1 : Fin 3) = 0
    ∧ ((cfgM m hO).win 1).index t (2 : Fin 3) = (t : ℕ) % 7 := by
  have e := block1 (tbl m) (grid0.coords t)
  exact ⟨(congrFun e 0).trans (word_at m hO t hE), congrFun e 1, (congrFun e 2).trans (coord1 t)⟩

include hE in
theorem i2 : ((cfgM m hO).win 2).index t (0 : Fin 3) = expert (eArg m 0) (blockOf m hO t) ∧ ((cfgM m hO).win 2).index t (1 : Fin 3) = 0
    ∧ ((cfgM m hO).win 2).index t (2 : Fin 3) = 7 + (t : ℕ) % 7 := by
  have e := block2 (tbl m) (grid0.coords t)
  exact ⟨(congrFun e 0).trans (word_at m hO t hE), congrFun e 1, (congrFun e 2).trans (congrArg (7 + ·) (coord1 t))⟩

include hE in
theorem i3 : ((cfgM m hO).win 3).index t (0 : Fin 3) = expert (eArg m 0) (blockOf m hO t) ∧ ((cfgM m hO).win 3).index t (1 : Fin 3) = (t : ℕ) % 7
    ∧ ((cfgM m hO).win 3).index t (2 : Fin 3) = 0 := by
  have e := block3 (tbl m) (grid0.coords t)
  exact ⟨(congrFun e 0).trans (word_at m hO t hE), (congrFun e 1).trans (coord1 t), congrFun e 2⟩

theorem blk0 (p d : Fin 1024) : @Eq EReal (iblk m hO c 0 t (ix2 p d)) (xArg m c (ix2 (row m hO t p) d)) := by
  obtain ⟨e0, e1⟩ := i0 m hO t
  rw [← x_at]
  show xArr m c ((((cfgM m hO).win 0).blk t).view.emb (ix2 p d)) = _
  refine congrArg (xArr m c) (idx2_of _ _ _ ?_ ?_)
  · show ((cfgM m hO).win 0).index t (0 : Fin 2) * 1024 + 1 * (p : ℕ) = (t : ℕ) / 7 * 1024 + p; omega
  · show ((cfgM m hO).win 0).index t (1 : Fin 2) * 1024 + 1 * (d : ℕ) = _; omega

include hE in
theorem blk1 (d : Fin 1024) (q : Fin 512) (j : Fin 7168) (hj : (j : ℕ) = (t : ℕ) % 7 * 512 + q) :
    @Eq EReal (iblk m hO c 1 t (ix3 0 d q)) (guArg m c (ix3 (expert (eArg m 0) (blockOf m hO t)) d j)) := by
  obtain ⟨e0, e1, e2⟩ := i1 m hO t hE
  rw [← gu_at]
  show guArr m c ((((cfgM m hO).win 1).blk t).view.emb (ix3 0 d q)) = _
  refine congrArg (guArr m c) (idx3_of _ _ _ _ ?_ ?_ ?_)
  · show ((cfgM m hO).win 1).index t (0 : Fin 3) * 1 + 1 * 0 = _; omega
  · show ((cfgM m hO).win 1).index t (1 : Fin 3) * 1024 + 1 * (d : ℕ) = _; omega
  · show ((cfgM m hO).win 1).index t (2 : Fin 3) * 512 + 1 * (q : ℕ) = _; omega

include hE in
theorem blk2 (d : Fin 1024) (q : Fin 512) (j : Fin 7168) (hj : (j : ℕ) = 3584 + ((t : ℕ) % 7 * 512 + q)) :
    @Eq EReal (iblk m hO c 2 t (ix3 0 d q)) (guArg m c (ix3 (expert (eArg m 0) (blockOf m hO t)) d j)) := by
  obtain ⟨e0, e1, e2⟩ := i2 m hO t hE
  rw [← gu_at]
  show guArr m c ((((cfgM m hO).win 2).blk t).view.emb (ix3 0 d q)) = _
  refine congrArg (guArr m c) (idx3_of _ _ _ _ ?_ ?_ ?_)
  · show ((cfgM m hO).win 2).index t (0 : Fin 3) * 1 + 1 * 0 = _; omega
  · show ((cfgM m hO).win 2).index t (1 : Fin 3) * 1024 + 1 * (d : ℕ) = _; omega
  · show ((cfgM m hO).win 2).index t (2 : Fin 3) * 512 + 1 * (q : ℕ) = _; omega

include hE in
theorem blk3 (q : Fin 512) (n : Fin 1024) (j : Fin 3584) (hj : (j : ℕ) = (t : ℕ) % 7 * 512 + q) :
    @Eq EReal (iblk m hO c 3 t (ix3 0 q n)) (dnArg m c (ix3 (expert (eArg m 0) (blockOf m hO t)) j n)) := by
  obtain ⟨e0, e1, e2⟩ := i3 m hO t hE
  rw [← dn_at]
  show dnArr m c ((((cfgM m hO).win 3).blk t).view.emb (ix3 0 q n)) = _
  refine congrArg (dnArr m c) (idx3_of _ _ _ _ ?_ ?_ ?_)
  · show ((cfgM m hO).win 3).index t (0 : Fin 3) * 1 + 1 * 0 = _; omega
  · show ((cfgM m hO).win 3).index t (1 : Fin 3) * 512 + 1 * (q : ℕ) = _; omega
  · show ((cfgM m hO).win 3).index t (2 : Fin 3) * 1024 + 1 * (n : ℕ) = _; omega

end Cert.Kernel5Ideal.Expert

end
-- ==== Proof.FirstValue.lean ====
/- The expert kernel on the first blocks, its output array: the gated feed-forward of each row by its block's expert. -/
module

public import proofs.«01_k».proof.Proof.FirstStep
public import Idealize.ShloMosaic.Lib.Pipeline.ReadBack
public import Idealize.ShloMosaic.Lib.Pipeline.ValueKit.Partial

@[expose] public section

set_option maxRecDepth 16384

noncomputable section

namespace Cert.Kernel5Ideal.Expert

open Idealize.ShloMosaic Idealize.ShloMosaic.TcCoe Idealize.SL.Sem Cert.Kernel5Ideal Cert.Kernel5Ideal.Gen
open Cert.Kernel3Ideal.Expert (idx2_of idx2_eq)

/-- The feed-forward of row `r` at column `n`, by the expert of the row's block. -/
def rowOut (x : FVec Ideal S43008x1024 .f32) (e : IVec S42 32) (w : FVec Ideal S8x1024x7168 .f32) (v : FVec Ideal S8x3584x1024 .f32)
    (r : Fin 43008) (n : Fin 1024) : EReal :=
  Swiglu.out (fun d => x (ix2 r d)) (fun d j => w (ix3 (expert e ⟨(r : ℕ) / 1024, by omega⟩) d j))
    (fun j n => v (ix3 (expert e ⟨(r : ℕ) / 1024, by omega⟩) j n)) n

/-- The array that the kernel writes at row `r`: zero stands for what it does not write. -/
def outAt (x : FVec Ideal S43008x1024 .f32) (e : IVec S42 32) (w : FVec Ideal S8x1024x7168 .f32) (v : FVec Ideal S8x3584x1024 .f32)
    (r : Fin 172032) (n : Fin 1024) : EReal :=
  if h : (r : ℕ) / 1024 < 42 then rowOut x e w v ⟨r, by omega⟩ n else 0

/-- The array that the kernel writes. -/
def outArr (x : FVec Ideal S43008x1024 .f32) (e : IVec S42 32) (w : FVec Ideal S8x1024x7168 .f32) (v : FVec Ideal S8x3584x1024 .f32) :
    FVec Ideal S172032x1024 .bf16 := fun i => outAt x e w v (i 0) (i 1)

variable (m : (ℓ : Loc nD τ sig) → Buf (Elt Ideal) ℓ) (hO : Ok m) (c : Dev nD)

/-- What grid point `t` adds to the running sum. -/
def term (t : Fin (cfgM m hO).N) (i : S1024x1024.Idx) : EReal :=
  Swiglu.part (fun d => xArg m c (ix2 (row m hO t (i 0)) d)) (fun d j => guArg m c (ix3 (expert (eArg m 0) (blockOf m hO t)) d j))
    (fun j n => dnArg m c (ix3 (expert (eArg m 0) (blockOf m hO t)) j n)) (i 1) ⟨(t : ℕ) % 7, by omega⟩

variable (hE : ∀ j, (eArg m 0 j).toNat < 8)

include hE in
/-- The body's step over a running sum. -/
theorem step (t : Fin (cfgM m hO).N) (acc : Vec Ideal S1024x1024 .f32) (p n : Fin 1024) :
    @Eq EReal (k0_pay3 (iblk m hO c 0 t) (iblk m hO c 1 t) (iblk m hO c 2 t) acc (iblk m hO c 3 t) (ix2 p n))
      (acc (ix2 p n) + term m hO c t (ix2 p n)) := by
  refine (pay3_apply (iblk m hO c 0 t) (iblk m hO c 1 t) (iblk m hO c 2 t) acc (iblk m hO c 3 t) p n).trans ?_
  refine congrArg (fun z : EReal => acc (ix2 p n) + z) ?_
  unfold term Swiglu.part Swiglu.unit
  refine Finset.sum_congr rfl fun q _ => ?_
  rw [blk3 m hO c t hE q n ⟨(t : ℕ) % 7 * 512 + q, by omega⟩ rfl]
  refine congrArg (fun z : EReal => z * _) (congrArg₂ Swiglu.gate ?_ ?_) <;> refine Finset.sum_congr rfl fun d _ => ?_
  · rw [blk0, blk1 m hO c t hE d q ⟨(t : ℕ) % 7 * 512 + q, by omega⟩ rfl]; rfl
  · rw [blk0, blk2 m hO c t hE d q ⟨3584 + ((t : ℕ) % 7 * 512 + q), by omega⟩ rfl]; rfl

theorem pay3_congr {h h' : Vec Ideal S1024x1024 .bf16} {wg wg' wu wu' : Vec Ideal S1x1024x512 .bf16} {acc : Vec Ideal S1024x1024 .f32}
    {wd wd' : Vec Ideal S1x512x1024 .bf16} (e0 : h = h') (e1 : wg = wg') (e2 : wu = wu') (e3 : wd = wd') :
    k0_pay3 h wg wu acc wd = k0_pay3 h' wg' wu' acc wd' := by rw [e0, e1, e2, e3]

theorem acc_A (t : Fin (cfgM m hO).N) (h0 : t.val % 7 = 0) : (outsAt0 m hO c t.val t.isLt).2
    = k0_pay3 (iblk m hO c 0 t) (iblk m hO c 1 t) (iblk m hO c 2 t) (k0_pay2 (F := Ideal)) (iblk m hO c 3 t) := by
  rw [outsAt0_A m hO c t h0 (by omega)]; frame_out
  exact pay3_congr (Memref.IsWhole.read_unread _ _) (Memref.IsWhole.read_unread _ _) (Memref.IsWhole.read_unread _ _) (Memref.IsWhole.read_unread _ _)

theorem acc_step (t : Fin (cfgM m hO).N) (h0 : ¬ t.val % 7 = 0) : (outsAt0 m hO c t.val t.isLt).2
    = k0_pay3 (iblk m hO c 0 t) (iblk m hO c 1 t) (iblk m hO c 2 t)
        (outsAt0 m hO c (t.val - 1) (Nat.lt_of_le_of_lt (Nat.sub_le _ _) t.isLt)).2 (iblk m hO c 3 t) := by
  by_cases h1 : t.val % 7 = 6
  · rw [outsAt0_C m hO c t h0 h1]; frame_out; simp only [read_unread_whole]
    exact pay3_congr (Memref.IsWhole.read_unread _ _) (Memref.IsWhole.read_unread _ _) (Memref.IsWhole.read_unread _ _) (Memref.IsWhole.read_unread _ _)
  · rw [outsAt0_B m hO c t h0 h1]; frame_out; simp only [read_unread_whole]
    exact pay3_congr (Memref.IsWhole.read_unread _ _) (Memref.IsWhole.read_unread _ _) (Memref.IsWhole.read_unread _ _) (Memref.IsWhole.read_unread _ _)

theorem out_C (t : Fin (cfgM m hO).N) (h1 : t.val % 7 = 6) : (outsAt0 m hO c t.val t.isLt).1
    = k0_pay1 (outsAt0 m hO c t.val t.isLt).2 := by
  rw [acc_step m hO c t (by omega), outsAt0_C m hO c t (by omega) h1]; frame_out; simp only [read_unread_whole]
  exact congrArg k0_pay1 (pay3_congr (Memref.IsWhole.read_unread _ _) (Memref.IsWhole.read_unread _ _) (Memref.IsWhole.read_unread _ _) (Memref.IsWhole.read_unread _ _))

include hE in
/-- The running sum at the last point of a block of rows. -/
theorem acc_last (t : Fin (cfgM m hO).N) (h1 : t.val % 7 = 7 - 1) (p n : Fin 1024) : @Eq EReal ((outsAt0 m hO c t.val t.isLt).2 (ix2 p n))
    (rowOut (xArg m c) (eArg m 0) (guArg m c) (dnArg m c) (row m hO t p) n) := by
  rw [Pipeline.eq_sum_fin_of_reset_step_apply_of_flush (fun n h => (outsAt0 m hO c n h).2) 7 (fun _ => (0 : EReal)) (term m hO c) ?_ ?_ t h1 (ix2 p n)]
  · unfold rowOut
    rw [zero_add, ← Swiglu.sum_part]
    refine Finset.sum_congr rfl fun s _ => ?_
    have hb := Pipeline.run_point_lt_of_flush t h1 s
    have e1 : row m hO ⟨7 * (t.val / 7) + s.val, hb⟩ p = row m hO t p := Fin.ext (by
      show (7 * (t.val / 7) + s.val) / 7 * 1024 + p.val = t.val / 7 * 1024 + p.val; omega)
    have e2 : (⟨(7 * (t.val / 7) + s.val) % 7, by omega⟩ : Fin 7) = s := Fin.ext (by dsimp only; omega)
    have e3 : blockOf m hO ⟨7 * (t.val / 7) + s.val, hb⟩ = ⟨(row m hO t p : ℕ) / 1024, by omega⟩ := Fin.ext (by
      show (7 * (t.val / 7) + s.val) / 7 = (t.val / 7 * 1024 + p.val) / 1024; omega)
    show Swiglu.part (fun d => xArg m c (ix2 (row m hO ⟨7 * (t.val / 7) + s.val, hb⟩ p) d))
      (fun d j => guArg m c (ix3 (expert (eArg m 0) (blockOf m hO ⟨7 * (t.val / 7) + s.val, hb⟩)) d j))
      (fun j n => dnArg m c (ix3 (expert (eArg m 0) (blockOf m hO ⟨7 * (t.val / 7) + s.val, hb⟩)) j n)) n
      (⟨(7 * (t.val / 7) + s.val) % 7, _⟩ : Fin 7) = _
    rw [e1, e2, e3]
  · intro u h0 i
    obtain ⟨a, b, rfl⟩ := idx2_eq (n0 := 1024) (n1 := 1024) i
    rw [acc_A m hO c u h0, step m hO c hE u _ a b, pay2_apply]
  · intro u h0 i
    obtain ⟨a, b, rfl⟩ := idx2_eq (n0 := 1024) (n1 := 1024) i
    rw [acc_step m hO c u h0, step m hO c hE u _ a b]

theorem nblk1 : ((cfgM m hO).win 4).nblk (1 : Fin 2) = 1 := by
  show (1024 + 1024 - 1) / 1024 = 1; omega

/-- The blocks written are the first forty-two. -/
theorem covers : ((cfgM m hO).win 4).CoversWhere (fun β => β (0 : Fin 2) < (42 : ℕ)) := by
  refine ⟨(by decide : ∀ a : Fin 2, 0 < S1024x1024.size a), fun t _ => ⟨?_, fun a => .inl rfl⟩, fun β hq => ?_⟩
  · show ((cfgM m hO).win 4).index t (0 : Fin 2) < 42
    have hN : (t : ℕ) < 294 := t.isLt.trans_eq N_0
    rw [(i4 m hO t).1]; omega
  · have b1 : (β (1 : Fin 2) : ℕ) < 1 := lt_of_lt_of_eq (β (1 : Fin 2)).isLt (nblk1 m hO)
    have h0 : (β (0 : Fin 2) : ℕ) < 42 := hq
    have hN : (β (0 : Fin 2) : ℕ) * 7 + 6 < (cfgM m hO).N := by
      rw [show (cfgM m hO).N = 294 from N_0]; omega
    refine ⟨⟨(β (0 : Fin 2) : ℕ) * 7 + 6, hN⟩, fun (a : Fin 2) => ?_, (flush0_4 (adm m hO) _).mpr (by dsimp only; omega)⟩
    obtain ⟨e0, e1⟩ := i4 m hO ⟨(β (0 : Fin 2) : ℕ) * 7 + 6, hN⟩
    match a with
    | ⟨0, _⟩ => refine e0.trans ?_; show ((β (0 : Fin 2) : ℕ) * 7 + 6) / 7 = (β (0 : Fin 2) : ℕ); omega
    | ⟨1, _⟩ => refine e1.trans ?_; show 0 = (β (1 : Fin 2) : ℕ); omega

include hE in
/-- The rows that the kernel writes, after the run. -/
theorem final4 (r : Fin 43008) (n : Fin 1024) : @Eq EReal ((dats m hO 0 c).arrAt 4 (cfgM m hO).N (ix2 (⟨r, by omega⟩ : Fin 172032) n))
    (rowOut (xArg m c) (eArg m 0) (guArg m c) (dnArg m c) r n) := by
  have hP : (r : ℕ) / 1024 < 42 := by omega
  have key := (dats m hO 0 c).arrAt_apply_of_coversWhere 4 (outArr (xArg m c) (eArg m 0) (guArg m c) (dnArg m c))
    (P := fun i : S172032x1024.Idx => ((i 0 : Fin 172032) : ℕ) / 1024 < 42) (fun β => β (0 : Fin 2) < (42 : ℕ)) (covers m hO) (fun t hf y => ?_) (fun j => Iff.rfl)
    (ix2 (⟨r, by omega⟩ : Fin 172032) n)
  · exact key.trans ((if_pos hP).trans (dif_pos hP))
  · have h1 : t.val % 7 = 6 := (flush0_4 (adm m hO) t).mp hf
    blk_simp
    rw [after0_4, out_C m hO c t h1]
    obtain ⟨p, n, rfl⟩ := idx2_eq (n0 := 1024) (n1 := 1024) y
    obtain ⟨e0, e1⟩ := i4 m hO t
    have hN : (t : ℕ) < 294 := t.isLt.trans_eq N_0
    have hr : (row m hO t p : ℕ) = (t : ℕ) / 7 * 1024 + p := rfl
    refine Eq.trans ?_ (congrArg (outArr (xArg m c) (eArg m 0) (guArg m c) (dnArg m c))
      (idx2_of _ (⟨row m hO t p, by omega⟩ : Fin 172032) n ?_ ?_)).symm
    · refine (pay1_apply _ p n).trans ((acc_last m hO c hE t h1 p n).trans ?_)
      show _ = outAt (xArg m c) (eArg m 0) (guArg m c) (dnArg m c) (⟨row m hO t p, by omega⟩ : Fin 172032) n
      unfold outAt
      rw [dif_pos (show (row m hO t p : ℕ) / 1024 < 42 by omega)]
    · show ((cfgM m hO).win 4).index t (0 : Fin 2) * 1024 + 1 * (p : ℕ) = (t : ℕ) / 7 * 1024 + p; omega
    · show ((cfgM m hO).win 4).index t (1 : Fin 2) * 1024 + 1 * (n : ℕ) = n; omega

/-- The result: the rows that the kernel writes, cut from its array. -/
def outRows (x : FVec Ideal S43008x1024 .f32) (e : IVec S42 32) (w : FVec Ideal S8x1024x7168 .f32) (v : FVec Ideal S8x3584x1024 .f32) :
    FVec Ideal S43008x1024 .bf16 := fun i => rowOut x e w v (i 0) (i 1)

include hE in
/-- The result after the cut that follows the kernel. -/
theorem final_rows : Pipeline.afterTail pcfgs (fun _ => adm m hO) (dats m hO) 0 (V0 m) [hostOps1] c main_v4
    = outRows (xArg m c) (eArg m 0) (guArg m c) (dnArg m c) := by
  have e := Pipeline.withArrays_arr_shared spec0 c (V0 m c) (fun w => (dats m hO 0 c).arrAt w (cfgM m hO).N)
    ((dats m hO 0 c).arrAt_sharedIn sharedIn0 (V0 m c) (A_eq m hO c) _) 4
  unfold Pipeline.afterTail
  rw [show List.flatten [hostOps1 (F := Ideal)] = hostOps1 from rfl, StableHlo.after_cons, StableHlo.after_nil, StableHlo.unary_result]
  funext i
  obtain ⟨r, n, rfl⟩ := idx2_eq (n0 := 43008) (n1 := 1024) i
  refine Eq.trans ?_ (final4 m hO c hE r n)
  refine (congrArg (fun A : FVec Ideal S172032x1024 .bf16 => extractStridedSlice S43008x1024 ![0, 0] A Facts₀.slices_S172032x1024_S43008x1024_0_0 (ix2 r n)) e).trans ?_
  refine congrArg ((dats m hO 0 c).arrAt 4 (cfgM m hO).N) (idx2_of _ _ _ ?_ ?_)
  · exact Nat.zero_add _
  · exact Nat.zero_add _

theorem rest4 : main_v4 ∈ Pipeline.restRefs sig spec0 := by decide

end Cert.Kernel5Ideal.Expert

end
-- ==== Proof.FirstRef.lean ====
/- The expert reference of the first blocks at an index. -/
module

public import proofs.«01_k».proof.Proof.FirstValue
public import proofs.«01_k».proof.Proof.ExpertRef
public import proofs.«01_k».proof.Proof.Gen.Reference5Ideal.Read

@[expose] public section

set_option maxRecDepth 16384

noncomputable section

namespace Cert.Reference5Ideal.Expert

open Idealize.ShloMosaic Idealize.ShloMosaic.TcCoe Idealize.SL.Sem Cert.Reference5Ideal Cert.Reference5Ideal.Read Cert.Kernel5Ideal.Expert
open Cert.Reference3Ideal.Expert (gather_mat select_range)

variable (x : FVec Ideal S43008x1024 .f32) (e : IVec S42 32) (w : FVec Ideal S8x1024x7168 .f32) (v : FVec Ideal S8x3584x1024 .f32) (hE : ∀ j, (e j).toNat < 8)

include hE in
theorem idx_gu (b : Fin 42) : (val_main_v6 (F := Ideal) e (ix2 b 0)).toInt.toNat = expert e b := by
  have hb := select_range (e (ix1 b)) (hE _)
  have he : val_main_v6 (F := Ideal) e (ix2 b 0) = e (ix1 b) := by
    rw [val_main_v6_apply, val_main_v5_apply, val_main_v2_apply, val_main_v4_apply, val_main_v1_apply, val_main_v3_apply]
    have : idx_main_v6 (ix2 b 0) = ix1 b := by funext a; obtain rfl : a = 0 := Subsingleton.elim _ _; rfl
    rw [this]; exact hb.1
  rw [he, hb.2]; exact (Nat.mod_eq_of_lt (hE _)).symm

include hE in
theorem idx_dn (b : Fin 42) : (val_main_v18 (F := Ideal) e (ix2 b 0)).toInt.toNat = expert e b := by
  have hb := select_range (e (ix1 b)) (hE _)
  have he : val_main_v18 (F := Ideal) e (ix2 b 0) = e (ix1 b) := by
    rw [val_main_v18_apply, val_main_v17_apply, val_main_v14_apply, val_main_v16_apply, val_main_v13_apply, val_main_v15_apply]
    have : idx_main_v18 (ix2 b 0) = ix1 b := by funext a; obtain rfl : a = 0 := Subsingleton.elim _ _; rfl
    rw [this]; exact hb.1
  rw [he, hb.2]; exact (Nat.mod_eq_of_lt (hE _)).symm

include hE in
theorem gu_ref (b : Fin 42) (d : Fin 1024) (j : Fin 7168) :
    @Eq EReal (val_main_v7 (F := Ideal) e w (ix3 b d j)) (w (ix3 (expert e b) d j)) :=
  gather_mat _ w (val_main_v6 (F := Ideal) e) b d j (expert e b) (idx_gu e hE b)

include hE in
theorem dn_ref (b : Fin 42) (j : Fin 3584) (n : Fin 1024) :
    @Eq EReal (val_main_v19 (F := Ideal) e v (ix3 b j n)) (v (ix3 (expert e b) j n)) :=
  gather_mat _ v (val_main_v18 (F := Ideal) e) b j n (expert e b) (idx_dn e hE b)

/-- Row `p` of block `b`. -/
def rowOf (b : Fin 42) (p : Fin 1024) : Fin 43008 := ⟨(b : ℕ) * 1024 + p, by omega⟩

include hE in
theorem dot_at (b : Fin 42) (p : Fin 1024) (j : Fin 7168) : @Eq EReal (val_main_v8 (F := Ideal) x e w (ix3 b p j))
    (∑ d, x (ix2 (rowOf b p) d) * w (ix3 (expert e b) d j)) := by
  simp only [← gu_ref e w hE b]
  unfold val_main_v8 val_main_v0
  generalize val_main_v7 (F := Ideal) e w = a
  pointwise
  rfl

include hE in
theorem unit_at (b : Fin 42) (p : Fin 1024) (j : Fin 3584) : @Eq EReal (val_main_v12 (F := Ideal) x e w (ix3 b p j))
    (Swiglu.unit (fun d => x (ix2 (rowOf b p) d)) (fun d j => w (ix3 (expert e b) d j)) j) := by
  unfold Swiglu.unit Swiglu.gate
  rw [← dot_at x e w hE, ← dot_at x e w hE]
  unfold val_main_v12 val_main_v11 val_main_call0_v5 val_main_call0_v4 val_main_call0_v3 val_main_call0_v2 val_main_call0_v1 val_main_call0_v0
    val_main_call0_cst val_main_call0_cst_0 val_main_v9 val_main_v10
  generalize val_main_v8 (F := Ideal) x e w = a
  pointwise

include hE in
theorem block_at (b : Fin 42) (p n : Fin 1024) : @Eq EReal (val_main_v20 (F := Ideal) x e w v (ix3 b p n)) (rowOut x e w v (rowOf b p) n) := by
  have hb : (⟨(rowOf b p : ℕ) / 1024, by omega⟩ : Fin 42) = b := Fin.ext (by simp only [rowOf]; omega)
  unfold rowOut Swiglu.out
  rw [hb]
  simp only [← unit_at x e w hE, ← dn_ref e v hE]
  unfold val_main_v20
  generalize val_main_v12 (F := Ideal) x e w = a
  generalize val_main_v19 (F := Ideal) e v = a'
  pointwise

include hE in
/-- The reference's result. -/
theorem out_ref (r : Fin 43008) (n : Fin 1024) : @Eq EReal (val_main_v22 (F := Ideal) x e w v (ix2 r n)) (rowOut x e w v r n) := by
  have hr : rowOf ⟨(r : ℕ) / 1024, by omega⟩ ⟨(r : ℕ) % 1024, by omega⟩ = r := Fin.ext (by simp only [rowOf]; omega)
  refine Eq.trans ?_ ((block_at x e w v hE ⟨(r : ℕ) / 1024, by omega⟩ ⟨(r : ℕ) % 1024, by omega⟩ n).trans (by rw [hr]))
  rw [val_main_v22_apply]
  unfold val_main_v21
  generalize val_main_v20 (F := Ideal) x e w v = a
  pointwise

end Cert.Reference5Ideal.Expert

end
-- ==== Proof.Host1.lean ====
/- What the host code hands the attention at dilation 1: the queries, keys and values side by side, and the biases, read at an index. -/
module

public import proofs.«01_k».proof.Proof.Host
public import proofs.«01_k».proof.Proof.Gen.Kernel6Ideal.Frame
public import Idealize.ShloMosaic.Lib.StableHlo.ReadAt

@[expose] public section

set_option maxRecDepth 16384

noncomputable section

namespace Cert.Kernel6Ideal.HostSide

open Idealize.ShloMosaic Idealize.ShloMosaic.TcCoe Idealize.SL.Sem Cert.Kernel6Ideal Cert.Kernel6Ideal.Gen Cert.Band
open Cert.KernelIdeal.HostSide (scale_eq band_word first_word last_word)

variable (m : (ℓ : Loc nD τ sig) → Buf (Elt Ideal) ℓ) (c : Dev nD)

/-- The queries, before the scale. -/
abbrev qArg : FVec Ideal S2x8192x16x64 .f32 := m ((c : Thread nD τ).loc main_arg0)
/-- The keys. -/
abbrev kArg : FVec Ideal S2x8192x16x64 .f32 := m ((c : Thread nD τ).loc main_arg1)
/-- The values. -/
abbrev vArg : FVec Ideal S2x8192x16x64 .f32 := m ((c : Thread nD τ).loc main_arg2)
/-- The array that the attention reads its queries, keys and values from. -/
abbrev qkvArr : FVec Ideal S2x1x8192x3072 .bf16 := V m c main_v18
/-- The three bias tables: a unit at the start, in the middle and at the end of a subsequence. -/
abbrev biasArr : FVec Ideal S3x128x256 .f32 := V m c main_v44

/-- The token at position `n` of the subsequence of residue `r`. -/
def tk (r : Fin 1) (n : Fin 8192) : Fin 8192 := ⟨1 * n + r, by omega⟩

/-- A value lane: the values' own order. -/
theorem v_at (b : Fin 2) (r : Fin 1) (n : Fin 8192) (l : Fin 3072) (h : 2048 ≤ (l : ℕ)) :
    qkvArr m c (ix4 b r n l)
      = vArg m c (ix4 b (tk r n) ⟨(l - 2048) / 64, by omega⟩ ⟨(l - 2048) % 64, by omega⟩) := by
  unfold_abbrev_sides
  after_reads_at
  rw [dif_neg (by omega), dif_neg (by omega)]
  after_reads_at
  exact congrArg (m ((c : Thread nD τ).loc main_arg2)) (ix4_congr rfl (by simp only [tk]; omega) (by dsimp only; omega) (by dsimp only; omega))

/-- A key lane: four heads to a quad of 256 lanes, the two halves of the features 128 lanes apart. -/
theorem k_at (b : Fin 2) (r : Fin 1) (n : Fin 8192) (l : Fin 3072) (h : 1024 ≤ (l : ℕ)) (h' : (l : ℕ) < 2048) :
    qkvArr m c (ix4 b r n l) = kArg m c (ix4 b (tk r n) ⟨(l - 1024) / 256 * 4 + (l - 1024) % 128 / 32, by omega⟩
      ⟨(l - 1024) % 256 / 128 * 32 + (l - 1024) % 32, by omega⟩) := by
  unfold_abbrev_sides
  after_reads_at
  rw [dif_neg (by omega), dif_pos (by omega)]
  after_reads_at
  exact congrArg (m ((c : Thread nD τ).loc main_arg1)) (ix4_congr rfl (by simp only [tk]; omega) (by dsimp only; omega) (by dsimp only; omega))

/-- A query lane: as a key's, and scaled. -/
theorem q_at (b : Fin 2) (r : Fin 1) (n : Fin 8192) (l : Fin 3072) (h' : (l : ℕ) < 1024) :
    qkvArr m c (ix4 b r n l) = qArg m c (ix4 b (tk r n) ⟨l / 256 * 4 + l % 128 / 32, by omega⟩
      ⟨l % 256 / 128 * 32 + l % 32, by omega⟩) * ((Band.c2 : ℝ) : EReal) := by
  unfold_abbrev_sides
  after_reads_at
  rw [dif_pos (by omega)]
  after_reads_at
  exact congrArg₂ (fun x y : EReal => x * y)
    (congrArg (m ((c : Thread nD τ).loc main_arg0)) (ix4_congr rfl (by simp only [tk]; omega) (by dsimp only; omega) (by dsimp only; omega))) scale_eq

/-- The biases: zero at the band's columns, −∞ at the others and, in the first and the last table, where there is no position. -/
theorem bias_at (w : Fin 3) (q : Fin 128) (x : Fin 256) :
    biasArr m c (ix3 w q x)
      = if (q : ℕ) ≤ x ∧ (x : ℕ) ≤ q + 128 ∧ (w = 0 → 64 ≤ (x : ℕ)) ∧ (w = 2 → (x : ℕ) < 192) then 0 else ⊥ := by
  unfold_abbrev_sides
  after_reads_at
  simp only [id]
  pointwise
  rw [Cert.KernelIdeal.Body.ninf_f32]
  fin_cases w
  · simp only [Fin.zero_eta]
    rw [dif_pos (by decide)]
    after_reads_at
    simp only [band_word, first_word]
    by_cases h1 : (q : ℕ) ≤ x ∧ (x : ℕ) ≤ q + 128 <;> by_cases h2 : 64 ≤ (x : ℕ) <;> simp [h1, h2, Scalar.select, IntOp.andi]
  · simp only [Fin.mk_one]
    rw [dif_neg (by decide), dif_pos (by decide)]
    after_reads_at
    simp only [band_word]
    by_cases h1 : (q : ℕ) ≤ x ∧ (x : ℕ) ≤ q + 128 <;> simp [h1, Scalar.select, IntOp.andi]
  · simp only [Fin.reduceFinMk]
    rw [dif_neg (by decide), dif_neg (by decide)]
    after_reads_at
    simp only [band_word, last_word]
    by_cases h1 : (q : ℕ) ≤ x ∧ (x : ℕ) ≤ q + 128 <;> by_cases h2 : (x : ℕ) < 192 <;> simp [h1, h2, Scalar.select, IntOp.andi]

end Cert.Kernel6Ideal.HostSide

end
-- ==== Proof.KernelValue1.lean ====
/- The result arrays of the attention at dilation 1 as functions of the queries, keys and values. -/
module

public import proofs.«01_k».proof.Proof.BlockValue
public import proofs.«01_k».proof.Proof.Host1
public import proofs.«01_k».proof.Proof.Gen.Kernel6Ideal.Value
public import Idealize.ShloMosaic.Lib.Pipeline.ValueKit.Geometry

@[expose] public section

set_option maxRecDepth 16384

noncomputable section

namespace Cert.Kernel6Ideal.Units

open Idealize.ShloMosaic Idealize.ShloMosaic.TcCoe Idealize.SL.Sem Cert.Kernel6Ideal Cert.Kernel6Ideal.Gen Cert.Kernel6Ideal.Value
open Cert.KernelIdeal.Units Cert.Kernel6Ideal.HostSide Cert.Band

/-- The body is the same at every dilation. -/
theorem out0_9_same (x0 x1 x2 x3 x4 x5 x6 x7 x8) : Cert.Kernel6Ideal.Gen.out0_9 (F := Ideal) x0 x1 x2 x3 x4 x5 x6 x7 x8
    = Cert.KernelIdeal.Gen.out0_9 (F := Ideal) x0 x1 x2 x3 x4 x5 x6 x7 x8 := rfl

/-- The body is the same at every dilation. -/
theorem out0_10_same (x0 x1 x2 x3 x4 x5 x6 x7 x8) : Cert.Kernel6Ideal.Gen.out0_10 (F := Ideal) x0 x1 x2 x3 x4 x5 x6 x7 x8
    = Cert.KernelIdeal.Gen.out0_10 (F := Ideal) x0 x1 x2 x3 x4 x5 x6 x7 x8 := rfl

theorem i0 : ∀ t : Fin cfg0.N, win0_0.index t (0 : Fin 4) = (t : ℕ) / 32 ∧ win0_0.index t (1 : Fin 4) = (t : ℕ) / 32 % 1
    ∧ win0_0.index t (2 : Fin 4) = (t : ℕ) % 32 ∧ win0_0.index t (3 : Fin 4) = 0 := (by decide +kernel : ∀ t : Fin grid0.N, _)
theorem i1 : ∀ t : Fin cfg0.N, win0_1.index t (0 : Fin 4) = (t : ℕ) / 32 ∧ win0_1.index t (1 : Fin 4) = (t : ℕ) / 32 % 1
    ∧ win0_1.index t (2 : Fin 4) = (t : ℕ) % 32 * 4 - 1 ∧ win0_1.index t (3 : Fin 4) = 1 := (by decide +kernel : ∀ t : Fin grid0.N, _)
theorem i2 : ∀ t : Fin cfg0.N, win0_2.index t (0 : Fin 4) = (t : ℕ) / 32 ∧ win0_2.index t (1 : Fin 4) = (t : ℕ) / 32 % 1
    ∧ win0_2.index t (2 : Fin 4) = (t : ℕ) % 32 ∧ win0_2.index t (3 : Fin 4) = 1 := (by decide +kernel : ∀ t : Fin grid0.N, _)
theorem i3 : ∀ t : Fin cfg0.N, win0_3.index t (0 : Fin 4) = (t : ℕ) / 32 ∧ win0_3.index t (1 : Fin 4) = (t : ℕ) / 32 % 1
    ∧ win0_3.index t (2 : Fin 4) = min ((t : ℕ) % 32 * 4 + 4) 127 ∧ win0_3.index t (3 : Fin 4) = 1 := (by decide +kernel : ∀ t : Fin grid0.N, _)
theorem i4 : ∀ t : Fin cfg0.N, win0_4.index t (0 : Fin 4) = (t : ℕ) / 32 ∧ win0_4.index t (1 : Fin 4) = (t : ℕ) / 32 % 1
    ∧ win0_4.index t (2 : Fin 4) = (t : ℕ) % 32 * 4 - 1 ∧ win0_4.index t (3 : Fin 4) = 2 := (by decide +kernel : ∀ t : Fin grid0.N, _)
theorem i5 : ∀ t : Fin cfg0.N, win0_5.index t (0 : Fin 4) = (t : ℕ) / 32 ∧ win0_5.index t (1 : Fin 4) = (t : ℕ) / 32 % 1
    ∧ win0_5.index t (2 : Fin 4) = (t : ℕ) % 32 ∧ win0_5.index t (3 : Fin 4) = 2 := (by decide +kernel : ∀ t : Fin grid0.N, _)
theorem i6 : ∀ t : Fin cfg0.N, win0_6.index t (0 : Fin 4) = (t : ℕ) / 32 ∧ win0_6.index t (1 : Fin 4) = (t : ℕ) / 32 % 1
    ∧ win0_6.index t (2 : Fin 4) = min ((t : ℕ) % 32 * 4 + 4) 127 ∧ win0_6.index t (3 : Fin 4) = 2 := (by decide +kernel : ∀ t : Fin grid0.N, _)
theorem i7 : ∀ t : Fin cfg0.N, win0_7.index t (0 : Fin 3) = (if (t : ℕ) % 32 = 0 then 0 else 1) ∧ win0_7.index t (1 : Fin 3) = 0
    ∧ win0_7.index t (2 : Fin 3) = 0 := (by decide +kernel : ∀ t : Fin grid0.N, _)
theorem i8 : ∀ t : Fin cfg0.N, win0_8.index t (0 : Fin 3) = (if (t : ℕ) % 32 = 31 then 2 else 1) ∧ win0_8.index t (1 : Fin 3) = 0
    ∧ win0_8.index t (2 : Fin 3) = 0 := (by decide +kernel : ∀ t : Fin grid0.N, _)
theorem i9 : ∀ t : Fin cfg0.N, win0_9.index t (0 : Fin 4) = (t : ℕ) / 32 ∧ win0_9.index t (1 : Fin 4) = (t : ℕ) / 32 % 1
    ∧ win0_9.index t (2 : Fin 4) = (t : ℕ) % 32 ∧ win0_9.index t (3 : Fin 4) = 0 := (by decide +kernel : ∀ t : Fin grid0.N, _)
theorem i10 : ∀ t : Fin cfg0.N, win0_10.index t (0 : Fin 4) = (t : ℕ) / 32 ∧ win0_10.index t (1 : Fin 4) = (t : ℕ) / 32 % 1
    ∧ win0_10.index t (2 : Fin 4) = (t : ℕ) % 32 ∧ win0_10.index t (3 : Fin 4) = 0 := (by decide +kernel : ∀ t : Fin grid0.N, _)

/-- The batch of a grid point. -/
def bOf (t : Fin cfg0.N) : Fin 2 := ⟨(t : ℕ) / 32, by have := t.isLt.trans_eq N_0; omega⟩
/-- The residue of a grid point. -/
def rOf (t : Fin cfg0.N) : Fin 1 := ⟨(t : ℕ) / 32 % 1, by omega⟩
/-- The block of a grid point. -/
def iOf (t : Fin cfg0.N) : Fin 32 := ⟨(t : ℕ) % 32, by omega⟩

variable (m : (ℓ : Loc nD τ sig) → Buf (Elt Ideal) ℓ) (c : Dev nD) (t : Fin cfg0.N)

/-- The block lies in its subsequence. -/
theorem iM : 256 * (iOf t : ℕ) + 256 ≤ 8192 := by have := (iOf t).isLt; omega

theorem blk0 (p : Fin 256) (l : Fin 1024) : iblk m c 0 t (ix4 0 0 p l) = qkvArr m c (ix4 (bOf t) (rOf t) (at256 (iOf t) (iM t) p) ⟨0 + l, by omega⟩) := by
  obtain ⟨e0, e1, e2, e3⟩ := i0 t
  show qkvArr m c (((cfg0.win 0).blk t).view.emb (ix4 0 0 p l)) = _
  refine congrArg _ (idx4_of _ _ _ _ _ ?_ ?_ ?_ ?_)
  · show win0_0.index t (0 : Fin 4) * 1 + 1 * 0 = _; simp only [bOf]; omega
  · show win0_0.index t (1 : Fin 4) * 1 + 1 * 0 = _; simp only [rOf]; omega
  · show win0_0.index t (2 : Fin 4) * 256 + 1 * (p : ℕ) = _; simp only [at256, iOf]; omega
  · show win0_0.index t (3 : Fin 4) * 1024 + 1 * (l : ℕ) = _; dsimp only; omega

theorem blk1 (p : Fin 64) (l : Fin 1024) (n : Fin 8192) (hn : (n : ℕ) + 64 = 256 * (iOf t : ℕ) + p) :
    iblk m c 1 t (ix4 0 0 p l) = qkvArr m c (ix4 (bOf t) (rOf t) n ⟨1024 + l, by omega⟩) := by
  obtain ⟨e0, e1, e2, e3⟩ := i1 t
  have hi : (iOf t : ℕ) = (t : ℕ) % 32 := rfl
  show qkvArr m c (((cfg0.win 1).blk t).view.emb (ix4 0 0 p l)) = _
  refine congrArg _ (idx4_of _ _ _ _ _ ?_ ?_ ?_ ?_)
  · show win0_1.index t (0 : Fin 4) * 1 + 1 * 0 = _; simp only [bOf]; omega
  · show win0_1.index t (1 : Fin 4) * 1 + 1 * 0 = _; simp only [rOf]; omega
  · show win0_1.index t (2 : Fin 4) * 64 + 1 * (p : ℕ) = _; omega
  · show win0_1.index t (3 : Fin 4) * 1024 + 1 * (l : ℕ) = _; dsimp only; omega

theorem blk2 (p : Fin 256) (l : Fin 1024) : iblk m c 2 t (ix4 0 0 p l) = qkvArr m c (ix4 (bOf t) (rOf t) (at256 (iOf t) (iM t) p) ⟨1024 + l, by omega⟩) := by
  obtain ⟨e0, e1, e2, e3⟩ := i2 t
  show qkvArr m c (((cfg0.win 2).blk t).view.emb (ix4 0 0 p l)) = _
  refine congrArg _ (idx4_of _ _ _ _ _ ?_ ?_ ?_ ?_)
  · show win0_2.index t (0 : Fin 4) * 1 + 1 * 0 = _; simp only [bOf]; omega
  · show win0_2.index t (1 : Fin 4) * 1 + 1 * 0 = _; simp only [rOf]; omega
  · show win0_2.index t (2 : Fin 4) * 256 + 1 * (p : ℕ) = _; simp only [at256, iOf]; omega
  · show win0_2.index t (3 : Fin 4) * 1024 + 1 * (l : ℕ) = _; dsimp only; omega

theorem blk3 (p : Fin 64) (l : Fin 1024) (n : Fin 8192) (hn : (n : ℕ) = 256 * (iOf t : ℕ) + 256 + p) :
    iblk m c 3 t (ix4 0 0 p l) = qkvArr m c (ix4 (bOf t) (rOf t) n ⟨1024 + l, by omega⟩) := by
  obtain ⟨e0, e1, e2, e3⟩ := i3 t
  have hi : (iOf t : ℕ) = (t : ℕ) % 32 := rfl
  show qkvArr m c (((cfg0.win 3).blk t).view.emb (ix4 0 0 p l)) = _
  refine congrArg _ (idx4_of _ _ _ _ _ ?_ ?_ ?_ ?_)
  · show win0_3.index t (0 : Fin 4) * 1 + 1 * 0 = _; simp only [bOf]; omega
  · show win0_3.index t (1 : Fin 4) * 1 + 1 * 0 = _; simp only [rOf]; omega
  · show win0_3.index t (2 : Fin 4) * 64 + 1 * (p : ℕ) = _; omega
  · show win0_3.index t (3 : Fin 4) * 1024 + 1 * (l : ℕ) = _; dsimp only; omega

theorem blk4 (p : Fin 64) (l : Fin 1024) (n : Fin 8192) (hn : (n : ℕ) + 64 = 256 * (iOf t : ℕ) + p) :
    iblk m c 4 t (ix4 0 0 p l) = qkvArr m c (ix4 (bOf t) (rOf t) n ⟨2048 + l, by omega⟩) := by
  obtain ⟨e0, e1, e2, e3⟩ := i4 t
  have hi : (iOf t : ℕ) = (t : ℕ) % 32 := rfl
  show qkvArr m c (((cfg0.win 4).blk t).view.emb (ix4 0 0 p l)) = _
  refine congrArg _ (idx4_of _ _ _ _ _ ?_ ?_ ?_ ?_)
  · show win0_4.index t (0 : Fin 4) * 1 + 1 * 0 = _; simp only [bOf]; omega
  · show win0_4.index t (1 : Fin 4) * 1 + 1 * 0 = _; simp only [rOf]; omega
  · show win0_4.index t (2 : Fin 4) * 64 + 1 * (p : ℕ) = _; omega
  · show win0_4.index t (3 : Fin 4) * 1024 + 1 * (l : ℕ) = _; dsimp only; omega

theorem blk5 (p : Fin 256) (l : Fin 1024) : iblk m c 5 t (ix4 0 0 p l) = qkvArr m c (ix4 (bOf t) (rOf t) (at256 (iOf t) (iM t) p) ⟨2048 + l, by omega⟩) := by
  obtain ⟨e0, e1, e2, e3⟩ := i5 t
  show qkvArr m c (((cfg0.win 5).blk t).view.emb (ix4 0 0 p l)) = _
  refine congrArg _ (idx4_of _ _ _ _ _ ?_ ?_ ?_ ?_)
  · show win0_5.index t (0 : Fin 4) * 1 + 1 * 0 = _; simp only [bOf]; omega
  · show win0_5.index t (1 : Fin 4) * 1 + 1 * 0 = _; simp only [rOf]; omega
  · show win0_5.index t (2 : Fin 4) * 256 + 1 * (p : ℕ) = _; simp only [at256, iOf]; omega
  · show win0_5.index t (3 : Fin 4) * 1024 + 1 * (l : ℕ) = _; dsimp only; omega

theorem blk6 (p : Fin 64) (l : Fin 1024) (n : Fin 8192) (hn : (n : ℕ) = 256 * (iOf t : ℕ) + 256 + p) :
    iblk m c 6 t (ix4 0 0 p l) = qkvArr m c (ix4 (bOf t) (rOf t) n ⟨2048 + l, by omega⟩) := by
  obtain ⟨e0, e1, e2, e3⟩ := i6 t
  have hi : (iOf t : ℕ) = (t : ℕ) % 32 := rfl
  show qkvArr m c (((cfg0.win 6).blk t).view.emb (ix4 0 0 p l)) = _
  refine congrArg _ (idx4_of _ _ _ _ _ ?_ ?_ ?_ ?_)
  · show win0_6.index t (0 : Fin 4) * 1 + 1 * 0 = _; simp only [bOf]; omega
  · show win0_6.index t (1 : Fin 4) * 1 + 1 * 0 = _; simp only [rOf]; omega
  · show win0_6.index t (2 : Fin 4) * 64 + 1 * (p : ℕ) = _; omega
  · show win0_6.index t (3 : Fin 4) * 1024 + 1 * (l : ℕ) = _; dsimp only; omega

theorem blk7 (p : Fin 128) (x : Fin 256) : @Eq EReal (iblk m c 7 t (ix3 0 p x)) (if Valid 8192 (256 * (iOf t : ℕ)) p x then 0 else ⊥) := by
  obtain ⟨e0, e1, e2⟩ := i7 t
  have hi : (iOf t : ℕ) = (t : ℕ) % 32 := rfl
  have : iblk m c 7 t (ix3 0 p x) = biasArr m c (ix3 (if (t : ℕ) % 32 = 0 then 0 else 1) p x) := by
    show biasArr m c (((cfg0.win 7).blk t).view.emb (ix3 0 p x)) = _
    refine congrArg _ (idx3_of _ _ _ _ ?_ ?_ ?_)
    · show win0_7.index t (0 : Fin 3) * 1 + 1 * 0 = _; rw [e0]; split <;> rfl
    · show win0_7.index t (1 : Fin 3) * 128 + 1 * (p : ℕ) = _; omega
    · show win0_7.index t (2 : Fin 3) * 256 + 1 * (x : ℕ) = _; omega
  refine this.trans ((bias_at m c _ p x).trans (if_congr ?_ rfl rfl))
  unfold Valid
  split
  · simp; omega
  · simp; omega

theorem blk8 (p : Fin 128) (x : Fin 256) : @Eq EReal (iblk m c 8 t (ix3 0 p x)) (if Valid 8192 (256 * (iOf t : ℕ) + 128) p x then 0 else ⊥) := by
  obtain ⟨e0, e1, e2⟩ := i8 t
  have hi : (iOf t : ℕ) = (t : ℕ) % 32 := rfl
  have : iblk m c 8 t (ix3 0 p x) = biasArr m c (ix3 (if (t : ℕ) % 32 = 31 then 2 else 1) p x) := by
    show biasArr m c (((cfg0.win 8).blk t).view.emb (ix3 0 p x)) = _
    refine congrArg _ (idx3_of _ _ _ _ ?_ ?_ ?_)
    · show win0_8.index t (0 : Fin 3) * 1 + 1 * 0 = _; rw [e0]; split <;> rfl
    · show win0_8.index t (1 : Fin 3) * 128 + 1 * (p : ℕ) = _; omega
    · show win0_8.index t (2 : Fin 3) * 256 + 1 * (x : ℕ) = _; omega
  refine this.trans ((bias_at m c _ p x).trans (if_congr ?_ rfl rfl))
  unfold Valid
  split
  · simp; omega
  · simp; omega

/-- What the blocks of a grid point hold. -/
theorem blocks : Blocks (qArg m c) (kArg m c) (vArg m c) (bOf t) (tk (rOf t)) (iOf t) (iM t) (iblk m c 0 t) (iblk m c 1 t) (iblk m c 2 t)
    (iblk m c 3 t) (iblk m c 4 t) (iblk m c 5 t) (iblk m c 6 t) (iblk m c 7 t) (iblk m c 8 t) where
  h0 p l := by
    rw [blk0, q_at m c _ _ _ _ (by dsimp only; omega)]
    refine congrArg (fun z : EReal => z * ((c2 : ℝ) : EReal)) (congrArg (qArg m c) (ix4_congr rfl rfl ?_ ?_)) <;> simp only [hd, ft] <;> omega
  h1 p l n hn := by
    rw [blk1 m c t p l n hn, k_at m c _ _ _ _ (by dsimp only; omega) (by dsimp only; omega)]
    refine congrArg (kArg m c) (ix4_congr rfl rfl ?_ ?_) <;> simp only [hd, ft] <;> omega
  h2 p l := by
    rw [blk2, k_at m c _ _ _ _ (by dsimp only; omega) (by dsimp only; omega)]
    refine congrArg (kArg m c) (ix4_congr rfl rfl ?_ ?_) <;> simp only [hd, ft] <;> omega
  h3 p l n hn := by
    rw [blk3 m c t p l n hn, k_at m c _ _ _ _ (by dsimp only; omega) (by dsimp only; omega)]
    refine congrArg (kArg m c) (ix4_congr rfl rfl ?_ ?_) <;> simp only [hd, ft] <;> omega
  h4 p l n hn := by
    rw [blk4 m c t p l n hn, v_at m c _ _ _ _ (by dsimp only; omega)]
    refine congrArg (vArg m c) (ix4_congr rfl rfl ?_ ?_) <;> dsimp only <;> omega
  h5 p l := by
    rw [blk5, v_at m c _ _ _ _ (by dsimp only; omega)]
    refine congrArg (vArg m c) (ix4_congr rfl rfl ?_ ?_) <;> dsimp only <;> omega
  h6 p l n hn := by
    rw [blk6 m c t p l n hn, v_at m c _ _ _ _ (by dsimp only; omega)]
    refine congrArg (vArg m c) (ix4_congr rfl rfl ?_ ?_) <;> dsimp only <;> omega
  h7 := blk7 m c t
  h8 := blk8 m c t

/-- The output array. -/
def outArr (q k v : FVec Ideal S2x8192x16x64 .f32) : FVec Ideal S2x1x8192x1024 .bf16 := fun j => outAt q k v (j 0) (tk (j 1)) (j 2) (j 3)

/-- The log-sum-exp array. -/
def lseArr (q k : FVec Ideal S2x8192x16x64 .f32) : FVec Ideal S2x1x8192x128 .f32 := fun j => lseAt q k (j 0) (tk (j 1)) (j 2) (j 3)

variable (fq : ∀ i, (qArg m c i : EReal) ≠ ⊤ ∧ (qArg m c i : EReal) ≠ ⊥) (fk : ∀ i, (kArg m c i : EReal) ≠ ⊤ ∧ (kArg m c i : EReal) ≠ ⊥)

include fq fk

/-- The output array after the run. -/
theorem final9 : (dats m 0 c).arrAt 9 cfg0.N = outArr (qArg m c) (kArg m c) (vArg m c) := by
  refine (dats m 0 c).arrAt_eq_of_covers 9 _ (by decide +kernel) fun t hf y => ?_
  blk_simp
  rw [after0_9, out0_9_same, out_block (blocks m c t) fq fk]
  obtain ⟨p, l, rfl⟩ := idx4_eq (n2 := 256) (n3 := 1024) y
  obtain ⟨e0, e1, e2, e3⟩ := i9 t
  refine Eq.trans ?_ (congrArg (outArr (qArg m c) (kArg m c) (vArg m c)) (idx4_of _ (bOf t) (rOf t) (at256 (iOf t) (iM t) p) l ?_ ?_ ?_ ?_)).symm
  · rfl
  · show win0_9.index t (0 : Fin 4) * 1 + 1 * 0 = _; simp only [bOf]; omega
  · show win0_9.index t (1 : Fin 4) * 1 + 1 * 0 = _; simp only [rOf]; omega
  · show win0_9.index t (2 : Fin 4) * 256 + 1 * (p : ℕ) = _; simp only [at256, iOf]; omega
  · show win0_9.index t (3 : Fin 4) * 1024 + 1 * (l : ℕ) = _; omega

/-- The log-sum-exp array after the run. -/
theorem final10 : (dats m 0 c).arrAt 10 cfg0.N = lseArr (qArg m c) (kArg m c) := by
  refine (dats m 0 c).arrAt_eq_of_covers 10 _ (by decide +kernel) fun t hf y => ?_
  blk_simp
  rw [after0_10, out0_10_same, lse_block (blocks m c t) fq fk]
  obtain ⟨p, l, rfl⟩ := idx4_eq (n2 := 256) (n3 := 128) y
  obtain ⟨e0, e1, e2, e3⟩ := i10 t
  refine Eq.trans ?_ (congrArg (lseArr (qArg m c) (kArg m c)) (idx4_of _ (bOf t) (rOf t) (at256 (iOf t) (iM t) p) l ?_ ?_ ?_ ?_)).symm
  · rfl
  · show win0_10.index t (0 : Fin 4) * 1 + 1 * 0 = _; simp only [bOf]; omega
  · show win0_10.index t (1 : Fin 4) * 1 + 1 * 0 = _; simp only [rOf]; omega
  · show win0_10.index t (2 : Fin 4) * 256 + 1 * (p : ℕ) = _; simp only [at256, iOf]; omega
  · show win0_10.index t (3 : Fin 4) * 128 + 1 * (l : ℕ) = _; omega

end Cert.Kernel6Ideal.Units

end
-- ==== Proof.RefLayout1.lean ====
/- The layout of the reference at dilation 1: its queries, keys and values, and its mask. -/
module

public import proofs.«01_k».proof.Proof.BlockValue
public import proofs.«01_k».proof.Proof.Host1
public import proofs.«01_k».proof.Proof.RefValue
public import proofs.«01_k».proof.Proof.Gen.Reference6Ideal.Read
public import Idealize.ShloMosaic.Lib.Pointwise

@[expose] public section

set_option maxRecDepth 16384

noncomputable section

namespace Cert.Reference6Ideal.Rows

open Idealize.ShloMosaic Idealize.SL.Sem Cert.Reference6Ideal Cert.Reference6Ideal.Read Cert.Band
open Cert.KernelIdeal.Units (dots outAt lseAt)
open Cert.Kernel6Ideal.HostSide (tk)
open Cert.ReferenceIdeal.Rows (band_word)

variable (q k v : FVec Ideal S2x8192x16x64 .f32)

theorem pad_q (b : Fin 2) (p : Fin 8192) (h : Fin 16) (f : Fin 64) : val_main_v0 (F := Ideal) q (ix4 b p h f) = q (ix4 b p h f) := by
  unfold val_main_v0
  pointwise

/-- A query, as the reference lays it out: block of 64 positions, position in it, residue, head. -/
theorem q_at (b : Fin 2) (nb : Fin 128) (y : Fin 64) (r : Fin 1) (h : Fin 16) (f : Fin 64) :
    val_main_v6 (F := Ideal) q (ix6 b nb y r h f) = q (ix4 b (tk r ⟨64 * nb + y, by omega⟩) h f) := by
  unfold val_main_v6 val_main_v1
  pointwise
  rw [pad_q]
  exact congrArg q (ix4_congr rfl (by simp only [tk]; omega) rfl rfl)

theorem pad_k (b : Fin 2) (p : Fin 8192) (h : Fin 16) (f : Fin 64) : val_main_v2 (F := Ideal) k (ix4 b p h f) = k (ix4 b p h f) := by
  unfold val_main_v2
  pointwise

theorem shifted_k (b : Fin 2) (x : Fin 8320) (r : Fin 1) (h : Fin 16) (f : Fin 64) (h1 : 64 ≤ (x : ℕ)) (h2 : (x : ℕ) < 8256) :
    val_main_v7 (F := Ideal) k (ix5 b x r h f) = k (ix4 b (tk r ⟨x - 64, by omega⟩) h f) := by
  unfold val_main_v7 val_main_v3
  pointwise
  rw [dif_pos (by omega), pad_k]
  exact congrArg k (ix4_congr rfl (by simp only [tk]; omega) rfl rfl)

/-- A key of a block's window of 192 positions, where there is one. -/
theorem k_at (b : Fin 2) (nb : Fin 128) (x : Fin 192) (r : Fin 1) (h : Fin 16) (f : Fin 64) (h1 : 64 ≤ 64 * (nb : ℕ) + x)
    (h2 : 64 * (nb : ℕ) + x < 8256) : val_main_v14 (F := Ideal) k (ix6 b nb x r h f) = k (ix4 b (tk r (pos (64 * nb) x)) h f) := by
  unfold val_main_v14 val_main_v9 val_main_v11 val_main_v13 val_main_v8 val_main_v10 val_main_v12
  pointwise
  split_ifs
  all_goals
    rw [shifted_k _ _ _ _ _ _ (by dsimp only; omega) (by dsimp only; omega)]
    exact congrArg k (ix4_congr rfl (by simp only [tk, pos]; omega) rfl rfl)

/-- A value of the window: the same layout. -/
theorem v_at (b : Fin 2) (nb : Fin 128) (x : Fin 192) (r : Fin 1) (h : Fin 16) (f : Fin 64) (h1 : 64 ≤ 64 * (nb : ℕ) + x)
    (h2 : 64 * (nb : ℕ) + x < 8256) : val_main_v22 (F := Ideal) v (ix6 b nb x r h f) = v (ix4 b (tk r (pos (64 * nb) x)) h f) :=
  (congrFun (rfl : val_main_v22 (F := Ideal) v = val_main_v14 (F := Ideal) v) _).trans (k_at v b nb x r h f h1 h2)

theorem inside_word : ∀ (nb : Fin 128) (x : Fin 192) (r : Fin 1), IntOp.andi
    (IntOp.cmpi .sge (IntOp.addi (IntOp.subi (IntOp.muli (BitVec.ofNat 32 (nb : ℕ)) 64#32) 64#32) (BitVec.ofNat 32 (x : ℕ))) 0#32)
    (IntOp.cmpi .slt (IntOp.addi (IntOp.muli (IntOp.addi (IntOp.subi (IntOp.muli (BitVec.ofNat 32 (nb : ℕ)) 64#32) 64#32)
      (BitVec.ofNat 32 (x : ℕ))) 1#32) (BitVec.ofNat 32 (r : ℕ))) 8192#32)
      = if 64 ≤ 64 * (nb : ℕ) + x ∧ 64 * (nb : ℕ) + x < 8256 then 1#1 else 0#1 := by decide +kernel

/-- The mask: the band's keys that are positions. -/
theorem mask_at (nb : Fin 128) (r : Fin 1) (y : Fin 64) (x : Fin 192) :
    val_main_v64 (F := Ideal) (ix4 nb r y x) = if Valid 8192 (64 * (nb : ℕ)) y x then 1#1 else 0#1 := by
  obtain rfl : r = 0 := Subsingleton.elim _ _
  simp only [val_main_v64_apply, val_main_v63_apply, val_main_v62_apply, val_main_v61_apply,
    val_main_v60_apply, val_main_v59_apply, val_main_v58_apply, val_main_v57_apply, val_main_v56_apply, val_main_v55_apply,
    val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_c_4_apply, val_main_c_5_apply, val_main_c_6_apply, val_main_c_7_apply,
    val_main_c_8_apply, val_main_c_9_apply, val_main_c_10_apply]
  refine (congrArg₂ IntOp.andi (band_word y x) (inside_word nb x 0)).trans ?_
  by_cases h1 : (y : ℕ) ≤ x ∧ (x : ℕ) ≤ y + 128 <;> by_cases h2 : 64 ≤ 64 * (nb : ℕ) + x ∧ 64 * (nb : ℕ) + x < 8256
  · rw [if_pos h1, if_pos h2, if_pos (show Valid _ _ _ _ from ⟨h1.1, h1.2, h2.1, h2.2⟩)]; rfl
  · rw [if_pos h1, if_neg h2, if_neg (fun h : Valid _ _ _ _ => h2 ⟨h.2.2.1, h.2.2.2⟩)]; rfl
  · rw [if_neg h1, if_pos h2, if_neg (fun h : Valid _ _ _ _ => h1 ⟨h.1, h.2.1⟩)]; rfl
  · rw [if_neg h1, if_neg h2, if_neg (fun h : Valid _ _ _ _ => h1 ⟨h.1, h.2.1⟩)]; rfl

end Cert.Reference6Ideal.Rows

end
-- ==== Proof.RefValue1.lean ====
/- The results of the reference at dilation 1 as functions of the queries, keys and values. -/
module

public import proofs.«01_k».proof.Proof.RefLayout1

@[expose] public section

set_option maxRecDepth 16384

noncomputable section

namespace Cert.Reference6Ideal.Rows

open Idealize.ShloMosaic Idealize.SL.Sem Cert.Reference6Ideal Cert.Reference6Ideal.Read Cert.Band
open Cert.KernelIdeal.Units (dots outAt lseAt)
open Cert.Kernel6Ideal.HostSide (tk)
open Cert.ReferenceIdeal.Rows (select_one select_zero)

variable (q k v : FVec Ideal S2x8192x16x64 .f32)

section Finite

variable (fq : ∀ i, (q i : EReal) ≠ ⊤ ∧ (q i : EReal) ≠ ⊥) (fk : ∀ i, (k i : EReal) ≠ ⊤ ∧ (k i : EReal) ≠ ⊥)
variable (b : Fin 2) (nb : Fin 128) (r : Fin 1) (h : Fin 16) (y : Fin 64)

/-- A query's position. -/
def nOf : Fin 8192 := ⟨64 * nb + y, by omega⟩

/-- A query's masked scores. -/
def sRow (x : Fin 192) : EReal := val_main_v69 (F := Ideal) q k (ix6 b nb r h y x)

include fq fk in
theorem s_at (x : Fin 192) : sRow q k b nb r h y x
    = if Valid 8192 (64 * (nb : ℕ)) y x then ((1 / 8 * dots q k b (tk r) h (nOf nb y) (pos (64 * nb) x) : ℝ) : EReal) else ⊥ := by
  unfold sRow
  rw [val_main_v69_apply]
  have hm : val_main_call5_v1 (F := Ideal) (ix6 b nb r h y x) = if Valid 8192 (64 * (nb : ℕ)) y x then 1#1 else 0#1 := by
    obtain rfl : r = 0 := Subsingleton.elim _ _
    rw [← mask_at nb 0 y x]
    unfold val_main_call5_v1 val_main_v68
    pointwise
  have hn : val_main_call5_v2 (F := Ideal) (ix6 b nb r h y x) = (⊥ : EReal) := by
    unfold val_main_call5_v2 val_main_call5_v0 val_main_cst_11
    pointwise
    exact Cert.KernelIdeal.Body.ninf_f32
  rw [hm]
  by_cases hv : Valid 8192 (64 * (nb : ℕ)) y x
  · rw [if_pos hv, if_pos hv]
    obtain ⟨h1, h2, h3, h4⟩ := hv
    have he : ∀ f : Fin 64, (val_main_v6 (F := Ideal) q (ix6 b nb y r h f) : EReal) * val_main_v14 (F := Ideal) k (ix6 b nb x r h f)
        = (((q (ix4 b (tk r (nOf nb y)) h f) : EReal).toReal * (k (ix4 b (tk r (pos (64 * nb) x)) h f) : EReal).toReal : ℝ) : EReal) := by
      intro f
      rw [q_at, k_at k b nb x r h f h3 h4, EReal.coe_mul, EReal.coe_toReal (fq _).1 (fq _).2, EReal.coe_toReal (fk _).1 (fk _).2]
      rfl
    have hs : (val_main_v65 (F := Ideal) q k (ix6 b nb r h y x) : EReal) = ((dots q k b (tk r) h (nOf nb y) (pos (64 * nb) x) : ℝ) : EReal) := by
      rw [val_main_v65_apply, dots, coe_sum]
      refine Finset.sum_congr rfl fun f _ => (Eq.trans ?_ (he f))
      exact congrArg₂ (fun a b : EReal => a * b) (congrArg (val_main_v6 (F := Ideal) q) (by funext a; fin_cases a <;> rfl))
        (congrArg (val_main_v14 (F := Ideal) k) (by funext a; fin_cases a <;> rfl))
    have hc : val_main_v66 (F := Ideal) (ix6 b nb r h y x) = ((1 / 8 : ℝ) : EReal) := by
      rw [val_main_v66_apply, val_main_cst_apply]
      exact Cert.KernelIdeal.HostSide.eighth_f32
    rw [select_one, val_main_v67_apply, hs, hc, Ideal.mulf_def, ← EReal.coe_mul, mul_comm]
  · rw [if_neg hv, if_neg hv]
    rw [select_zero]
    exact hn

/-- The greatest score. -/
theorem max_at : val_main_v70 (F := Ideal) q k (ix5 b nb r h y) = mx (sRow q k b nb r h y) := by
  unfold val_main_v70 mx
  rw [Host.reduce_eq_fold_single _ _ _ _ (by decide)]
  refine congrArg₂ (fun (a : EReal) (g : Fin 192 → EReal) => Finset.univ.fold max a g) Cert.KernelIdeal.Body.ninf_f32 (funext fun x => ?_)
  exact congrArg (val_main_v69 (F := Ideal) q k) (by funext a; fin_cases a <;> rfl)

theorem weight_at (x : Fin 192) : val_main_v74 (F := Ideal) q k (ix6 b nb r h y x) = ew (sRow q k b nb r h y) x := by
  obtain rfl : r = 0 := Subsingleton.elim _ _
  unfold val_main_v74 val_main_v73 val_main_v72 val_main_v71 ew
  pointwise
  rw [max_at]
  rfl

theorem sum_at : val_main_v75 (F := Ideal) q k (ix5 b nb r h y) = es (sRow q k b nb r h y) := by
  rw [val_main_v75_apply, es]
  refine (congrArg₂ (fun a b : EReal => a + b) (Cert.KernelIdeal.Body.zero_f32) (Finset.sum_congr rfl fun x _ => ?_)).trans (zero_add _)
  exact (congrArg (val_main_v74 (F := Ideal) q k) (by funext a; fin_cases a <;> rfl)).trans (weight_at q k b nb r h y x)

theorem prod_at (f : Fin 64) : val_main_v76 (F := Ideal) q k v (ix6 b nb r h f y)
    = ∑ x, ew (sRow q k b nb r h y) x * (val_main_v22 (F := Ideal) v (ix6 b nb x r h f) : EReal) := by
  rw [val_main_v76_apply]
  refine Finset.sum_congr rfl fun x _ => ?_
  rw [mul_comm (ew _ _), ← weight_at q k b nb r h y x]
  exact congrArg₂ (fun a b : EReal => a * b) (congrArg (val_main_v22 (F := Ideal) v) (by funext a; fin_cases a <;> rfl))
    (congrArg (val_main_v74 (F := Ideal) q k) (by funext a; fin_cases a <;> rfl))

include fq fk in
/-- The reference's mean. -/
theorem ratio_at (f : Fin 64) : (val_main_v81 (F := Ideal) q k v (ix6 b nb y r h f) : EReal)
    = mean (nOf nb y) (dots q k b (tk r) h (nOf nb y)) fun t => v (ix4 b (tk r t) h f) := by
  rw [← mean_of_row (by omega) (nOf nb y) rfl _ _ (s_at q k fq fk b nb r h y) (fun x => val_main_v22 (F := Ideal) v (ix6 b nb x r h f)) _
    (fun x hx => v_at v b nb x r h f hx.2.2.1 hx.2.2.2), ← prod_at, ← sum_at]
  obtain rfl : r = 0 := Subsingleton.elim _ _
  unfold val_main_v81 val_main_v77 val_main_v80 val_main_v79 val_main_v78
  generalize val_main_v76 (F := Ideal) q k v = A
  generalize val_main_v75 (F := Ideal) q k = B
  pointwise

/-- The reference's log-sum-exp from the greatest scores and the sums. -/
theorem logsum_of (A B : FVec Ideal S2x128x1x16x64 .f32) :
    transpose S2x128x64x1x16 [0, 1, 4, 2, 3] (addf (shapeCast S2x128x1x16x64 (broadcastInDim S2x128x1x16x64x1 ![0, 1, 2, 3, 4]
      Gen.bcast_S2x128x1x16x64_S2x128x1x16x64x1_0_1_2_3_4 A) Gen.shapeCasts_S2x128x1x16x64x1_S2x128x1x16x64) (Host.log B))
      Gen.transposes_S2x128x1x16x64_S2x128x64x1x16_0_1_4_2_3 (ix5 b nb y r h)
      = (A (ix5 b nb r h y) : EReal) + Ideal.log (B (ix5 b nb r h y)) := by
  obtain rfl : r = 0 := Subsingleton.elim _ _
  pointwise

include fq fk in
/-- The reference's log-sum-exp. -/
theorem logsum_at : (val_main_v85 (F := Ideal) q k (ix5 b nb y r h) : EReal) = lse (nOf nb y) (dots q k b (tk r) h (nOf nb y)) := by
  refine (logsum_of b nb r h y _ _).trans ?_
  rw [max_at, sum_at]
  exact lse_of_row (by omega) (nOf nb y) rfl _ _ (s_at q k fq fk b nb r h y)

end Finite

theorem lse_pad (b : Fin 2) (r : Fin 1) (n : Fin 8192) (l : Fin 128) : val_main_v93 (F := Ideal) q k (ix4 b r n l)
    = if h : (l : ℕ) < 16 then val_main_v91 (F := Ideal) q k (ix4 b r n ⟨l, h⟩) else (0 : EReal) := by
  obtain rfl : r = 0 := Subsingleton.elim _ _
  unfold val_main_v93
  pointwise
  split_ifs
  · rfl
  · show (((0#32 : BitVec 32).toInt : ℝ) : EReal) = 0
    simp

section Results

variable (fq : ∀ i, (q i : EReal) ≠ ⊤ ∧ (q i : EReal) ≠ ⊥) (fk : ∀ i, (k i : EReal) ≠ ⊤ ∧ (k i : EReal) ≠ ⊥)

theorem split_n (n : Fin 8192) : nOf ⟨n / 64, by omega⟩ ⟨n % 64, by omega⟩ = n := Fin.ext (Nat.div_add_mod n 64)

include fq fk in
/-- The reference's first result. -/
theorem out_ref (b : Fin 2) (r : Fin 1) (n : Fin 8192) (l : Fin 1024) :
    (val_main_v92 (F := Ideal) q k v (ix4 b r n l) : EReal) = outAt q k v b (tk r) n l := by
  obtain rfl : r = 0 := Subsingleton.elim _ _
  have e := ratio_at q k v fq fk b ⟨n / 64, by omega⟩ 0 ⟨l / 64, by omega⟩ ⟨n % 64, by omega⟩ ⟨l % 64, by omega⟩
  rw [split_n] at e
  rw [outAt, ← e]
  unfold val_main_v92 val_main_v89 val_main_v88 val_main_v86
  generalize val_main_v81 (F := Ideal) q k v = A
  pointwise

include fq fk in
/-- The reference's second result. -/
theorem lse_ref (b : Fin 2) (r : Fin 1) (n : Fin 8192) (l : Fin 128) :
    (val_main_v93 (F := Ideal) q k (ix4 b r n l) : EReal) = lseAt q k b (tk r) n l := by
  obtain rfl : r = 0 := Subsingleton.elim _ _
  rw [lse_pad, lseAt]
  split_ifs with hl
  · have e := logsum_at q k fq fk b ⟨n / 64, by omega⟩ 0 ⟨l, hl⟩ ⟨n % 64, by omega⟩
    rw [split_n] at e
    rw [← e]
    unfold val_main_v91 val_main_v90 val_main_v87
    generalize val_main_v85 (F := Ideal) q k = A
    pointwise
  · rfl

end Results

end Cert.Reference6Ideal.Rows

end
-- ==== Proof.Host16.lean ====
/- What the host code hands the attention at dilation 16: the queries, keys and values side by side, and the biases, read at an index. -/
module

public import proofs.«01_k».proof.Proof.Host
public import proofs.«01_k».proof.Proof.Gen.Kernel7Ideal.Frame
public import Idealize.ShloMosaic.Lib.StableHlo.ReadAt

@[expose] public section

set_option maxRecDepth 16384

noncomputable section

namespace Cert.Kernel7Ideal.HostSide

open Idealize.ShloMosaic Idealize.ShloMosaic.TcCoe Idealize.SL.Sem Cert.Kernel7Ideal Cert.Kernel7Ideal.Gen Cert.Band
open Cert.KernelIdeal.HostSide (scale_eq band_word first_word last_word)

variable (m : (ℓ : Loc nD τ sig) → Buf (Elt Ideal) ℓ) (c : Dev nD)

/-- The queries, before the scale. -/
abbrev qArg : FVec Ideal S2x8192x16x64 .f32 := m ((c : Thread nD τ).loc main_arg0)
/-- The keys. -/
abbrev kArg : FVec Ideal S2x8192x16x64 .f32 := m ((c : Thread nD τ).loc main_arg1)
/-- The values. -/
abbrev vArg : FVec Ideal S2x8192x16x64 .f32 := m ((c : Thread nD τ).loc main_arg2)
/-- The array that the attention reads its queries, keys and values from. -/
abbrev qkvArr : FVec Ideal S2x16x512x3072 .bf16 := V m c main_v18
/-- The three bias tables: a unit at the start, in the middle and at the end of a subsequence. -/
abbrev biasArr : FVec Ideal S3x128x256 .f32 := V m c main_v44

/-- The token at position `n` of the subsequence of residue `r`. -/
def tk (r : Fin 16) (n : Fin 512) : Fin 8192 := ⟨16 * n + r, by omega⟩

/-- A value lane: the values' own order. -/
theorem v_at (b : Fin 2) (r : Fin 16) (n : Fin 512) (l : Fin 3072) (h : 2048 ≤ (l : ℕ)) :
    qkvArr m c (ix4 b r n l)
      = vArg m c (ix4 b (tk r n) ⟨(l - 2048) / 64, by omega⟩ ⟨(l - 2048) % 64, by omega⟩) := by
  unfold_abbrev_sides
  after_reads_at
  rw [dif_neg (by omega), dif_neg (by omega)]
  after_reads_at
  exact congrArg (m ((c : Thread nD τ).loc main_arg2)) (ix4_congr rfl (by simp only [tk]; omega) (by dsimp only; omega) (by dsimp only; omega))

/-- A key lane: four heads to a quad of 256 lanes, the two halves of the features 128 lanes apart. -/
theorem k_at (b : Fin 2) (r : Fin 16) (n : Fin 512) (l : Fin 3072) (h : 1024 ≤ (l : ℕ)) (h' : (l : ℕ) < 2048) :
    qkvArr m c (ix4 b r n l) = kArg m c (ix4 b (tk r n) ⟨(l - 1024) / 256 * 4 + (l - 1024) % 128 / 32, by omega⟩
      ⟨(l - 1024) % 256 / 128 * 32 + (l - 1024) % 32, by omega⟩) := by
  unfold_abbrev_sides
  after_reads_at
  rw [dif_neg (by omega), dif_pos (by omega)]
  after_reads_at
  exact congrArg (m ((c : Thread nD τ).loc main_arg1)) (ix4_congr rfl (by simp only [tk]; omega) (by dsimp only; omega) (by dsimp only; omega))

/-- A query lane: as a key's, and scaled. -/
theorem q_at (b : Fin 2) (r : Fin 16) (n : Fin 512) (l : Fin 3072) (h' : (l : ℕ) < 1024) :
    qkvArr m c (ix4 b r n l) = qArg m c (ix4 b (tk r n) ⟨l / 256 * 4 + l % 128 / 32, by omega⟩
      ⟨l % 256 / 128 * 32 + l % 32, by omega⟩) * ((Band.c2 : ℝ) : EReal) := by
  unfold_abbrev_sides
  after_reads_at
  rw [dif_pos (by omega)]
  after_reads_at
  exact congrArg₂ (fun x y : EReal => x * y)
    (congrArg (m ((c : Thread nD τ).loc main_arg0)) (ix4_congr rfl (by simp only [tk]; omega) (by dsimp only; omega) (by dsimp only; omega))) scale_eq

/-- The biases: zero at the band's columns, −∞ at the others and, in the first and the last table, where there is no position. -/
theorem bias_at (w : Fin 3) (q : Fin 128) (x : Fin 256) :
    biasArr m c (ix3 w q x)
      = if (q : ℕ) ≤ x ∧ (x : ℕ) ≤ q + 128 ∧ (w = 0 → 64 ≤ (x : ℕ)) ∧ (w = 2 → (x : ℕ) < 192) then 0 else ⊥ := by
  unfold_abbrev_sides
  after_reads_at
  simp only [id]
  pointwise
  rw [Cert.KernelIdeal.Body.ninf_f32]
  fin_cases w
  · simp only [Fin.zero_eta]
    rw [dif_pos (by decide)]
    after_reads_at
    simp only [band_word, first_word]
    by_cases h1 : (q : ℕ) ≤ x ∧ (x : ℕ) ≤ q + 128 <;> by_cases h2 : 64 ≤ (x : ℕ) <;> simp [h1, h2, Scalar.select, IntOp.andi]
  · simp only [Fin.mk_one]
    rw [dif_neg (by decide), dif_pos (by decide)]
    after_reads_at
    simp only [band_word]
    by_cases h1 : (q : ℕ) ≤ x ∧ (x : ℕ) ≤ q + 128 <;> simp [h1, Scalar.select, IntOp.andi]
  · simp only [Fin.reduceFinMk]
    rw [dif_neg (by decide), dif_neg (by decide)]
    after_reads_at
    simp only [band_word, last_word]
    by_cases h1 : (q : ℕ) ≤ x ∧ (x : ℕ) ≤ q + 128 <;> by_cases h2 : (x : ℕ) < 192 <;> simp [h1, h2, Scalar.select, IntOp.andi]

end Cert.Kernel7Ideal.HostSide

end
-- ==== Proof.KernelValue16.lean ====
/- The result arrays of the attention at dilation 16 as functions of the queries, keys and values. -/
module

public import proofs.«01_k».proof.Proof.BlockValue
public import proofs.«01_k».proof.Proof.Host16
public import proofs.«01_k».proof.Proof.Gen.Kernel7Ideal.Value
public import Idealize.ShloMosaic.Lib.Pipeline.ValueKit.Geometry

@[expose] public section

set_option maxRecDepth 16384

noncomputable section

namespace Cert.Kernel7Ideal.Units

open Idealize.ShloMosaic Idealize.ShloMosaic.TcCoe Idealize.SL.Sem Cert.Kernel7Ideal Cert.Kernel7Ideal.Gen Cert.Kernel7Ideal.Value
open Cert.KernelIdeal.Units Cert.Kernel7Ideal.HostSide Cert.Band

/-- The body is the same at every dilation. -/
theorem out0_9_same (x0 x1 x2 x3 x4 x5 x6 x7 x8) : Cert.Kernel7Ideal.Gen.out0_9 (F := Ideal) x0 x1 x2 x3 x4 x5 x6 x7 x8
    = Cert.KernelIdeal.Gen.out0_9 (F := Ideal) x0 x1 x2 x3 x4 x5 x6 x7 x8 := rfl

/-- The body is the same at every dilation. -/
theorem out0_10_same (x0 x1 x2 x3 x4 x5 x6 x7 x8) : Cert.Kernel7Ideal.Gen.out0_10 (F := Ideal) x0 x1 x2 x3 x4 x5 x6 x7 x8
    = Cert.KernelIdeal.Gen.out0_10 (F := Ideal) x0 x1 x2 x3 x4 x5 x6 x7 x8 := rfl

theorem i0 : ∀ t : Fin cfg0.N, win0_0.index t (0 : Fin 4) = (t : ℕ) / 32 ∧ win0_0.index t (1 : Fin 4) = (t : ℕ) / 2 % 16
    ∧ win0_0.index t (2 : Fin 4) = (t : ℕ) % 2 ∧ win0_0.index t (3 : Fin 4) = 0 := (by decide +kernel : ∀ t : Fin grid0.N, _)
theorem i1 : ∀ t : Fin cfg0.N, win0_1.index t (0 : Fin 4) = (t : ℕ) / 32 ∧ win0_1.index t (1 : Fin 4) = (t : ℕ) / 2 % 16
    ∧ win0_1.index t (2 : Fin 4) = (t : ℕ) % 2 * 4 - 1 ∧ win0_1.index t (3 : Fin 4) = 1 := (by decide +kernel : ∀ t : Fin grid0.N, _)
theorem i2 : ∀ t : Fin cfg0.N, win0_2.index t (0 : Fin 4) = (t : ℕ) / 32 ∧ win0_2.index t (1 : Fin 4) = (t : ℕ) / 2 % 16
    ∧ win0_2.index t (2 : Fin 4) = (t : ℕ) % 2 ∧ win0_2.index t (3 : Fin 4) = 1 := (by decide +kernel : ∀ t : Fin grid0.N, _)
theorem i3 : ∀ t : Fin cfg0.N, win0_3.index t (0 : Fin 4) = (t : ℕ) / 32 ∧ win0_3.index t (1 : Fin 4) = (t : ℕ) / 2 % 16
    ∧ win0_3.index t (2 : Fin 4) = min ((t : ℕ) % 2 * 4 + 4) 7 ∧ win0_3.index t (3 : Fin 4) = 1 := (by decide +kernel : ∀ t : Fin grid0.N, _)
theorem i4 : ∀ t : Fin cfg0.N, win0_4.index t (0 : Fin 4) = (t : ℕ) / 32 ∧ win0_4.index t (1 : Fin 4) = (t : ℕ) / 2 % 16
    ∧ win0_4.index t (2 : Fin 4) = (t : ℕ) % 2 * 4 - 1 ∧ win0_4.index t (3 : Fin 4) = 2 := (by decide +kernel : ∀ t : Fin grid0.N, _)
theorem i5 : ∀ t : Fin cfg0.N, win0_5.index t (0 : Fin 4) = (t : ℕ) / 32 ∧ win0_5.index t (1 : Fin 4) = (t : ℕ) / 2 % 16
    ∧ win0_5.index t (2 : Fin 4) = (t : ℕ) % 2 ∧ win0_5.index t (3 : Fin 4) = 2 := (by decide +kernel : ∀ t : Fin grid0.N, _)
theorem i6 : ∀ t : Fin cfg0.N, win0_6.index t (0 : Fin 4) = (t : ℕ) / 32 ∧ win0_6.index t (1 : Fin 4) = (t : ℕ) / 2 % 16
    ∧ win0_6.index t (2 : Fin 4) = min ((t : ℕ) % 2 * 4 + 4) 7 ∧ win0_6.index t (3 : Fin 4) = 2 := (by decide +kernel : ∀ t : Fin grid0.N, _)
theorem i7 : ∀ t : Fin cfg0.N, win0_7.index t (0 : Fin 3) = (if (t : ℕ) % 2 = 0 then 0 else 1) ∧ win0_7.index t (1 : Fin 3) = 0
    ∧ win0_7.index t (2 : Fin 3) = 0 := (by decide +kernel : ∀ t : Fin grid0.N, _)
theorem i8 : ∀ t : Fin cfg0.N, win0_8.index t (0 : Fin 3) = (if (t : ℕ) % 2 = 1 then 2 else 1) ∧ win0_8.index t (1 : Fin 3) = 0
    ∧ win0_8.index t (2 : Fin 3) = 0 := (by decide +kernel : ∀ t : Fin grid0.N, _)
theorem i9 : ∀ t : Fin cfg0.N, win0_9.index t (0 : Fin 4) = (t : ℕ) / 32 ∧ win0_9.index t (1 : Fin 4) = (t : ℕ) / 2 % 16
    ∧ win0_9.index t (2 : Fin 4) = (t : ℕ) % 2 ∧ win0_9.index t (3 : Fin 4) = 0 := (by decide +kernel : ∀ t : Fin grid0.N, _)
theorem i10 : ∀ t : Fin cfg0.N, win0_10.index t (0 : Fin 4) = (t : ℕ) / 32 ∧ win0_10.index t (1 : Fin 4) = (t : ℕ) / 2 % 16
    ∧ win0_10.index t (2 : Fin 4) = (t : ℕ) % 2 ∧ win0_10.index t (3 : Fin 4) = 0 := (by decide +kernel : ∀ t : Fin grid0.N, _)

/-- The batch of a grid point. -/
def bOf (t : Fin cfg0.N) : Fin 2 := ⟨(t : ℕ) / 32, by have := t.isLt.trans_eq N_0; omega⟩
/-- The residue of a grid point. -/
def rOf (t : Fin cfg0.N) : Fin 16 := ⟨(t : ℕ) / 2 % 16, by omega⟩
/-- The block of a grid point. -/
def iOf (t : Fin cfg0.N) : Fin 2 := ⟨(t : ℕ) % 2, by omega⟩

variable (m : (ℓ : Loc nD τ sig) → Buf (Elt Ideal) ℓ) (c : Dev nD) (t : Fin cfg0.N)

/-- The block lies in its subsequence. -/
theorem iM : 256 * (iOf t : ℕ) + 256 ≤ 512 := by have := (iOf t).isLt; omega

theorem blk0 (p : Fin 256) (l : Fin 1024) : iblk m c 0 t (ix4 0 0 p l) = qkvArr m c (ix4 (bOf t) (rOf t) (at256 (iOf t) (iM t) p) ⟨0 + l, by omega⟩) := by
  obtain ⟨e0, e1, e2, e3⟩ := i0 t
  show qkvArr m c (((cfg0.win 0).blk t).view.emb (ix4 0 0 p l)) = _
  refine congrArg _ (idx4_of _ _ _ _ _ ?_ ?_ ?_ ?_)
  · show win0_0.index t (0 : Fin 4) * 1 + 1 * 0 = _; simp only [bOf]; omega
  · show win0_0.index t (1 : Fin 4) * 1 + 1 * 0 = _; simp only [rOf]; omega
  · show win0_0.index t (2 : Fin 4) * 256 + 1 * (p : ℕ) = _; simp only [at256, iOf]; omega
  · show win0_0.index t (3 : Fin 4) * 1024 + 1 * (l : ℕ) = _; dsimp only; omega

theorem blk1 (p : Fin 64) (l : Fin 1024) (n : Fin 512) (hn : (n : ℕ) + 64 = 256 * (iOf t : ℕ) + p) :
    iblk m c 1 t (ix4 0 0 p l) = qkvArr m c (ix4 (bOf t) (rOf t) n ⟨1024 + l, by omega⟩) := by
  obtain ⟨e0, e1, e2, e3⟩ := i1 t
  have hi : (iOf t : ℕ) = (t : ℕ) % 2 := rfl
  show qkvArr m c (((cfg0.win 1).blk t).view.emb (ix4 0 0 p l)) = _
  refine congrArg _ (idx4_of _ _ _ _ _ ?_ ?_ ?_ ?_)
  · show win0_1.index t (0 : Fin 4) * 1 + 1 * 0 = _; simp only [bOf]; omega
  · show win0_1.index t (1 : Fin 4) * 1 + 1 * 0 = _; simp only [rOf]; omega
  · show win0_1.index t (2 : Fin 4) * 64 + 1 * (p : ℕ) = _; omega
  · show win0_1.index t (3 : Fin 4) * 1024 + 1 * (l : ℕ) = _; dsimp only; omega

theorem blk2 (p : Fin 256) (l : Fin 1024) : iblk m c 2 t (ix4 0 0 p l) = qkvArr m c (ix4 (bOf t) (rOf t) (at256 (iOf t) (iM t) p) ⟨1024 + l, by omega⟩) := by
  obtain ⟨e0, e1, e2, e3⟩ := i2 t
  show qkvArr m c (((cfg0.win 2).blk t).view.emb (ix4 0 0 p l)) = _
  refine congrArg _ (idx4_of _ _ _ _ _ ?_ ?_ ?_ ?_)
  · show win0_2.index t (0 : Fin 4) * 1 + 1 * 0 = _; simp only [bOf]; omega
  · show win0_2.index t (1 : Fin 4) * 1 + 1 * 0 = _; simp only [rOf]; omega
  · show win0_2.index t (2 : Fin 4) * 256 + 1 * (p : ℕ) = _; simp only [at256, iOf]; omega
  · show win0_2.index t (3 : Fin 4) * 1024 + 1 * (l : ℕ) = _; dsimp only; omega

theorem blk3 (p : Fin 64) (l : Fin 1024) (n : Fin 512) (hn : (n : ℕ) = 256 * (iOf t : ℕ) + 256 + p) :
    iblk m c 3 t (ix4 0 0 p l) = qkvArr m c (ix4 (bOf t) (rOf t) n ⟨1024 + l, by omega⟩) := by
  obtain ⟨e0, e1, e2, e3⟩ := i3 t
  have hi : (iOf t : ℕ) = (t : ℕ) % 2 := rfl
  show qkvArr m c (((cfg0.win 3).blk t).view.emb (ix4 0 0 p l)) = _
  refine congrArg _ (idx4_of _ _ _ _ _ ?_ ?_ ?_ ?_)
  · show win0_3.index t (0 : Fin 4) * 1 + 1 * 0 = _; simp only [bOf]; omega
  · show win0_3.index t (1 : Fin 4) * 1 + 1 * 0 = _; simp only [rOf]; omega
  · show win0_3.index t (2 : Fin 4) * 64 + 1 * (p : ℕ) = _; omega
  · show win0_3.index t (3 : Fin 4) * 1024 + 1 * (l : ℕ) = _; dsimp only; omega

theorem blk4 (p : Fin 64) (l : Fin 1024) (n : Fin 512) (hn : (n : ℕ) + 64 = 256 * (iOf t : ℕ) + p) :
    iblk m c 4 t (ix4 0 0 p l) = qkvArr m c (ix4 (bOf t) (rOf t) n ⟨2048 + l, by omega⟩) := by
  obtain ⟨e0, e1, e2, e3⟩ := i4 t
  have hi : (iOf t : ℕ) = (t : ℕ) % 2 := rfl
  show qkvArr m c (((cfg0.win 4).blk t).view.emb (ix4 0 0 p l)) = _
  refine congrArg _ (idx4_of _ _ _ _ _ ?_ ?_ ?_ ?_)
  · show win0_4.index t (0 : Fin 4) * 1 + 1 * 0 = _; simp only [bOf]; omega
  · show win0_4.index t (1 : Fin 4) * 1 + 1 * 0 = _; simp only [rOf]; omega
  · show win0_4.index t (2 : Fin 4) * 64 + 1 * (p : ℕ) = _; omega
  · show win0_4.index t (3 : Fin 4) * 1024 + 1 * (l : ℕ) = _; dsimp only; omega

theorem blk5 (p : Fin 256) (l : Fin 1024) : iblk m c 5 t (ix4 0 0 p l) = qkvArr m c (ix4 (bOf t) (rOf t) (at256 (iOf t) (iM t) p) ⟨2048 + l, by omega⟩) := by
  obtain ⟨e0, e1, e2, e3⟩ := i5 t
  show qkvArr m c (((cfg0.win 5).blk t).view.emb (ix4 0 0 p l)) = _
  refine congrArg _ (idx4_of _ _ _ _ _ ?_ ?_ ?_ ?_)
  · show win0_5.index t (0 : Fin 4) * 1 + 1 * 0 = _; simp only [bOf]; omega
  · show win0_5.index t (1 : Fin 4) * 1 + 1 * 0 = _; simp only [rOf]; omega
  · show win0_5.index t (2 : Fin 4) * 256 + 1 * (p : ℕ) = _; simp only [at256, iOf]; omega
  · show win0_5.index t (3 : Fin 4) * 1024 + 1 * (l : ℕ) = _; dsimp only; omega

theorem blk6 (p : Fin 64) (l : Fin 1024) (n : Fin 512) (hn : (n : ℕ) = 256 * (iOf t : ℕ) + 256 + p) :
    iblk m c 6 t (ix4 0 0 p l) = qkvArr m c (ix4 (bOf t) (rOf t) n ⟨2048 + l, by omega⟩) := by
  obtain ⟨e0, e1, e2, e3⟩ := i6 t
  have hi : (iOf t : ℕ) = (t : ℕ) % 2 := rfl
  show qkvArr m c (((cfg0.win 6).blk t).view.emb (ix4 0 0 p l)) = _
  refine congrArg _ (idx4_of _ _ _ _ _ ?_ ?_ ?_ ?_)
  · show win0_6.index t (0 : Fin 4) * 1 + 1 * 0 = _; simp only [bOf]; omega
  · show win0_6.index t (1 : Fin 4) * 1 + 1 * 0 = _; simp only [rOf]; omega
  · show win0_6.index t (2 : Fin 4) * 64 + 1 * (p : ℕ) = _; omega
  · show win0_6.index t (3 : Fin 4) * 1024 + 1 * (l : ℕ) = _; dsimp only; omega

theorem blk7 (p : Fin 128) (x : Fin 256) : @Eq EReal (iblk m c 7 t (ix3 0 p x)) (if Valid 512 (256 * (iOf t : ℕ)) p x then 0 else ⊥) := by
  obtain ⟨e0, e1, e2⟩ := i7 t
  have hi : (iOf t : ℕ) = (t : ℕ) % 2 := rfl
  have : iblk m c 7 t (ix3 0 p x) = biasArr m c (ix3 (if (t : ℕ) % 2 = 0 then 0 else 1) p x) := by
    show biasArr m c (((cfg0.win 7).blk t).view.emb (ix3 0 p x)) = _
    refine congrArg _ (idx3_of _ _ _ _ ?_ ?_ ?_)
    · show win0_7.index t (0 : Fin 3) * 1 + 1 * 0 = _; rw [e0]; split <;> rfl
    · show win0_7.index t (1 : Fin 3) * 128 + 1 * (p : ℕ) = _; omega
    · show win0_7.index t (2 : Fin 3) * 256 + 1 * (x : ℕ) = _; omega
  refine this.trans ((bias_at m c _ p x).trans (if_congr ?_ rfl rfl))
  unfold Valid
  split
  · simp; omega
  · simp; omega

theorem blk8 (p : Fin 128) (x : Fin 256) : @Eq EReal (iblk m c 8 t (ix3 0 p x)) (if Valid 512 (256 * (iOf t : ℕ) + 128) p x then 0 else ⊥) := by
  obtain ⟨e0, e1, e2⟩ := i8 t
  have hi : (iOf t : ℕ) = (t : ℕ) % 2 := rfl
  have : iblk m c 8 t (ix3 0 p x) = biasArr m c (ix3 (if (t : ℕ) % 2 = 1 then 2 else 1) p x) := by
    show biasArr m c (((cfg0.win 8).blk t).view.emb (ix3 0 p x)) = _
    refine congrArg _ (idx3_of _ _ _ _ ?_ ?_ ?_)
    · show win0_8.index t (0 : Fin 3) * 1 + 1 * 0 = _; rw [e0]; split <;> rfl
    · show win0_8.index t (1 : Fin 3) * 128 + 1 * (p : ℕ) = _; omega
    · show win0_8.index t (2 : Fin 3) * 256 + 1 * (x : ℕ) = _; omega
  refine this.trans ((bias_at m c _ p x).trans (if_congr ?_ rfl rfl))
  unfold Valid
  split
  · simp; omega
  · simp; omega

/-- What the blocks of a grid point hold. -/
theorem blocks : Blocks (qArg m c) (kArg m c) (vArg m c) (bOf t) (tk (rOf t)) (iOf t) (iM t) (iblk m c 0 t) (iblk m c 1 t) (iblk m c 2 t)
    (iblk m c 3 t) (iblk m c 4 t) (iblk m c 5 t) (iblk m c 6 t) (iblk m c 7 t) (iblk m c 8 t) where
  h0 p l := by
    rw [blk0, q_at m c _ _ _ _ (by dsimp only; omega)]
    refine congrArg (fun z : EReal => z * ((c2 : ℝ) : EReal)) (congrArg (qArg m c) (ix4_congr rfl rfl ?_ ?_)) <;> simp only [hd, ft] <;> omega
  h1 p l n hn := by
    rw [blk1 m c t p l n hn, k_at m c _ _ _ _ (by dsimp only; omega) (by dsimp only; omega)]
    refine congrArg (kArg m c) (ix4_congr rfl rfl ?_ ?_) <;> simp only [hd, ft] <;> omega
  h2 p l := by
    rw [blk2, k_at m c _ _ _ _ (by dsimp only; omega) (by dsimp only; omega)]
    refine congrArg (kArg m c) (ix4_congr rfl rfl ?_ ?_) <;> simp only [hd, ft] <;> omega
  h3 p l n hn := by
    rw [blk3 m c t p l n hn, k_at m c _ _ _ _ (by dsimp only; omega) (by dsimp only; omega)]
    refine congrArg (kArg m c) (ix4_congr rfl rfl ?_ ?_) <;> simp only [hd, ft] <;> omega
  h4 p l n hn := by
    rw [blk4 m c t p l n hn, v_at m c _ _ _ _ (by dsimp only; omega)]
    refine congrArg (vArg m c) (ix4_congr rfl rfl ?_ ?_) <;> dsimp only <;> omega
  h5 p l := by
    rw [blk5, v_at m c _ _ _ _ (by dsimp only; omega)]
    refine congrArg (vArg m c) (ix4_congr rfl rfl ?_ ?_) <;> dsimp only <;> omega
  h6 p l n hn := by
    rw [blk6 m c t p l n hn, v_at m c _ _ _ _ (by dsimp only; omega)]
    refine congrArg (vArg m c) (ix4_congr rfl rfl ?_ ?_) <;> dsimp only <;> omega
  h7 := blk7 m c t
  h8 := blk8 m c t

/-- The output array. -/
def outArr (q k v : FVec Ideal S2x8192x16x64 .f32) : FVec Ideal S2x16x512x1024 .bf16 := fun j => outAt q k v (j 0) (tk (j 1)) (j 2) (j 3)

/-- The log-sum-exp array. -/
def lseArr (q k : FVec Ideal S2x8192x16x64 .f32) : FVec Ideal S2x16x512x128 .f32 := fun j => lseAt q k (j 0) (tk (j 1)) (j 2) (j 3)

variable (fq : ∀ i, (qArg m c i : EReal) ≠ ⊤ ∧ (qArg m c i : EReal) ≠ ⊥) (fk : ∀ i, (kArg m c i : EReal) ≠ ⊤ ∧ (kArg m c i : EReal) ≠ ⊥)

include fq fk

/-- The output array after the run. -/
theorem final9 : (dats m 0 c).arrAt 9 cfg0.N = outArr (qArg m c) (kArg m c) (vArg m c) := by
  refine (dats m 0 c).arrAt_eq_of_covers 9 _ (by decide +kernel) fun t hf y => ?_
  blk_simp
  rw [after0_9, out0_9_same, out_block (blocks m c t) fq fk]
  obtain ⟨p, l, rfl⟩ := idx4_eq (n2 := 256) (n3 := 1024) y
  obtain ⟨e0, e1, e2, e3⟩ := i9 t
  refine Eq.trans ?_ (congrArg (outArr (qArg m c) (kArg m c) (vArg m c)) (idx4_of _ (bOf t) (rOf t) (at256 (iOf t) (iM t) p) l ?_ ?_ ?_ ?_)).symm
  · rfl
  · show win0_9.index t (0 : Fin 4) * 1 + 1 * 0 = _; simp only [bOf]; omega
  · show win0_9.index t (1 : Fin 4) * 1 + 1 * 0 = _; simp only [rOf]; omega
  · show win0_9.index t (2 : Fin 4) * 256 + 1 * (p : ℕ) = _; simp only [at256, iOf]; omega
  · show win0_9.index t (3 : Fin 4) * 1024 + 1 * (l : ℕ) = _; omega

/-- The log-sum-exp array after the run. -/
theorem final10 : (dats m 0 c).arrAt 10 cfg0.N = lseArr (qArg m c) (kArg m c) := by
  refine (dats m 0 c).arrAt_eq_of_covers 10 _ (by decide +kernel) fun t hf y => ?_
  blk_simp
  rw [after0_10, out0_10_same, lse_block (blocks m c t) fq fk]
  obtain ⟨p, l, rfl⟩ := idx4_eq (n2 := 256) (n3 := 128) y
  obtain ⟨e0, e1, e2, e3⟩ := i10 t
  refine Eq.trans ?_ (congrArg (lseArr (qArg m c) (kArg m c)) (idx4_of _ (bOf t) (rOf t) (at256 (iOf t) (iM t) p) l ?_ ?_ ?_ ?_)).symm
  · rfl
  · show win0_10.index t (0 : Fin 4) * 1 + 1 * 0 = _; simp only [bOf]; omega
  · show win0_10.index t (1 : Fin 4) * 1 + 1 * 0 = _; simp only [rOf]; omega
  · show win0_10.index t (2 : Fin 4) * 256 + 1 * (p : ℕ) = _; simp only [at256, iOf]; omega
  · show win0_10.index t (3 : Fin 4) * 128 + 1 * (l : ℕ) = _; omega

end Cert.Kernel7Ideal.Units

end
-- ==== Proof.RefLayout16.lean ====
/- The layout of the reference at dilation 16: its queries, keys and values, and its mask. -/
module

public import proofs.«01_k».proof.Proof.BlockValue
public import proofs.«01_k».proof.Proof.Host16
public import proofs.«01_k».proof.Proof.RefValue
public import proofs.«01_k».proof.Proof.Gen.Reference7Ideal.Read
public import Idealize.ShloMosaic.Lib.Pointwise

@[expose] public section

set_option maxRecDepth 16384

noncomputable section

namespace Cert.Reference7Ideal.Rows

open Idealize.ShloMosaic Idealize.SL.Sem Cert.Reference7Ideal Cert.Reference7Ideal.Read Cert.Band
open Cert.KernelIdeal.Units (dots outAt lseAt)
open Cert.Kernel7Ideal.HostSide (tk)
open Cert.ReferenceIdeal.Rows (band_word)

variable (q k v : FVec Ideal S2x8192x16x64 .f32)

theorem pad_q (b : Fin 2) (p : Fin 8192) (h : Fin 16) (f : Fin 64) : val_main_v0 (F := Ideal) q (ix4 b p h f) = q (ix4 b p h f) := by
  unfold val_main_v0
  pointwise

/-- A query, as the reference lays it out: block of 64 positions, position in it, residue, head. -/
theorem q_at (b : Fin 2) (nb : Fin 8) (y : Fin 64) (r : Fin 16) (h : Fin 16) (f : Fin 64) :
    val_main_v6 (F := Ideal) q (ix6 b nb y r h f) = q (ix4 b (tk r ⟨64 * nb + y, by omega⟩) h f) := by
  unfold val_main_v6 val_main_v1
  pointwise
  rw [pad_q]
  exact congrArg q (ix4_congr rfl (by simp only [tk]; omega) rfl rfl)

theorem pad_k (b : Fin 2) (p : Fin 8192) (h : Fin 16) (f : Fin 64) : val_main_v2 (F := Ideal) k (ix4 b p h f) = k (ix4 b p h f) := by
  unfold val_main_v2
  pointwise

theorem shifted_k (b : Fin 2) (x : Fin 640) (r : Fin 16) (h : Fin 16) (f : Fin 64) (h1 : 64 ≤ (x : ℕ)) (h2 : (x : ℕ) < 576) :
    val_main_v7 (F := Ideal) k (ix5 b x r h f) = k (ix4 b (tk r ⟨x - 64, by omega⟩) h f) := by
  unfold val_main_v7 val_main_v3
  pointwise
  rw [dif_pos (by omega), pad_k]
  exact congrArg k (ix4_congr rfl (by simp only [tk]; omega) rfl rfl)

/-- A key of a block's window of 192 positions, where there is one. -/
theorem k_at (b : Fin 2) (nb : Fin 8) (x : Fin 192) (r : Fin 16) (h : Fin 16) (f : Fin 64) (h1 : 64 ≤ 64 * (nb : ℕ) + x)
    (h2 : 64 * (nb : ℕ) + x < 576) : val_main_v14 (F := Ideal) k (ix6 b nb x r h f) = k (ix4 b (tk r (pos (64 * nb) x)) h f) := by
  unfold val_main_v14 val_main_v9 val_main_v11 val_main_v13 val_main_v8 val_main_v10 val_main_v12
  pointwise
  split_ifs
  all_goals
    rw [shifted_k _ _ _ _ _ _ (by dsimp only; omega) (by dsimp only; omega)]
    exact congrArg k (ix4_congr rfl (by simp only [tk, pos]; omega) rfl rfl)

/-- A value of the window: the same layout. -/
theorem v_at (b : Fin 2) (nb : Fin 8) (x : Fin 192) (r : Fin 16) (h : Fin 16) (f : Fin 64) (h1 : 64 ≤ 64 * (nb : ℕ) + x)
    (h2 : 64 * (nb : ℕ) + x < 576) : val_main_v22 (F := Ideal) v (ix6 b nb x r h f) = v (ix4 b (tk r (pos (64 * nb) x)) h f) :=
  (congrFun (rfl : val_main_v22 (F := Ideal) v = val_main_v14 (F := Ideal) v) _).trans (k_at v b nb x r h f h1 h2)

theorem inside_word : ∀ (nb : Fin 8) (x : Fin 192) (r : Fin 16), IntOp.andi
    (IntOp.cmpi .sge (IntOp.addi (IntOp.subi (IntOp.muli (BitVec.ofNat 32 (nb : ℕ)) 64#32) 64#32) (BitVec.ofNat 32 (x : ℕ))) 0#32)
    (IntOp.cmpi .slt (IntOp.addi (IntOp.muli (IntOp.addi (IntOp.subi (IntOp.muli (BitVec.ofNat 32 (nb : ℕ)) 64#32) 64#32)
      (BitVec.ofNat 32 (x : ℕ))) 16#32) (BitVec.ofNat 32 (r : ℕ))) 8192#32)
      = if 64 ≤ 64 * (nb : ℕ) + x ∧ 64 * (nb : ℕ) + x < 576 then 1#1 else 0#1 := by decide +kernel

/-- The mask: the band's keys that are positions. -/
theorem mask_at (nb : Fin 8) (r : Fin 16) (y : Fin 64) (x : Fin 192) :
    val_main_v66 (F := Ideal) (ix4 nb r y x) = if Valid 512 (64 * (nb : ℕ)) y x then 1#1 else 0#1 := by
  simp only [val_main_v66_apply, val_main_v65_apply, val_main_v64_apply, val_main_v63_apply, val_main_v62_apply, val_main_v61_apply,
    val_main_v60_apply, val_main_v59_apply, val_main_v58_apply, val_main_v57_apply, val_main_v56_apply, val_main_v55_apply,
    val_main_v54_apply, val_main_v53_apply, val_main_v52_apply, val_main_v51_apply, val_main_v50_apply, val_main_v49_apply,
    val_main_v48_apply, val_main_v47_apply, val_main_v46_apply, val_main_v45_apply, val_main_v44_apply, val_main_v43_apply,
    val_main_v42_apply, val_main_v41_apply, val_main_v40_apply, val_main_v39_apply, val_main_v38_apply, val_main_v37_apply,
    val_main_v36_apply, val_main_v35_apply, val_main_v34_apply, val_main_v33_apply, val_main_v32_apply, val_main_v31_apply,
    val_main_v30_apply, val_main_v29_apply, val_main_v28_apply, val_main_v27_apply, val_main_v26_apply, val_main_v25_apply,
    val_main_v24_apply, val_main_v23_apply, val_main_c_4_apply, val_main_c_5_apply, val_main_c_6_apply, val_main_c_7_apply,
    val_main_c_8_apply, val_main_c_9_apply, val_main_c_10_apply]
  refine (congrArg₂ IntOp.andi (band_word y x) (inside_word nb x r)).trans ?_
  by_cases h1 : (y : ℕ) ≤ x ∧ (x : ℕ) ≤ y + 128 <;> by_cases h2 : 64 ≤ 64 * (nb : ℕ) + x ∧ 64 * (nb : ℕ) + x < 576
  · rw [if_pos h1, if_pos h2, if_pos (show Valid _ _ _ _ from ⟨h1.1, h1.2, h2.1, h2.2⟩)]; rfl
  · rw [if_pos h1, if_neg h2, if_neg (fun h : Valid _ _ _ _ => h2 ⟨h.2.2.1, h.2.2.2⟩)]; rfl
  · rw [if_neg h1, if_pos h2, if_neg (fun h : Valid _ _ _ _ => h1 ⟨h.1, h.2.1⟩)]; rfl
  · rw [if_neg h1, if_neg h2, if_neg (fun h : Valid _ _ _ _ => h1 ⟨h.1, h.2.1⟩)]; rfl

end Cert.Reference7Ideal.Rows

end
-- ==== Proof.RefValue16.lean ====
/- The results of the reference at dilation 16 as functions of the queries, keys and values. -/
module

public import proofs.«01_k».proof.Proof.RefLayout16

@[expose] public section

set_option maxRecDepth 16384

noncomputable section

namespace Cert.Reference7Ideal.Rows

open Idealize.ShloMosaic Idealize.SL.Sem Cert.Reference7Ideal Cert.Reference7Ideal.Read Cert.Band
open Cert.KernelIdeal.Units (dots outAt lseAt)
open Cert.Kernel7Ideal.HostSide (tk)
open Cert.ReferenceIdeal.Rows (select_one select_zero)

variable (q k v : FVec Ideal S2x8192x16x64 .f32)

section Finite

variable (fq : ∀ i, (q i : EReal) ≠ ⊤ ∧ (q i : EReal) ≠ ⊥) (fk : ∀ i, (k i : EReal) ≠ ⊤ ∧ (k i : EReal) ≠ ⊥)
variable (b : Fin 2) (nb : Fin 8) (r : Fin 16) (h : Fin 16) (y : Fin 64)

/-- A query's position. -/
def nOf : Fin 512 := ⟨64 * nb + y, by omega⟩

/-- A query's masked scores. -/
def sRow (x : Fin 192) : EReal := val_main_v71 (F := Ideal) q k (ix6 b nb r h y x)

include fq fk in
theorem s_at (x : Fin 192) : sRow q k b nb r h y x
    = if Valid 512 (64 * (nb : ℕ)) y x then ((1 / 8 * dots q k b (tk r) h (nOf nb y) (pos (64 * nb) x) : ℝ) : EReal) else ⊥ := by
  unfold sRow
  rw [val_main_v71_apply]
  have hm : val_main_call5_v1 (F := Ideal) (ix6 b nb r h y x) = if Valid 512 (64 * (nb : ℕ)) y x then 1#1 else 0#1 := by
    rw [← mask_at nb r y x]
    unfold val_main_call5_v1 val_main_v70
    pointwise
  have hn : val_main_call5_v2 (F := Ideal) (ix6 b nb r h y x) = (⊥ : EReal) := by
    unfold val_main_call5_v2 val_main_call5_v0 val_main_cst_11
    pointwise
    exact Cert.KernelIdeal.Body.ninf_f32
  rw [hm]
  by_cases hv : Valid 512 (64 * (nb : ℕ)) y x
  · rw [if_pos hv, if_pos hv]
    obtain ⟨h1, h2, h3, h4⟩ := hv
    have he : ∀ f : Fin 64, (val_main_v6 (F := Ideal) q (ix6 b nb y r h f) : EReal) * val_main_v14 (F := Ideal) k (ix6 b nb x r h f)
        = (((q (ix4 b (tk r (nOf nb y)) h f) : EReal).toReal * (k (ix4 b (tk r (pos (64 * nb) x)) h f) : EReal).toReal : ℝ) : EReal) := by
      intro f
      rw [q_at, k_at k b nb x r h f h3 h4, EReal.coe_mul, EReal.coe_toReal (fq _).1 (fq _).2, EReal.coe_toReal (fk _).1 (fk _).2]
      rfl
    have hs : (val_main_v67 (F := Ideal) q k (ix6 b nb r h y x) : EReal) = ((dots q k b (tk r) h (nOf nb y) (pos (64 * nb) x) : ℝ) : EReal) := by
      rw [val_main_v67_apply, dots, coe_sum]
      refine Finset.sum_congr rfl fun f _ => (Eq.trans ?_ (he f))
      exact congrArg₂ (fun a b : EReal => a * b) (congrArg (val_main_v6 (F := Ideal) q) (by funext a; fin_cases a <;> rfl))
        (congrArg (val_main_v14 (F := Ideal) k) (by funext a; fin_cases a <;> rfl))
    have hc : val_main_v68 (F := Ideal) (ix6 b nb r h y x) = ((1 / 8 : ℝ) : EReal) := by
      rw [val_main_v68_apply, val_main_cst_apply]
      exact Cert.KernelIdeal.HostSide.eighth_f32
    rw [select_one, val_main_v69_apply, hs, hc, Ideal.mulf_def, ← EReal.coe_mul, mul_comm]
  · rw [if_neg hv, if_neg hv]
    rw [select_zero]
    exact hn

/-- The greatest score. -/
theorem max_at : val_main_v72 (F := Ideal) q k (ix5 b nb r h y) = mx (sRow q k b nb r h y) := by
  unfold val_main_v72 mx
  rw [Host.reduce_eq_fold_single _ _ _ _ (by decide)]
  refine congrArg₂ (fun (a : EReal) (g : Fin 192 → EReal) => Finset.univ.fold max a g) Cert.KernelIdeal.Body.ninf_f32 (funext fun x => ?_)
  exact congrArg (val_main_v71 (F := Ideal) q k) (by funext a; fin_cases a <;> rfl)

theorem weight_at (x : Fin 192) : val_main_v76 (F := Ideal) q k (ix6 b nb r h y x) = ew (sRow q k b nb r h y) x := by
  unfold val_main_v76 val_main_v75 val_main_v74 val_main_v73 ew
  pointwise
  rw [max_at]
  rfl

theorem sum_at : val_main_v77 (F := Ideal) q k (ix5 b nb r h y) = es (sRow q k b nb r h y) := by
  rw [val_main_v77_apply, es]
  refine (congrArg₂ (fun a b : EReal => a + b) (Cert.KernelIdeal.Body.zero_f32) (Finset.sum_congr rfl fun x _ => ?_)).trans (zero_add _)
  exact (congrArg (val_main_v76 (F := Ideal) q k) (by funext a; fin_cases a <;> rfl)).trans (weight_at q k b nb r h y x)

theorem prod_at (f : Fin 64) : val_main_v78 (F := Ideal) q k v (ix6 b nb r h f y)
    = ∑ x, ew (sRow q k b nb r h y) x * (val_main_v22 (F := Ideal) v (ix6 b nb x r h f) : EReal) := by
  rw [val_main_v78_apply]
  refine Finset.sum_congr rfl fun x _ => ?_
  rw [mul_comm (ew _ _), ← weight_at q k b nb r h y x]
  exact congrArg₂ (fun a b : EReal => a * b) (congrArg (val_main_v22 (F := Ideal) v) (by funext a; fin_cases a <;> rfl))
    (congrArg (val_main_v76 (F := Ideal) q k) (by funext a; fin_cases a <;> rfl))

include fq fk in
/-- The reference's mean. -/
theorem ratio_at (f : Fin 64) : (val_main_v83 (F := Ideal) q k v (ix6 b nb y r h f) : EReal)
    = mean (nOf nb y) (dots q k b (tk r) h (nOf nb y)) fun t => v (ix4 b (tk r t) h f) := by
  rw [← mean_of_row (by omega) (nOf nb y) rfl _ _ (s_at q k fq fk b nb r h y) (fun x => val_main_v22 (F := Ideal) v (ix6 b nb x r h f)) _
    (fun x hx => v_at v b nb x r h f hx.2.2.1 hx.2.2.2), ← prod_at, ← sum_at]
  unfold val_main_v83 val_main_v79 val_main_v82 val_main_v81 val_main_v80
  generalize val_main_v78 (F := Ideal) q k v = A
  generalize val_main_v77 (F := Ideal) q k = B
  pointwise

/-- The reference's log-sum-exp from the greatest scores and the sums. -/
theorem logsum_of (A B : FVec Ideal S2x8x16x16x64 .f32) :
    transpose S2x8x64x16x16 [0, 1, 4, 2, 3] (addf (shapeCast S2x8x16x16x64 (broadcastInDim S2x8x16x16x64x1 ![0, 1, 2, 3, 4]
      Gen.bcast_S2x8x16x16x64_S2x8x16x16x64x1_0_1_2_3_4 A) Gen.shapeCasts_S2x8x16x16x64x1_S2x8x16x16x64) (Host.log B))
      Gen.transposes_S2x8x16x16x64_S2x8x64x16x16_0_1_4_2_3 (ix5 b nb y r h)
      = (A (ix5 b nb r h y) : EReal) + Ideal.log (B (ix5 b nb r h y)) := by
  pointwise

include fq fk in
/-- The reference's log-sum-exp. -/
theorem logsum_at : (val_main_v87 (F := Ideal) q k (ix5 b nb y r h) : EReal) = lse (nOf nb y) (dots q k b (tk r) h (nOf nb y)) := by
  refine (logsum_of b nb r h y _ _).trans ?_
  rw [max_at, sum_at]
  exact lse_of_row (by omega) (nOf nb y) rfl _ _ (s_at q k fq fk b nb r h y)

end Finite

theorem lse_pad (b : Fin 2) (r : Fin 16) (n : Fin 512) (l : Fin 128) : val_main_v95 (F := Ideal) q k (ix4 b r n l)
    = if h : (l : ℕ) < 16 then val_main_v93 (F := Ideal) q k (ix4 b r n ⟨l, h⟩) else (0 : EReal) := by
  unfold val_main_v95
  pointwise
  split_ifs
  · rfl
  · show (((0#32 : BitVec 32).toInt : ℝ) : EReal) = 0
    simp

section Results

variable (fq : ∀ i, (q i : EReal) ≠ ⊤ ∧ (q i : EReal) ≠ ⊥) (fk : ∀ i, (k i : EReal) ≠ ⊤ ∧ (k i : EReal) ≠ ⊥)

theorem split_n (n : Fin 512) : nOf ⟨n / 64, by omega⟩ ⟨n % 64, by omega⟩ = n := Fin.ext (Nat.div_add_mod n 64)

include fq fk in
/-- The reference's first result. -/
theorem out_ref (b : Fin 2) (r : Fin 16) (n : Fin 512) (l : Fin 1024) :
    (val_main_v94 (F := Ideal) q k v (ix4 b r n l) : EReal) = outAt q k v b (tk r) n l := by
  have e := ratio_at q k v fq fk b ⟨n / 64, by omega⟩ r ⟨l / 64, by omega⟩ ⟨n % 64, by omega⟩ ⟨l % 64, by omega⟩
  rw [split_n] at e
  rw [outAt, ← e]
  unfold val_main_v94 val_main_v91 val_main_v90 val_main_v88
  generalize val_main_v83 (F := Ideal) q k v = A
  pointwise

include fq fk in
/-- The reference's second result. -/
theorem lse_ref (b : Fin 2) (r : Fin 16) (n : Fin 512) (l : Fin 128) :
    (val_main_v95 (F := Ideal) q k (ix4 b r n l) : EReal) = lseAt q k b (tk r) n l := by
  rw [lse_pad, lseAt]
  split_ifs with hl
  · have e := logsum_at q k fq fk b ⟨n / 64, by omega⟩ r ⟨l, hl⟩ ⟨n % 64, by omega⟩
    rw [split_n] at e
    rw [← e]
    unfold val_main_v93 val_main_v92 val_main_v89
    generalize val_main_v87 (F := Ideal) q k = A
    pointwise
  · rfl

end Results

end Cert.Reference7Ideal.Rows

end
-- ==== Proof.RowNorm.lean ====
/- The normalised rows that enter the state-space mixer: the kernel's output array, and the reference at an index. -/
module

public import proofs.«01_k».proof.Proof.Gen.Kernel8Ideal.Value
public import proofs.«01_k».proof.Proof.Gen.Reference8Ideal.Read
public import proofs.«01_k».proof.Proof.FfnValue

@[expose] public section

set_option maxRecDepth 16384

noncomputable section

namespace Cert.Kernel8Ideal.RowNorm

open Idealize.ShloMosaic Idealize.ShloMosaic.TcCoe Idealize.SL.Sem Cert.Kernel8Ideal Cert.Kernel8Ideal.Gen Cert.Kernel2Ideal.Ffn

/-- The output array. -/
def outArr (x : FVec Ideal S16384x1024 .f32) (g : FVec Ideal S1024 .f32) : FVec Ideal S16384x1024 .bf16 := fun i =>
  normRow x g (i 0) (i 1)

theorem pay1_apply (x : Vec Ideal S1024x1024 .f32) (g : Vec Ideal S1x1024 .f32) (p : Fin 1024) (d : Fin 1024) :
    @Eq EReal (k0_pay1 x g (ix2 p d)) (Cert.Kernel2Ideal.Ffn.norm (fun e => x (ix2 p e)) (fun e => g (ix2 0 e)) d) := by
  unfold k0_pay1 Cert.Kernel2Ideal.Ffn.norm; pointwise

theorem i0 : ∀ t : Fin cfg0.N, win0_0.index t (0 : Fin 2) = (t : ℕ) ∧ win0_0.index t (1 : Fin 2) = 0 := (by decide +kernel : ∀ t : Fin grid0.N, _)
theorem i1 : ∀ t : Fin cfg0.N, win0_1.index t (0 : Fin 2) = 0 ∧ win0_1.index t (1 : Fin 2) = 0 := (by decide +kernel : ∀ t : Fin grid0.N, _)
theorem i2 : ∀ t : Fin cfg0.N, win0_2.index t (0 : Fin 2) = (t : ℕ) ∧ win0_2.index t (1 : Fin 2) = 0 := (by decide +kernel : ∀ t : Fin grid0.N, _)

variable (m : (ℓ : Loc nD τ sig) → Buf (Elt Ideal) ℓ) (c : Dev nD)

/-- The rows. -/
abbrev xArg : FVec Ideal S16384x1024 .f32 := m ((c : Thread nD τ).loc main_arg0)
/-- The gain. -/
abbrev gArg : FVec Ideal S1024 .f32 := m ((c : Thread nD τ).loc main_arg1)
/-- The gain as the kernel reads it. -/
abbrev gArr : FVec Ideal S1x1024 .f32 := V m c main_v0

theorem g_at (d : Fin 1024) : @Eq EReal (gArr m c (ix2 0 d)) (gArg m c (ix1 d)) := by
  unfold_abbrev_sides
  after_reads_at

/-- Row `p` of the block of grid point `t`. -/
def row (t : Fin cfg0.N) (p : Fin 1024) : Fin 16384 := ⟨(t : ℕ) * 1024 + p, by have := t.isLt.trans_eq N_0; omega⟩

variable (t : Fin cfg0.N)

theorem blk0 (p : Fin 1024) (d : Fin 1024) : @Eq EReal (iblk m c 0 t (ix2 p d)) (xArg m c (ix2 (row t p) d)) := by
  obtain ⟨e0, e1⟩ := i0 t
  show V m c main_arg0 (((cfg0.win 0).blk t).view.emb (ix2 p d)) = _
  refine congrArg (xArg m c) (idx2_of _ _ _ ?_ ?_)
  · show win0_0.index t (0 : Fin 2) * 1024 + 1 * (p : ℕ) = _; simp only [row]; omega
  · show win0_0.index t (1 : Fin 2) * 1024 + 1 * (d : ℕ) = _; omega

theorem blk1 (d : Fin 1024) : @Eq EReal (iblk m c 1 t (ix2 0 d)) (gArg m c (ix1 d)) := by
  obtain ⟨e0, e1⟩ := i1 t
  rw [← g_at]
  show gArr m c (((cfg0.win 1).blk t).view.emb (ix2 0 d)) = _
  refine congrArg (gArr m c) (idx2_of _ _ _ ?_ ?_)
  · show win0_1.index t (0 : Fin 2) * 1 + 1 * 0 = _; omega
  · show win0_1.index t (1 : Fin 2) * 1024 + 1 * (d : ℕ) = _; omega

/-- The output array after the run. -/
theorem final2 : (dats m 0 c).arrAt 2 cfg0.N = outArr (xArg m c) (gArg m c) := by
  refine (dats m 0 c).arrAt_eq_of_covers 2 _ (by decide +kernel) fun t hf y => ?_
  blk_simp
  rw [after0_2, show out0_2 (iblk m c 0 t) (iblk m c 1 t) = k0_pay1 (iblk m c 0 t) (iblk m c 1 t) by frame_out]
  obtain ⟨p, d, rfl⟩ := idx2_eq (n0 := 1024) (n1 := 1024) y
  obtain ⟨e0, e1⟩ := i2 t
  refine Eq.trans ?_ (congrArg (outArr (xArg m c) (gArg m c)) (idx2_of _ (row t p) d ?_ ?_)).symm
  · refine (pay1_apply _ _ p d).trans ?_
    simp only [blk0, blk1]
    rfl
  · show win0_2.index t (0 : Fin 2) * 1024 + 1 * (p : ℕ) = _; simp only [row]; omega
  · show win0_2.index t (1 : Fin 2) * 1024 + 1 * (d : ℕ) = _; omega

end Cert.Kernel8Ideal.RowNorm

namespace Cert.Reference8Ideal.RowNorm

open Idealize.ShloMosaic Cert.Reference8Ideal Cert.Reference8Ideal.Read Cert.Kernel8Ideal.RowNorm

variable (x : FVec Ideal S16384x1024 .f32) (g : FVec Ideal S1024 .f32)

/-- The reference's result. -/
theorem out_ref (r : Fin 16384) (d : Fin 1024) : @Eq EReal (val_main_v13 (F := Ideal) x g (ix2 r d)) (outArr x g (ix2 r d)) := by
  show _ = Cert.Kernel2Ideal.Ffn.normRow x g r d
  unfold Cert.Kernel2Ideal.Ffn.normRow Cert.Kernel2Ideal.Ffn.norm val_main_v13 val_main_v12 val_main_v11 val_main_v10 val_main_v9 val_main_v8 val_main_v7 val_main_v6 val_main_v5
    val_main_v4 val_main_v3 val_main_v2 val_main_v1 val_main_v0 val_main_cst val_main_cst_0 val_main_cst_1
  pointwise

end Cert.Reference8Ideal.RowNorm

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.KernelValue
public import proofs.«01_k».proof.Proof.RefValue
public import proofs.«01_k».proof.Proof.Finite
public import proofs.«01_k».proof.Proof.Gen.Kernel2.Frame
public import proofs.«01_k».proof.Proof.Gen.Kernel2Ideal.Value
public import proofs.«01_k».proof.Proof.Gen.Reference2Ideal.Run
public import proofs.«01_k».proof.Proof.FfnRef
public import proofs.«01_k».proof.Proof.Gen.Kernel3.Frame
public import proofs.«01_k».proof.Proof.Gen.Kernel3Ideal.Frame
public import proofs.«01_k».proof.Proof.Gen.Reference3Ideal.Run
public import proofs.«01_k».proof.Proof.ExpertRef
public import proofs.«01_k».proof.Proof.Gen.Kernel4.Frame
public import proofs.«01_k».proof.Proof.Gen.Reference4Ideal.Run
public import proofs.«01_k».proof.Proof.Glu
public import proofs.«01_k».proof.Proof.Gen.Kernel5.Frame
public import proofs.«01_k».proof.Proof.Gen.Kernel5Ideal.Frame
public import proofs.«01_k».proof.Proof.Gen.Reference5Ideal.Run
public import proofs.«01_k».proof.Proof.FirstRef
public import proofs.«01_k».proof.Proof.Gen.Kernel6.Frame
public import proofs.«01_k».proof.Proof.Gen.Kernel6Ideal.Value
public import proofs.«01_k».proof.Proof.Gen.Kernel6Ideal.Frame
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Value
public import proofs.«01_k».proof.Proof.Gen.Kernel7Ideal.Frame
public import proofs.«01_k».proof.Proof.Gen.Reference7Ideal.Run
public import proofs.«01_k».proof.Proof.Gen.Reference7Ideal.Read
public import proofs.«01_k».proof.Proof.KernelValue1
public import proofs.«01_k».proof.Proof.RefValue1
public import proofs.«01_k».proof.Proof.KernelValue16
public import proofs.«01_k».proof.Proof.RefValue16
public import proofs.«01_k».proof.Proof.Gen.Kernel8.Frame
public import proofs.«01_k».proof.Proof.Gen.Kernel8Ideal.Value
public import proofs.«01_k».proof.Proof.Gen.Reference8Ideal.Run
public import proofs.«01_k».proof.Proof.RowNorm
public import Idealize.ShloMosaic.Lib.Quiescent
public import Idealize.ShloMosaic.Adequacy
public import Idealize.ShloMosaic.Init

@[expose] public section

noncomputable section

namespace Cert.Proof

open Idealize.ShloMosaic Idealize.SL.Sem

attribute [local instance] Cert.Pre_finite_qk.Hand.facts

/-- The reference keeps its arguments, and declares no semaphore. -/
theorem frame_ref : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- An index is its four coordinates. -/
theorem ix4_eta {a b c d : ℕ} (j : (⟨4, ![a, b, c, d]⟩ : Shape).Idx) : ix4 (j 0) (j 1) (j 2) (j 3) = j := by
  funext x; fin_cases x <;> rfl

/-- The kernel's arrays are the reference's. -/
theorem algebraic : Cert.algebraic_KernelIdeal_ReferenceIdeal_pre_finite_qk := by
  intro m g m' g' pre hagree
  have fin := fun c => Cert.Pre_finite_qk.Hand.finite _ _ _ (pre c)
  refine ⟨fun c => Cert.KernelIdeal.Units.outArr (Cert.KernelIdeal.HostSide.qArg m c) (Cert.KernelIdeal.HostSide.kArg m c) (Cert.KernelIdeal.HostSide.vArg m c),
    fun c => Cert.KernelIdeal.Units.lseArr (Cert.KernelIdeal.HostSide.qArg m c) (Cert.KernelIdeal.HostSide.kArg m c), ?_, ?_⟩
  · exact (θ_run Cert.KernelIdeal.defs _ _).mono
      (fun r h c => ⟨(h c).1.trans (Cert.KernelIdeal.Units.final9 m c (fin c).1 (fin c).2),
        (h c).2.1.trans (Cert.KernelIdeal.Units.final10 m c (fin c).1 (fin c).2), (h c).2.2⟩)
      (Cert.KernelIdeal.Value.run_blocks (F := Ideal) m g)
  · refine (θ_run Cert.ReferenceIdeal.defs _ _).mono
      (fun r h c => ⟨(h c).1.trans ?_, (h c).2.1.trans ?_, (h c).2.2⟩)
      (Cert.ReferenceIdeal.Value.run (F := Ideal) m' g')
    · rw [Cert.ReferenceIdeal.Read.val_main_v94_eq, (hagree c).1, (hagree c).2.1, (hagree c).2.2]
      funext j
      rw [← ix4_eta j]
      exact Cert.ReferenceIdeal.Rows.out_ref _ _ _ (fin c).1 (fin c).2 (j 0) (j 1) (j 2) (j 3)
    · rw [Cert.ReferenceIdeal.Read.val_main_v95_eq, (hagree c).1, (hagree c).2.1]
      funext j
      rw [← ix4_eta j]
      exact Cert.ReferenceIdeal.Rows.lse_ref _ _ (fin c).1 (fin c).2 (j 0) (j 1) (j 2) (j 3)

/-- The feed-forward reference keeps its arguments, and declares no semaphore. -/
theorem frame_ref2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The feed-forward kernel's array is the reference's. -/
theorem algebraic2 : Cert.algebraic_Kernel2Ideal_Reference2Ideal := by
  intro m g m' g' _ hagree
  refine ⟨fun c => Cert.Kernel2Ideal.Ffn.outArr (Cert.Kernel2Ideal.Ffn.xArg m c) (Cert.Kernel2Ideal.Ffn.gArg m c)
    (Cert.Kernel2Ideal.Ffn.guArg m c) (Cert.Kernel2Ideal.Ffn.dnArg m c), ?_, ?_⟩
  · exact (θ_run Cert.Kernel2Ideal.defs _ _).mono (fun r h c => ⟨(h c).1.trans (Cert.Kernel2Ideal.Ffn.final5 m c), (h c).2⟩)
      (Cert.Kernel2Ideal.Value.run_blocks (F := Ideal) m g)
  · refine (θ_run Cert.Reference2Ideal.defs _ _).mono (fun r h c => ⟨(h c).1.trans ?_, (h c).2⟩)
      (Cert.Reference2Ideal.Value.run (F := Ideal) m' g')
    rw [Cert.Reference2Ideal.Read.val_main_v19_eq, (hagree c).1, (hagree c).2.1, (hagree c).2.2.1, (hagree c).2.2.2]
    funext j
    obtain ⟨a, b, rfl⟩ := Cert.Kernel2Ideal.Ffn.idx2_eq (n0 := 16384) (n1 := 1024) j
    exact Cert.Reference2Ideal.Ffn.out_ref _ _ _ _ a b

/-- The expert reference keeps its arguments, and declares no semaphore. -/
theorem frame_ref3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- The expert kernel's array is the reference's. -/
theorem algebraic3 : Cert.algebraic_Kernel3Ideal_Reference3Ideal := by
  intro m g m' g' pre hagree
  have hE : ∀ c j, (Cert.Kernel3Ideal.Expert.eArg m c j).toNat < 8 := fun c => Cert.Expert.range _ _ _ _ _ (pre c)
  have hO := Cert.Kernel3Ideal.Expert.ok m (hE 0)
  refine ⟨fun c => Cert.Kernel3Ideal.Expert.outArr (Cert.Kernel3Ideal.Expert.xArg m c) (Cert.Kernel3Ideal.Expert.eArg m 0)
    (Cert.Kernel3Ideal.Expert.guArg m c) (Cert.Kernel3Ideal.Expert.dnArg m c) (Cert.Kernel3Ideal.Expert.oldArg m c), ?_, ?_⟩
  · refine (θ_run Cert.Kernel3Ideal.defs _ _).mono (fun r h c => ⟨?_, h.2 c⟩)
      (θ_run_and (Cert.Kernel3Ideal.Gen.run_main (F := Ideal) m g hO) (Cert.Kernel3Ideal.Gen.unchanged (F := Ideal) m g hO))
    exact ((h.1 c).1 4).trans (Cert.Kernel3Ideal.Expert.final4 m hO c (hE 0))
  · refine (θ_run Cert.Reference3Ideal.defs _ _).mono (fun r h c => ⟨(h c).1.trans ?_, (h c).2⟩)
      (Cert.Reference3Ideal.Value.run (F := Ideal) m' g')
    rw [Cert.Reference3Ideal.Read.val_main_v24_eq, (hagree c).1, (hagree c).2.1, (hagree c).2.2.1, (hagree c).2.2.2.1, (hagree c).2.2.2.2]
    funext j
    obtain ⟨a, b, rfl⟩ := Cert.Kernel2Ideal.Ffn.idx2_eq (n0 := 172032) (n1 := 1024) j
    obtain rfl : c = 0 := Subsingleton.elim _ _
    exact Cert.Reference3Ideal.Expert.out_ref _ _ _ _ _ (hE 0) a b

/-- The gate's reference keeps its arguments, and declares no semaphore. -/
theorem frame_ref4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- The gate kernel's array is the reference's. -/
theorem algebraic4 : Cert.algebraic_Kernel4Ideal_Reference4Ideal := by
  intro m g m' g' _ hagree
  refine ⟨fun c => Cert.Kernel4Ideal.Glu.outArr (Cert.Kernel4Ideal.Glu.hArg m c) (Cert.Kernel4Ideal.Glu.xArg m c) (Cert.Kernel4Ideal.Glu.wArg m c), ?_, ?_⟩
  · exact (θ_run Cert.Kernel4Ideal.defs _ _).mono (fun r h c => ⟨(h c).1.trans (Cert.Kernel4Ideal.Glu.final3 m c), (h c).2⟩)
      (Cert.Kernel4Ideal.Value.run_blocks (F := Ideal) m g)
  · refine (θ_run Cert.Reference4Ideal.defs _ _).mono (fun r h c => ⟨(h c).1.trans ?_, (h c).2⟩)
      (Cert.Reference4Ideal.Value.run (F := Ideal) m' g')
    rw [Cert.Reference4Ideal.Read.val_main_v10_eq, (hagree c).1, (hagree c).2.1, (hagree c).2.2]
    funext j
    obtain ⟨a, b, rfl⟩ := Cert.Kernel2Ideal.Ffn.idx2_eq (n0 := 16384) (n1 := 1024) j
    exact Cert.Reference4Ideal.Glu.out_ref _ _ _ a b

/-- The reference of the experts' first blocks keeps its arguments, and declares no semaphore. -/
theorem frame_ref5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The rows of the expert kernel on the first blocks are the reference's. -/
theorem algebraic5 : Cert.algebraic_Kernel5Ideal_Reference5Ideal := by
  intro m g m' g' pre hagree
  have hE : ∀ c j, (Cert.Kernel5Ideal.Expert.eArg m c j).toNat < 8 := fun c => Cert.Expert.range_first _ _ _ _ (pre c)
  have hO := Cert.Kernel5Ideal.Expert.ok m (hE 0)
  refine ⟨fun c => Cert.Kernel5Ideal.Expert.outRows (Cert.Kernel5Ideal.Expert.xArg m c) (Cert.Kernel5Ideal.Expert.eArg m 0)
    (Cert.Kernel5Ideal.Expert.guArg m c) (Cert.Kernel5Ideal.Expert.dnArg m c), ?_, ?_⟩
  · refine (θ_run Cert.Kernel5Ideal.defs _ _).mono (fun r h c => ⟨?_, h.2 c⟩)
      (θ_run_and (Cert.Kernel5Ideal.Gen.run_main (F := Ideal) m g hO) (Cert.Kernel5Ideal.Gen.unchanged (F := Ideal) m g hO))
    exact ((h.1 c).2 Cert.Kernel5Ideal.main_v4 Cert.Kernel5Ideal.Expert.rest4).trans
      (Cert.Kernel5Ideal.Expert.final_rows m hO c (hE 0))
  · refine (θ_run Cert.Reference5Ideal.defs _ _).mono (fun r h c => ⟨(h c).1.trans ?_, (h c).2⟩)
      (Cert.Reference5Ideal.Value.run (F := Ideal) m' g')
    rw [Cert.Reference5Ideal.Read.val_main_v22_eq, (hagree c).1, (hagree c).2.1, (hagree c).2.2.1, (hagree c).2.2.2]
    funext j
    obtain ⟨a, b, rfl⟩ := Cert.Kernel2Ideal.Ffn.idx2_eq (n0 := 43008) (n1 := 1024) j
    obtain rfl : c = 0 := Subsingleton.elim _ _
    exact Cert.Reference5Ideal.Expert.out_ref _ _ _ _ (hE 0) a b

/-- The attention's reference at dilation 1 keeps its arguments, and declares no semaphore. -/
theorem frame_ref6 : Cert.quiescent_Reference6Ideal := fun m ρ _ =>
  (θ_run Cert.Reference6Ideal.defs _ _).mono (fun r h => ⟨fun c => (h c).2.2, sem_eq_zero_of_no_sems (by decide) r.2⟩)
    (Cert.Reference6Ideal.Value.run (F := Ideal) m ρ)

/-- The attention's arrays at dilation 1 are the reference's. -/
theorem algebraic6 : Cert.algebraic_Kernel6Ideal_Reference6Ideal_pre_finite_qk := by
  intro m g m' g' pre hagree
  have fin := fun c => Cert.Pre_finite_qk.Hand.finite _ _ _ (pre c)
  refine ⟨fun c => Cert.Kernel6Ideal.Units.outArr (Cert.Kernel6Ideal.HostSide.qArg m c) (Cert.Kernel6Ideal.HostSide.kArg m c) (Cert.Kernel6Ideal.HostSide.vArg m c),
    fun c => Cert.Kernel6Ideal.Units.lseArr (Cert.Kernel6Ideal.HostSide.qArg m c) (Cert.Kernel6Ideal.HostSide.kArg m c), ?_, ?_⟩
  · exact (θ_run Cert.Kernel6Ideal.defs _ _).mono
      (fun r h c => ⟨(h c).1.trans (Cert.Kernel6Ideal.Units.final9 m c (fin c).1 (fin c).2),
        (h c).2.1.trans (Cert.Kernel6Ideal.Units.final10 m c (fin c).1 (fin c).2), (h c).2.2⟩)
      (Cert.Kernel6Ideal.Value.run_blocks (F := Ideal) m g)
  · refine (θ_run Cert.Reference6Ideal.defs _ _).mono
      (fun r h c => ⟨(h c).1.trans ?_, (h c).2.1.trans ?_, (h c).2.2⟩)
      (Cert.Reference6Ideal.Value.run (F := Ideal) m' g')
    · rw [Cert.Reference6Ideal.Read.val_main_v92_eq, (hagree c).1, (hagree c).2.1, (hagree c).2.2]
      funext j
      rw [← ix4_eta j]
      exact Cert.Reference6Ideal.Rows.out_ref _ _ _ (fin c).1 (fin c).2 (j 0) (j 1) (j 2) (j 3)
    · rw [Cert.Reference6Ideal.Read.val_main_v93_eq, (hagree c).1, (hagree c).2.1]
      funext j
      rw [← ix4_eta j]
      exact Cert.Reference6Ideal.Rows.lse_ref _ _ (fin c).1 (fin c).2 (j 0) (j 1) (j 2) (j 3)

/-- The attention's reference at dilation 16 keeps its arguments, and declares no semaphore. -/
theorem frame_ref7 : Cert.quiescent_Reference7Ideal := fun m ρ _ =>
  (θ_run Cert.Reference7Ideal.defs _ _).mono (fun r h => ⟨fun c => (h c).2.2, sem_eq_zero_of_no_sems (by decide) r.2⟩)
    (Cert.Reference7Ideal.Value.run (F := Ideal) m ρ)

/-- The attention's arrays at dilation 16 are the reference's. -/
theorem algebraic7 : Cert.algebraic_Kernel7Ideal_Reference7Ideal_pre_finite_qk := by
  intro m g m' g' pre hagree
  have fin := fun c => Cert.Pre_finite_qk.Hand.finite _ _ _ (pre c)
  refine ⟨fun c => Cert.Kernel7Ideal.Units.outArr (Cert.Kernel7Ideal.HostSide.qArg m c) (Cert.Kernel7Ideal.HostSide.kArg m c) (Cert.Kernel7Ideal.HostSide.vArg m c),
    fun c => Cert.Kernel7Ideal.Units.lseArr (Cert.Kernel7Ideal.HostSide.qArg m c) (Cert.Kernel7Ideal.HostSide.kArg m c), ?_, ?_⟩
  · exact (θ_run Cert.Kernel7Ideal.defs _ _).mono
      (fun r h c => ⟨(h c).1.trans (Cert.Kernel7Ideal.Units.final9 m c (fin c).1 (fin c).2),
        (h c).2.1.trans (Cert.Kernel7Ideal.Units.final10 m c (fin c).1 (fin c).2), (h c).2.2⟩)
      (Cert.Kernel7Ideal.Value.run_blocks (F := Ideal) m g)
  · refine (θ_run Cert.Reference7Ideal.defs _ _).mono
      (fun r h c => ⟨(h c).1.trans ?_, (h c).2.1.trans ?_, (h c).2.2⟩)
      (Cert.Reference7Ideal.Value.run (F := Ideal) m' g')
    · rw [Cert.Reference7Ideal.Read.val_main_v94_eq, (hagree c).1, (hagree c).2.1, (hagree c).2.2]
      funext j
      rw [← ix4_eta j]
      exact Cert.Reference7Ideal.Rows.out_ref _ _ _ (fin c).1 (fin c).2 (j 0) (j 1) (j 2) (j 3)
    · rw [Cert.Reference7Ideal.Read.val_main_v95_eq, (hagree c).1, (hagree c).2.1]
      funext j
      rw [← ix4_eta j]
      exact Cert.Reference7Ideal.Rows.lse_ref _ _ (fin c).1 (fin c).2 (j 0) (j 1) (j 2) (j 3)

/-- The reference of the normalised rows keeps its arguments, and declares no semaphore. -/
theorem frame_ref8 : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)

/-- The kernel's normalised rows are the reference's. -/
theorem algebraic8 : Cert.algebraic_Kernel8Ideal_Reference8Ideal := by
  intro m g m' g' _ hagree
  refine ⟨fun c => Cert.Kernel8Ideal.RowNorm.outArr (Cert.Kernel8Ideal.RowNorm.xArg m c) (Cert.Kernel8Ideal.RowNorm.gArg m c), ?_, ?_⟩
  · exact (θ_run Cert.Kernel8Ideal.defs _ _).mono (fun r h c => ⟨(h c).1.trans (Cert.Kernel8Ideal.RowNorm.final2 m c), (h c).2⟩)
      (Cert.Kernel8Ideal.Value.run_blocks (F := Ideal) m g)
  · refine (θ_run Cert.Reference8Ideal.defs _ _).mono (fun r h c => ⟨(h c).1.trans ?_, (h c).2⟩)
      (Cert.Reference8Ideal.Value.run (F := Ideal) m' g')
    rw [Cert.Reference8Ideal.Read.val_main_v13_eq, (hagree c).1, (hagree c).2]
    funext j
    obtain ⟨a, b, rfl⟩ := Cert.Kernel2Ideal.Ffn.idx2_eq (n0 := 16384) (n1 := 1024) j
    exact Cert.Reference8Ideal.RowNorm.out_ref _ _ a b

/-- The claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts, Cert.Kernel7.Gen.facts, Cert.Kernel7Ideal.Gen.facts,
    Cert.Reference7Ideal.Gen.facts, Cert.Kernel8.Gen.facts, Cert.Kernel8Ideal.Gen.facts, Cert.Reference8Ideal.Gen.facts,
    Cert.Pre_finite_qk.Hand.facts, Cert.Pre_expert_in_range.Gen.facts, Cert.Pre_first_in_range.Gen.facts,
    fun m ρ _ => Cert.Kernel.Gen.frame m ρ, fun m ρ _ => Cert.KernelIdeal.Gen.frame m ρ, fun m ρ _ => Cert.KernelIdeal.Gen.frame m ρ,
    frame_ref, fun m ρ _ => frame_ref m ρ trivial,
    fun m ρ _ => Cert.Kernel2.Gen.frame m ρ, fun m ρ _ => Cert.Kernel2Ideal.Gen.frame m ρ, frame_ref2,
    fun m ρ h => Cert.Kernel3.Gen.frame m ρ (Cert.Kernel3.Expert.ok m (Cert.Expert.range _ _ _ _ _ (h 0))),
    fun m ρ h => Cert.Kernel3Ideal.Gen.frame m ρ (Cert.Kernel3Ideal.Expert.ok m (Cert.Expert.range _ _ _ _ _ (h 0))),
    frame_ref3, fun m ρ _ => frame_ref3 m ρ trivial,
    fun m ρ _ => Cert.Kernel4.Gen.frame m ρ, fun m ρ _ => Cert.Kernel4Ideal.Gen.frame m ρ, frame_ref4,
    fun m ρ h => Cert.Kernel5.Gen.frame m ρ (Cert.Kernel5.Expert.ok m (Cert.Expert.range_first _ _ _ _ (h 0))),
    fun m ρ h => Cert.Kernel5Ideal.Gen.frame m ρ (Cert.Kernel5Ideal.Expert.ok m (Cert.Expert.range_first _ _ _ _ (h 0))),
    frame_ref5, fun m ρ _ => frame_ref5 m ρ trivial,
    fun m ρ _ => Cert.Kernel6.Gen.frame m ρ, fun m ρ _ => Cert.Kernel6Ideal.Gen.frame m ρ, fun m ρ _ => Cert.Kernel6Ideal.Gen.frame m ρ,
    frame_ref6, fun m ρ _ => frame_ref6 m ρ trivial,
    fun m ρ _ => Cert.Kernel7.Gen.frame m ρ, fun m ρ _ => Cert.Kernel7Ideal.Gen.frame m ρ, fun m ρ _ => Cert.Kernel7Ideal.Gen.frame m ρ,
    frame_ref7, fun m ρ _ => frame_ref7 m ρ trivial,
    fun m ρ _ => Cert.Kernel8.Gen.frame m ρ, fun m ρ _ => Cert.Kernel8Ideal.Gen.frame m ρ, frame_ref8,
    IdealRules.named_const.statement Cert.KernelIdeal.κ "ln2" .f32 0x3F317218#32 ((Real.log 2 : ℝ) : EReal) rfl,
    algebraic, trivial, algebraic2, trivial, algebraic3, trivial, algebraic4, trivial, algebraic5,
    IdealRules.named_const.statement Cert.Kernel6Ideal.κ "ln2" .f32 0x3F317218#32 ((Real.log 2 : ℝ) : EReal) rfl, algebraic6,
    IdealRules.named_const.statement Cert.Kernel7Ideal.κ "ln2" .f32 0x3F317218#32 ((Real.log 2 : ℝ) : EReal) rfl, algebraic7, trivial, algebraic8⟩

end Cert.Proof

end
